-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "log_zero" .f32 0xC2D16666#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v213) = v0 c
          ∧ r.2.mem ((c.tc : Thread Cert.Reference3Ideal.nD Cert.Reference3Ideal.τ).loc Cert.Reference3Ideal.main_v214) = v1 c
          ∧ r.2.mem ((c.tc : Thread Cert.Reference3Ideal.nD Cert.Reference3Ideal.τ).loc Cert.Reference3Ideal.main_v215) = v2 c
          ∧ r.2.mem ((c.tc : Thread Cert.Reference3Ideal.nD Cert.Reference3Ideal.τ).loc Cert.Reference3Ideal.main_v216) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x512 : Shape := ⟨3, ![2, 8192, 512]⟩
abbrev S8x64 : Shape := ⟨2, ![8, 64]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel

variable [Facts]

def fn {F : FTy → Type} [FloatOps F] (main_arg0 : FVec F S2x8192x512 .bf16) (main_arg1 : FVec F S2x8192x512 .bf16) (main_arg2 : FVec F S2x8192x512 .bf16) (main_arg3 : FVec F S8x64 .f32) : IVec S_ 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x8192x512 .f32 := (extf .f32 · bitsLt_bf16_f32) main_arg1
  let main_v6 : FVec F S2x8192x512 .f32 := Host.absf main_v5
  let main_cst_0 : FVec F S_ .f32 := constant S_ .f32 0x7F800000#32
  let main_v7 : FVec F S2x8192x512 .f32 := broadcastInDim S2x8192x512 ![] bcast_S_S2x8192x512 main_cst_0
  let main_v8 : IVec S2x8192x512 1 := cmpf .olt main_v6 main_v7
  let main_c_1 : IVec S_ 1 := constantI S_ 1 1#1
  let main_v9 : IVec S_ 1 := (fun x v => Host.reduce IntOp.andi x v reducesTo_S2x8192x512_S_d0_1_2 h_S_) main_v8 main_c_1
  let main_v10 : IVec S_ 1 := andi main_v4 main_v9
  main_v10
-- ==== Kernel.lean ====
abbrev S2x8192x512 : Shape := ⟨3, ![2, 8192, 512]⟩
abbrev S8x64 : Shape := ⟨2, ![8, 64]⟩
abbrev S1x512 : Shape := ⟨2, ![1, 512]⟩
abbrev S256x256 : Shape := ⟨2, ![256, 256]⟩
abbrev S1x128x512 : Shape := ⟨3, ![1, 128, 512]⟩
abbrev S1x8192x512 : Shape := ⟨3, ![1, 8192, 512]⟩
abbrev S4x256x1 : Shape := ⟨3, ![4, 256, 1]⟩
abbrev S4x256x128 : Shape := ⟨3, ![4, 256, 128]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S512x128 : Shape := ⟨2, ![512, 128]⟩
abbrev S256 : Shape := ⟨1, ![256]⟩
abbrev S256x1 : Shape := ⟨2, ![256, 1]⟩
abbrev S512x256 : Shape := ⟨2, ![512, 256]⟩
abbrev S1x256x1 : Shape := ⟨3, ![1, 256, 1]⟩
abbrev S1x4x256x1 : Shape := ⟨4, ![1, 4, 256, 1]⟩
abbrev S1 : Shape := ⟨1, ![1]⟩
abbrev S1x1x1x1 : Shape := ⟨4, ![1, 1, 1, 1]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S8x64, .f32⟩
  | .hbm, ⟨4, _⟩ => ⟨S1x512, .f32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S2x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x512, .f32⟩
  | .local _ .vmem, ⟨5, _⟩ => ⟨S256x256, .bf16⟩
  | .local _ .vmem, ⟨6, _⟩ => ⟨S1x128x512, .bf16⟩
  | .local _ .vmem, ⟨7, _⟩ => ⟨S1x128x512, .bf16⟩
  | .local _ .vmem, ⟨8, _⟩ => ⟨S4x256x1, .f32⟩
  | .local _ .vmem, ⟨9, _⟩ => ⟨S4x256x128, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 1, 64], ![false, false, false]⟩

def k0_mult1 (i : grid0.Coords) : BitVec 32 :=
  let arg2 : BitVec 32 := BitVec.ofNat 32 (i 2).val
  let c128_i32 : BitVec 32 := 128#32
  let v3 : BitVec 32 := Scalar.muli arg2 c128_i32
  v3
def k0_mult2 (i : grid0.Coords) : BitVec 32 :=
  let arg2 : BitVec 32 := BitVec.ofNat 32 (i 2).val
  let c128_i32 : BitVec 32 := 128#32
  let v3 : BitVec 32 := Scalar.muli arg2 c128_i32
  let v4 : BitVec 32 := v3
  let c256_i32 : BitVec 32 := 256#32
  let v5 : BitVec 32 := Scalar.subi v4 c256_i32
  v5
def k0_cond1 (i : grid0.Coords) : BitVec 1 :=
  let arg2 : BitVec 32 := BitVec.ofNat 32 (i 2).val
  let c2_i32 : BitVec 32 := 2#32
  let v7 : BitVec 1 := Scalar.cmpi .sge arg2 c2_i32
  let v8 : BitVec 32 := Scalar.extui v7
  let c0_i32 : BitVec 32 := 0#32
  let v9 : BitVec 1 := Scalar.cmpi .ne v8 c0_i32
  v9

def k0_off1 (i : grid0.Coords) : Fin 3 → Nat :=
  let c0_86 : Index := 0#32
  let arg2 : BitVec 32 := BitVec.ofNat 32 (i 2).val
  let c128_i32 : BitVec 32 := 128#32
  let v3 : BitVec 32 := Scalar.muli arg2 c128_i32
  let v4 : BitVec 32 := v3
  let v229 : Index := Scalar.indexCast v4
  let c0_87 : Index := 0#32
  ![0, v229.toNat, 0]
def k0_off2 (i : grid0.Coords) : Fin 3 → Nat :=
  let c0_89 : Index := 0#32
  let arg2 : BitVec 32 := BitVec.ofNat 32 (i 2).val
  let c128_i32 : BitVec 32 := 128#32
  let v3 : BitVec 32 := Scalar.muli arg2 c128_i32
  let v4 : BitVec 32 := v3
  let c256_i32 : BitVec 32 := 256#32
  let v5 : BitVec 32 := Scalar.subi v4 c256_i32
  let v6 : BitVec 32 := v5
  let v233 : Index := Scalar.indexCast v6
  let c0_90 : Index := 0#32
  ![0, v233.toNat, 0]
def k0_off3 (i : grid0.Coords) : Fin 3 → Nat :=
  let c0_92 : Index := 0#32
  let arg2 : BitVec 32 := BitVec.ofNat 32 (i 2).val
  let c128_i32 : BitVec 32 := 128#32
  let v3 : BitVec 32 := Scalar.muli arg2 c128_i32
  let v4 : BitVec 32 := v3
  let v237 : Index := Scalar.indexCast v4
  let c128_93 : Index := 128#32
  ![0, v237.toNat, 128]
def k0_off4 (i : grid0.Coords) : Fin 3 → Nat :=
  let c0_95 : Index := 0#32
  let arg2 : BitVec 32 := BitVec.ofNat 32 (i 2).val
  let c128_i32 : BitVec 32 := 128#32
  let v3 : BitVec 32 := Scalar.muli arg2 c128_i32
  let v4 : BitVec 32 := v3
  let c256_i32 : BitVec 32 := 256#32
  let v5 : BitVec 32 := Scalar.subi v4 c256_i32
  let v6 : BitVec 32 := v5
  let v241 : Index := Scalar.indexCast v6
  let c128_96 : Index := 128#32
  ![0, v241.toNat, 128]
def k0_off5 (i : grid0.Coords) : Fin 3 → Nat :=
  let c0_98 : Index := 0#32
  let arg2 : BitVec 32 := BitVec.ofNat 32 (i 2).val
  let c128_i32 : BitVec 32 := 128#32
  let v3 : BitVec 32 := Scalar.muli arg2 c128_i32
  let v4 : BitVec 32 := v3
  let v245 : Index := Scalar.indexCast v4
  let c256_99 : Index := 256#32
  ![0, v245.toNat, 256]
def k0_off6 (i : grid0.Coords) : Fin 3 → Nat :=
  let c0_101 : Index := 0#32
  let arg2 : BitVec 32 := BitVec.ofNat 32 (i 2).val
  let c128_i32 : BitVec 32 := 128#32
  let v3 : BitVec 32 := Scalar.muli arg2 c128_i32
  let v4 : BitVec 32 := v3
  let c256_i32 : BitVec 32 := 256#32
  let v5 : BitVec 32 := Scalar.subi v4 c256_i32
  let v6 : BitVec 32 := v5
  let v249 : Index := Scalar.indexCast v6
  let c256_102 : Index := 256#32
  ![0, v249.toNat, 256]
def k0_off7 (i : grid0.Coords) : Fin 3 → Nat :=
  let c0_104 : Index := 0#32
  let arg2 : BitVec 32 := BitVec.ofNat 32 (i 2).val
  let c128_i32 : BitVec 32 := 128#32
  let v3 : BitVec 32 := Scalar.muli arg2 c128_i32
  let v4 : BitVec 32 := v3
  let v253 : Index := Scalar.indexCast v4
  let c384_105 : Index := 384#32
  ![0, v253.toNat, 384]
def k0_off8 (i : grid0.Coords) : Fin 3 → Nat :=
  let c0_107 : Index := 0#32
  let arg2 : BitVec 32 := BitVec.ofNat 32 (i 2).val
  let c128_i32 : BitVec 32 := 128#32
  let v3 : BitVec 32 := Scalar.muli arg2 c128_i32
  let v4 : BitVec 32 := v3
  let c256_i32 : BitVec 32 := 256#32
  let v5 : BitVec 32 := Scalar.subi v4 c256_i32
  let v6 : BitVec 32 := v5
  let v257 : Index := Scalar.indexCast v6
  let c384_108 : Index := 384#32
  ![0, v257.toNat, 384]
def k0_cond2 (i : grid0.Coords) : BitVec 1 :=
  let arg2 : BitVec 32 := BitVec.ofNat 32 (i 2).val
  let c2_i32_0 : BitVec 32 := 2#32
  let v10 : BitVec 1 := Scalar.cmpi .slt arg2 c2_i32_0
  let v11 : BitVec 32 := Scalar.extui v10
  let c0_i32_1 : BitVec 32 := 0#32
  let v12 : BitVec 1 := Scalar.cmpi .ne v11 c0_i32_1
  v12

def k0_off9 (i : grid0.Coords) : Fin 3 → Nat :=
  let c0_86 : Index := 0#32
  let arg2 : BitVec 32 := BitVec.ofNat 32 (i 2).val
  let c128_i32 : BitVec 32 := 128#32
  let v3 : BitVec 32 := Scalar.muli arg2 c128_i32
  let v4 : BitVec 32 := v3
  let v229 : Index := Scalar.indexCast v4
  let c0_87 : Index := 0#32
  ![0, v229.toNat, 0]
def k0_off10 (i : grid0.Coords) : Fin 3 → Nat :=
  let c0_89 : Index := 0#32
  let arg2 : BitVec 32 := BitVec.ofNat 32 (i 2).val
  let c128_i32 : BitVec 32 := 128#32
  let v3 : BitVec 32 := Scalar.muli arg2 c128_i32
  let v4 : BitVec 32 := v3
  let v233 : Index := Scalar.indexCast v4
  let c128_90 : Index := 128#32
  ![0, v233.toNat, 128]
def k0_off11 (i : grid0.Coords) : Fin 3 → Nat :=
  let c0_92 : Index := 0#32
  let arg2 : BitVec 32 := BitVec.ofNat 32 (i 2).val
  let c128_i32 : BitVec 32 := 128#32
  let v3 : BitVec 32 := Scalar.muli arg2 c128_i32
  let v4 : BitVec 32 := v3
  let v237 : Index := Scalar.indexCast v4
  let c256_93 : Index := 256#32
  ![0, v237.toNat, 256]
def k0_off12 (i : grid0.Coords) : Fin 3 → Nat :=
  let c0_95 : Index := 0#32
  let arg2 : BitVec 32 := BitVec.ofNat 32 (i 2).val
  let c128_i32 : BitVec 32 := 128#32
  let v3 : BitVec 32 := Scalar.muli arg2 c128_i32
  let v4 : BitVec 32 := v3
  let v241 : Index := Scalar.indexCast v4
  let c384_96 : Index := 384#32
  ![0, v241.toNat, 384]
def k0_mult3 (arg11 : BitVec 32) : BitVec 32 :=
  let c128_i32_70 : BitVec 32 := 128#32
  let v189 : BitVec 32 := Scalar.muli arg11 c128_i32_70
  v189

def k0_off13 (arg11 : BitVec 32) : Fin 3 → Nat :=
  let c0_111 : Index := 0#32
  let c128_i32_70 : BitVec 32 := 128#32
  let v189 : BitVec 32 := Scalar.muli arg11 c128_i32_70
  let v190 : BitVec 32 := v189
  let v247 : Index := Scalar.indexCast v190
  let c0_112 : Index := 0#32
  ![0, v247.toNat, 0]
def k0_off14 (arg11 : BitVec 32) : Fin 3 → Nat :=
  let c0_114 : Index := 0#32
  let c128_i32_70 : BitVec 32 := 128#32
  let v189 : BitVec 32 := Scalar.muli arg11 c128_i32_70
  let v190 : BitVec 32 := v189
  let v251 : Index := Scalar.indexCast v190
  let c128_115 : Index := 128#32
  ![0, v251.toNat, 128]
def k0_off15 (arg11 : BitVec 32) : Fin 3 → Nat :=
  let c0_117 : Index := 0#32
  let c128_i32_70 : BitVec 32 := 128#32
  let v189 : BitVec 32 := Scalar.muli arg11 c128_i32_70
  let v190 : BitVec 32 := v189
  let v255 : Index := Scalar.indexCast v190
  let c256_118 : Index := 256#32
  ![0, v255.toNat, 256]
def k0_off16 (arg11 : BitVec 32) : Fin 3 → Nat :=
  let c0_120 : Index := 0#32
  let c128_i32_70 : BitVec 32 := 128#32
  let v189 : BitVec 32 := Scalar.muli arg11 c128_i32_70
  let v190 : BitVec 32 := v189
  let v259 : Index := Scalar.indexCast v190
  let c384_121 : Index := 384#32
  ![0, v259.toNat, 384]

def k0_chk1 (arg11 : BitVec 32) : Prop :=
  (128 ∣ (k0_mult3 arg11).toNat) ∧
  (∀ a, (k0_off13 arg11) a + S1x128x128.size a ≤ S1x8192x512.size a) ∧
  (∀ a, (k0_off14 arg11) a + S1x128x128.size a ≤ S1x8192x512.size a) ∧
  (∀ a, (k0_off15 arg11) a + S1x128x128.size a ≤ S1x8192x512.size a) ∧
  (∀ a, (k0_off16 arg11) a + S1x128x128.size a ≤ S1x8192x512.size a)
theorem k0_mult3_dvd : ∀ (arg11 : BitVec 32) (k0_hw1 : k0_chk1 arg11), 128 ∣ (k0_mult3 arg11).toNat := fun arg11 k0_hw1 => k0_hw1.1
theorem k0_off13_inb : ∀ (arg11 : BitVec 32) (k0_hw1 : k0_chk1 arg11), ∀ a, (k0_off13 arg11) a + S1x128x128.size a ≤ S1x8192x512.size a := fun arg11 k0_hw1 => k0_hw1.2.1
theorem k0_off14_inb : ∀ (arg11 : BitVec 32) (k0_hw1 : k0_chk1 arg11), ∀ a, (k0_off14 arg11) a + S1x128x128.size a ≤ S1x8192x512.size a := fun arg11 k0_hw1 => k0_hw1.2.2.1
theorem k0_off15_inb : ∀ (arg11 : BitVec 32) (k0_hw1 : k0_chk1 arg11), ∀ a, (k0_off15 arg11) a + S1x128x128.size a ≤ S1x8192x512.size a := fun arg11 k0_hw1 => k0_hw1.2.2.2.1
theorem k0_off16_inb : ∀ (arg11 : BitVec 32) (k0_hw1 : k0_chk1 arg11), ∀ a, (k0_off16 arg11) a + S1x128x128.size a ≤ S1x8192x512.size a := fun arg11 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log_zero" => some ⊥
  | _ => none
-- ==== ReferenceIdeal.lean ====
abbrev S2x8192x512 : Shape := ⟨3, ![2, 8192, 512]⟩
abbrev S8x64 : Shape := ⟨2, ![8, 64]⟩
abbrev S2x8192x8x64 : Shape := ⟨4, ![2, 8192, 8, 64]⟩
abbrev S2x8x8192x64 : Shape := ⟨4, ![2, 8, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192x8192 : Shape := ⟨4, ![2, 8, 8192, 8192]⟩
abbrev S_ : Shape := ⟨0, ![]⟩
abbrev S2x8192x8 : Shape := ⟨3, ![2, 8192, 8]⟩
abbrev S2x8192x8x1 : Shape := ⟨4, ![2, 8192, 8, 1]⟩
abbrev S1x1x8x64 : Shape := ⟨4, ![1, 1, 8, 64]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S8x64, .f32⟩
  | .hbm, ⟨4, _⟩ => ⟨S2x8192x512, .f32⟩
  | .hbm, ⟨5, _⟩ => ⟨S2x8192x8x64, .f32⟩
  | .hbm, ⟨6, _⟩ => ⟨S2x8x8192x64, .f32⟩
  | .hbm, ⟨7, _⟩ => ⟨S2x8192x512, .f32⟩
  | .hbm, ⟨8, _⟩ => ⟨S2x8192x8x64, .f32⟩
  | .hbm, ⟨9, _⟩ => ⟨S2x8x8192x64, .f32⟩
  | .hbm, ⟨10, _⟩ => ⟨S2x8192x512, .f32⟩
  | .hbm, ⟨11, _⟩ => ⟨S2x8192x8x64, .f32⟩
  | .hbm, ⟨12, _⟩ => ⟨S2x8x8192x64, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S2x8x8192x8192, .f32⟩
  | .hbm, ⟨20, _⟩ => ⟨S2x8x8192x8192, .f32⟩
  | .hbm, ⟨21, _⟩ => ⟨S_, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .i1⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .f32⟩
  | .hbm, ⟨38, _⟩ => ⟨S_, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .i1⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .f32⟩
  | .hbm, ⟨53, _⟩ => ⟨S_, .f32⟩
  | .hbm, ⟨54, _⟩ => ⟨S_, .f32⟩
  | .hbm, ⟨55, _⟩ => ⟨S2x8x8192x8192, .i1⟩
  | .hbm, ⟨56, _⟩ => ⟨S2x8x8192x8192, .f32⟩
  | .hbm, ⟨57, _⟩ => ⟨S2x8x8192x8192, .f32⟩
  | .hbm, ⟨58, _⟩ => ⟨S_, .f32⟩
  | .hbm, ⟨59, _⟩ => ⟨S_, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S_, .f32⟩
  | .hbm, ⟨64, _⟩ => ⟨S_, .f32⟩
  | .hbm, ⟨65, _⟩ => ⟨S2x8x8192x8192, .i1⟩
  | .hbm, ⟨66, _⟩ => ⟨S2x8x8192x8192, .f32⟩
  | .hbm, ⟨67, _⟩ => ⟨S2x8x8192x8192, .f32⟩
  | .hbm, ⟨68, _⟩ => ⟨S2x8x8192x8192, .f32⟩
  | .hbm, ⟨69, _⟩ => ⟨S2x8x8192x64, .f32⟩
  | .hbm, ⟨70, _⟩ => ⟨S2x8192x8x64, .f32⟩
  | .hbm, ⟨71, _⟩ => ⟨S2x8192x8x64, .f32⟩
  | .hbm, ⟨72, _⟩ => ⟨S_, .f32⟩
  | .hbm, ⟨73, _⟩ => ⟨S2x8192x8, .f32⟩
  | .hbm, ⟨74, _⟩ => ⟨S2x8192x8x1, .f32⟩
  | .hbm, ⟨75, _⟩ => ⟨S_, .f32⟩
  | .hbm, ⟨76, _⟩ => ⟨S2x8192x8x1, .f32⟩
  | .hbm, ⟨77, _⟩ => ⟨S2x8192x8x1, .f32⟩
  | .hbm, ⟨78, _⟩ => ⟨S_, .f32⟩
  | .hbm, ⟨79, _⟩ => ⟨S2x8192x8x1, .f32⟩
  | .hbm, ⟨80, _⟩ => ⟨S2x8192x8x1, .f32⟩
  | .hbm, ⟨81, _⟩ => ⟨S2x8192x8x1, .f32⟩
  | .hbm, ⟨82, _⟩ => ⟨S2x8192x8x64, .f32⟩
  | .hbm, ⟨83, _⟩ => ⟨S2x8192x8x64, .f32⟩
  | .hbm, ⟨84, _⟩ => ⟨S1x1x8x64, .f32⟩
  | .hbm, ⟨85, _⟩ => ⟨S2x8192x8x64, .f32⟩
  | .hbm, ⟨86, _⟩ => ⟨S2x8192x8x64, .f32⟩
  | .hbm, ⟨87, _⟩ => ⟨S2x8192x512, .f32⟩
  | .hbm, ⟨88, _⟩ => ⟨S2x8192x512, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v18 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v19 : Ref sig .tc := ⟨.hbm, 57, rfl⟩
abbrev main_call3_cst : Ref sig .tc := ⟨.hbm, 58, rfl⟩
abbrev main_call3_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_1 : Ref sig .tc := ⟨.hbm, 72, rfl⟩
abbrev main_v28 : Ref sig .tc := ⟨.hbm, 73, rfl⟩
abbrev main_v29 : Ref sig .tc := ⟨.hbm, 74, rfl⟩
abbrev main_cst_2 : Ref sig .tc := ⟨.hbm, 75, rfl⟩
abbrev main_v30 : Ref sig .tc := ⟨.hbm, 76, rfl⟩
abbrev main_v31 : Ref sig .tc := ⟨.hbm, 77, rfl⟩
abbrev main_cst_3 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S2x6x1024 : Shape := ⟨3, ![2, 6, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x512x512 : Shape := ⟨3, ![1, 512, 512]⟩
abbrev S1x6x1024 : Shape := ⟨3, ![1, 6, 1024]⟩
abbrev S22x8x256 : Shape := ⟨3, ![22, 8, 256]⟩
abbrev S512x2816 : Shape := ⟨2, ![512, 2816]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x8x256 : Shape := ⟨3, ![1, 8, 256]⟩
abbrev S8x256 : Shape := ⟨2, ![8, 256]⟩
abbrev S520x256 : Shape := ⟨2, ![520, 256]⟩
abbrev S1x256 : Shape := ⟨2, ![1, 256]⟩

abbrev nBuf : Space → Nat
  | .hbm => 13
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x6x1024, .f32⟩
  | .hbm, ⟨4, _⟩ => ⟨S1024, .f32⟩
  | .hbm, ⟨5, _⟩ => ⟨S1024x1024, .bf16⟩
  | .hbm, ⟨6, _⟩ => ⟨S1024x5632, .bf16⟩
  | .hbm, ⟨7, _⟩ => ⟨S3x5632, .f32⟩
  | .hbm, ⟨8, _⟩ => ⟨S5632, .f32⟩
  | .hbm, ⟨9, _⟩ => ⟨S2816x1024, .bf16⟩
  | .hbm, ⟨10, _⟩ => ⟨S1x1024, .f32⟩
  | .hbm, ⟨11, _⟩ => ⟨S1x5632, .f32⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .bf16⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S22x8x256, .f32⟩
  | .local _ .vmem, ⟨17, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x8192x1024 : Shape := ⟨3, ![2, 8192, 1024]⟩
abbrev S2x8192x512 : Shape := ⟨3, ![2, 8192, 512]⟩
abbrev S2x6x1024 : Shape := ⟨3, ![2, 6, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 98
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x6x1024, .f32⟩
  | .hbm, ⟨4, _⟩ => ⟨S1024, .f32⟩
  | .hbm, ⟨5, _⟩ => ⟨S1024x1024, .bf16⟩
  | .hbm, ⟨6, _⟩ => ⟨S1024x5632, .bf16⟩
  | .hbm, ⟨7, _⟩ => ⟨S3x5632, .f32⟩
  | .hbm, ⟨8, _⟩ => ⟨S5632, .f32⟩
  | .hbm, ⟨9, _⟩ => ⟨S2816x1024, .bf16⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x8192x512, .f32⟩
  | .hbm, ⟨19, _⟩ => ⟨S2x8192x512, .f32⟩
  | .hbm, ⟨20, _⟩ => ⟨S2x8192x1024, .f32⟩
  | .hbm, ⟨21, _⟩ => ⟨S2x1x1024, .f32⟩
  | .hbm, ⟨22, _⟩ => ⟨S1024x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S2x1x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x8192x1024, .f32⟩
  | .hbm, ⟨48, _⟩ => ⟨S2x8192x1024, .f32⟩
  | .hbm, ⟨49, _⟩ => ⟨S2x1x1024, .f32⟩
  | .hbm, ⟨50, _⟩ => ⟨S2x8192x1024, .f32⟩
  | .hbm, ⟨51, _⟩ => ⟨S2x8192x1024, .f32⟩
  | .hbm, ⟨52, _⟩ => ⟨S1024x5632, .f32⟩
  | .hbm, ⟨53, _⟩ => ⟨S2x8192x5632, .f32⟩
  | .hbm, ⟨54, _⟩ => ⟨S_, .i32⟩
  | .hbm, ⟨55, _⟩ => ⟨S_, .f32⟩
  | .hbm, ⟨56, _⟩ => ⟨S2x8194x5632, .f32⟩
  | .hbm, ⟨57, _⟩ => ⟨S1x5632, .f32⟩
  | .hbm, ⟨58, _⟩ => ⟨S5632, .f32⟩
  | .hbm, ⟨59, _⟩ => ⟨S2x8192x5632, .f32⟩
  | .hbm, ⟨60, _⟩ => ⟨S1x1x5632, .f32⟩
  | .hbm, ⟨61, _⟩ => ⟨S2x8192x5632, .f32⟩
  | .hbm, ⟨62, _⟩ => ⟨S2x8192x5632, .f32⟩
  | .hbm, ⟨63, _⟩ => ⟨S1x5632, .f32⟩
  | .hbm, ⟨64, _⟩ => ⟨S5632, .f32⟩
  | .hbm, ⟨65, _⟩ => ⟨S2x8192x5632, .f32⟩
  | .hbm, ⟨66, _⟩ => ⟨S1x1x5632, .f32⟩
  | .hbm, ⟨67, _⟩ => ⟨S2x8192x5632, .f32⟩
  | .hbm, ⟨68, _⟩ => ⟨S2x8192x5632, .f32⟩
  | .hbm, ⟨69, _⟩ => ⟨S2x8192x5632, .f32⟩
  | .hbm, ⟨70, _⟩ => ⟨S1x5632, .f32⟩
  | .hbm, ⟨71, _⟩ => ⟨S5632, .f32⟩
  | .hbm, ⟨72, _⟩ => ⟨S2x8192x5632, .f32⟩
  | .hbm, ⟨73, _⟩ => ⟨S1x1x5632, .f32⟩
  | .hbm, ⟨74, _⟩ => ⟨S2x8192x5632, .f32⟩
  | .hbm, ⟨75, _⟩ => ⟨S2x8192x5632, .f32⟩
  | .hbm, ⟨76, _⟩ => ⟨S2x8192x5632, .f32⟩
  | .hbm, ⟨77, _⟩ => ⟨S1x1x5632, .f32⟩
  | .hbm, ⟨78, _⟩ => ⟨S2x8192x5632, .f32⟩
  | .hbm, ⟨79, _⟩ => ⟨S2x8192x5632, .f32⟩
  | .hbm, ⟨80, _⟩ => ⟨S2x8192x2816, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S_, .f32⟩
  | .hbm, ⟨85, _⟩ => ⟨S2x8192x2816, .f32⟩
  | .hbm, ⟨86, _⟩ => ⟨S2x8192x2816, .f32⟩
  | .hbm, ⟨87, _⟩ => ⟨S_, .f32⟩
  | .hbm, ⟨88, _⟩ => ⟨S2x8192x2816, .f32⟩
  | .hbm, ⟨89, _⟩ => ⟨S2x8192x2816, .f32⟩
  | .hbm, ⟨90, _⟩ => ⟨S2x8192x2816, .f32⟩
  | .hbm, ⟨91, _⟩ => ⟨S2x8192x2816, .f32⟩
  | .hbm, ⟨92, _⟩ => ⟨S2816x1024, .f32⟩
  | .hbm, ⟨93, _⟩ => ⟨S2x8192x1024, .f32⟩
  | .hbm, ⟨94, _⟩ => ⟨S2x1x1024, .f32⟩
  | .hbm, ⟨95, _⟩ => ⟨S2x8192x1024, .f32⟩
  | .hbm, ⟨96, _⟩ => ⟨S2x8192x1024, .f32⟩
  | .hbm, ⟨97, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6x1024 : Shape := ⟨3, ![2, 6, 1024]⟩
abbrev S1024 : Shape := ⟨1, ![1024]⟩
abbrev S1024x2048 : Shape := ⟨2, ![1024, 2048]⟩
abbrev S4x128x128 : Shape := ⟨3, ![4, 128, 128]⟩
abbrev S4x128 : Shape := ⟨2, ![4, 128]⟩
abbrev S512 : Shape := ⟨1, ![512]⟩
abbrev S64 : Shape := ⟨1, ![64]⟩
abbrev S1x1024 : Shape := ⟨2, ![1, 1024]⟩
abbrev S1x512 : Shape := ⟨2, ![1, 512]⟩
abbrev S1x64 : Shape := ⟨2, ![1, 64]⟩
abbrev S8x64 : Shape := ⟨2, ![8, 64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S2x8192x512 : Shape := ⟨3, ![2, 8192, 512]⟩
abbrev S1x512x1024 : Shape := ⟨3, ![1, 512, 1024]⟩
abbrev S1x6x1024 : Shape := ⟨3, ![1, 6, 1024]⟩
abbrev S1x512x512 : Shape := ⟨3, ![1, 512, 512]⟩
abbrev S16x512 : Shape := ⟨2, ![16, 512]⟩
abbrev S512x1024 : Shape := ⟨2, ![512, 1024]⟩
abbrev S1x1x1024 : Shape := ⟨3, ![1, 1, 1024]⟩
abbrev S512x1 : Shape := ⟨2, ![512, 1]⟩
abbrev S1024x512 : Shape := ⟨2, ![1024, 512]⟩
abbrev S528x512 : Shape := ⟨2, ![528, 512]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 40
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x2048, .bf16⟩
  | .hbm, ⟨4, _⟩ => ⟨S4x128x128, .bf16⟩
  | .hbm, ⟨5, _⟩ => ⟨S4x128, .f32⟩
  | .hbm, ⟨6, _⟩ => ⟨S512, .f32⟩
  | .hbm, ⟨7, _⟩ => ⟨S64, .f32⟩
  | .hbm, ⟨8, _⟩ => ⟨S64, .f32⟩
  | .hbm, ⟨9, _⟩ => ⟨S1x1024, .f32⟩
  | .hbm, ⟨10, _⟩ => ⟨S1x512, .f32⟩
  | .hbm, ⟨11, _⟩ => ⟨S1x512, .f32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S_, .f32⟩
  | .hbm, ⟨28, _⟩ => ⟨S64x64, .f32⟩
  | .hbm, ⟨29, _⟩ => ⟨S8x1x8x1, .f32⟩
  | .hbm, ⟨30, _⟩ => ⟨S1x64x1x64, .f32⟩
  | .hbm, ⟨31, _⟩ => ⟨S8x64x8x64, .f32⟩
  | .hbm, ⟨32, _⟩ => ⟨S8x64x8x64, .f32⟩
  | .hbm, ⟨33, _⟩ => ⟨S8x64x8x64, .f32⟩
  | .hbm, ⟨34, _⟩ => ⟨S512x512, .f32⟩
  | .hbm, ⟨35, _⟩ => ⟨S512x512, .bf16⟩
  | .hbm, ⟨36, _⟩ => ⟨S2x8192x512, .bf16⟩
  | .hbm, ⟨37, _⟩ => ⟨S2x8192x512, .bf16⟩
  | .hbm, ⟨38, _⟩ => ⟨S2x8192x512, .bf16⟩
  | .hbm, ⟨39, _⟩ => ⟨S2x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S4x128x128, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S2x8192x1024 : Shape := ⟨3, ![2, 8192, 1024]⟩
abbrev S2x6x1024 : Shape := ⟨3, ![2, 6, 1024]⟩
abbrev S1024 : Shape := ⟨1, ![1024]⟩
abbrev S1024x2048 : Shape := ⟨2, ![1024, 2048]⟩
abbrev S4x128x128 : Shape := ⟨3, ![4, 128, 128]⟩
abbrev S4x128 : Shape := ⟨2, ![4, 128]⟩
abbrev S512 : Shape := ⟨1, ![512]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x1024 : Shape := ⟨2, ![2, 1024]⟩
abbrev S2x8192x2048 : Shape := ⟨3, ![2, 8192, 2048]⟩
abbrev S2x8192x512 : Shape := ⟨3, ![2, 8192, 512]⟩
abbrev S2x8192x4x128 : Shape := ⟨4, ![2, 8192, 4, 128]⟩
abbrev S2x8207x4x128 : Shape := ⟨4, ![2, 8207, 4, 128]⟩
abbrev S8192 : Shape := ⟨1, ![8192]⟩
abbrev S2x8192x1x128 : Shape := ⟨4, ![2, 8192, 1, 128]⟩
abbrev S2x8192x128 : Shape := ⟨3, ![2, 8192, 128]⟩
abbrev S1x8192x1 : Shape := ⟨3, ![1, 8192, 1]⟩
abbrev S4x128x2x8192 : Shape := ⟨4, ![4, 128, 2, 8192]⟩
abbrev S1x1x4x128 : Shape := ⟨4, ![1, 1, 4, 128]⟩
abbrev S1x1x512 : Shape := ⟨3, ![1, 1, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩

abbrev nBuf : Space → Nat
  | .hbm => 248
  | .vmem => 0
  | .smem => 0
  | _ => 0

abbrev hbmTy0_0 (i : Nat) : BufTy := match i % 128 with
  | 0 => ⟨S2x8192x1024, .f32⟩
  | 1 => ⟨S2x6x1024, .f32⟩
  | 2 => ⟨S1024, .f32⟩
  | 3 => ⟨S1024x2048, .bf16⟩
  | 4 => ⟨S4x128x128, .bf16⟩
  | 5 => ⟨S4x128, .f32⟩
  | 6 => ⟨S512, .f32⟩
  | 7 => ⟨S64, .f32⟩
  | 8 => ⟨S64, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S2x1x1024, .f32⟩
  | 26 => ⟨S2x1024, .f32⟩
  | 27 => ⟨S2x1x1024, .f32⟩
  | 28 => ⟨S_, .f32⟩
  | 29 => ⟨S2x1x1024, .f32⟩
  | 30 => ⟨S2x1x1024, .f32⟩
  | 31 => ⟨S2x8192x1024, .f32⟩
  | 32 => ⟨S2x8192x1024, .f32⟩
  | 33 => ⟨S2x1x1024, .f32⟩
  | 34 => ⟨S2x1024, .f32⟩
  | 35 => ⟨S2x1x1024, .f32⟩
  | 36 => ⟨S2x8192x1024, .f32⟩
  | 37 => ⟨S2x8192x1024, .f32⟩
  | 38 => ⟨S1024x2048, .f32⟩
  | 39 => ⟨S2x8192x2048, .f32⟩
  | 40 => ⟨S2x8192x512, .f32⟩
  | 41 => ⟨S2x8192x512, .f32⟩
  | 42 => ⟨S2x8192x512, .f32⟩
  | 43 => ⟨S2x8192x512, .f32⟩
  | 44 => ⟨S2x8192x4x128, .f32⟩
  | 45 => ⟨S_, .i32⟩
  | 46 => ⟨S_, .f32⟩
  | 47 => ⟨S2x8207x4x128, .f32⟩
  | 48 => ⟨S8192, .i32⟩
  | 49 => ⟨S_, .i32⟩
  | 50 => ⟨S8192, .i32⟩
  | 51 => ⟨S8192, .i32⟩
  | 52 => ⟨S2x8192x1x128, .f32⟩
  | 53 => ⟨S2x8192x128, .f32⟩
  | 54 => ⟨S_, .f32⟩
  | 55 => ⟨S2x8192x128, .f32⟩
  | 56 => ⟨S2x8192x128, .f32⟩
  | 57 => ⟨S2x8192x1x128, .f32⟩
  | 58 => ⟨S2x8192x128, .f32⟩
  | 59 => ⟨S2x8192x128, .f32⟩
  | 60 => ⟨S_, .i32⟩
  | 61 => ⟨S8192, .i32⟩
  | 62 => ⟨S8192, .i32⟩
  | 63 => ⟨S8192, .f32⟩
  | 64 => ⟨S1x8192x1, .f32⟩
  | 65 => ⟨S2x8192x128, .f32⟩
  | 66 => ⟨S2x8192x128, .f32⟩
  | 67 => ⟨S2x8192x1x128, .f32⟩
  | 68 => ⟨S2x8192x128, .f32⟩
  | 69 => ⟨S2x8192x128, .f32⟩
  | 70 => ⟨S2x8192x1x128, .f32⟩
  | 71 => ⟨S2x8192x128, .f32⟩
  | 72 => ⟨S_, .f32⟩
  | 73 => ⟨S2x8192x128, .f32⟩
  | 74 => ⟨S2x8192x128, .f32⟩
  | 75 => ⟨S2x8192x1x128, .f32⟩
  | 76 => ⟨S2x8192x128, .f32⟩
  | 77 => ⟨S2x8192x128, .f32⟩
  | 78 => ⟨S2x8192x1x128, .f32⟩
  | 79 => ⟨S2x8192x128, .f32⟩
  | 80 => ⟨S2x8192x128, .f32⟩
  | 81 => ⟨S2x8192x1x128, .f32⟩
  | 82 => ⟨S2x8192x128, .f32⟩
  | 83 => ⟨S2x8192x128, .f32⟩
  | 84 => ⟨S_, .i32⟩
  | 85 => ⟨S8192, .i32⟩
  | 86 => ⟨S8192, .i32⟩
  | 87 => ⟨S8192, .f32⟩
  | 88 => ⟨S1x8192x1, .f32⟩
  | 89 => ⟨S2x8192x128, .f32⟩
  | 90 => ⟨S2x8192x128, .f32⟩
  | 91 => ⟨S2x8192x1x128, .f32⟩
  | 92 => ⟨S2x8192x128, .f32⟩
  | 93 => ⟨S2x8192x128, .f32⟩
  | 94 => ⟨S2x8192x1x128, .f32⟩
  | 95 => ⟨S2x8192x128, .f32⟩
  | 96 => ⟨S_, .f32⟩
  | 97 => ⟨S2x8192x128, .f32⟩
  | 98 => ⟨S2x8192x128, .f32⟩
  | 99 => ⟨S2x8192x1x128, .f32⟩
  | 100 => ⟨S2x8192x128, .f32⟩
  | 101 => ⟨S2x8192x128, .f32⟩
  | 102 => ⟨S2x8192x1x128, .f32⟩
  | 103 => ⟨S2x8192x128, .f32⟩
  | 104 => ⟨S2x8192x128, .f32⟩
  | 105 => ⟨S2x8192x1x128, .f32⟩
  | 106 => ⟨S2x8192x128, .f32⟩
  | 107 => ⟨S2x8192x128, .f32⟩
  | 108 => ⟨S2x8192x1x128, .f32⟩
  | 109 => ⟨S2x8192x128, .f32⟩
  | 110 => ⟨S2x8192x128, .f32⟩
  | 111 => ⟨S2x8192x1x128, .f32⟩
  | 112 => ⟨S2x8192x128, .f32⟩
  | 113 => ⟨S2x8192x128, .f32⟩
  | 114 => ⟨S2x8192x1x128, .f32⟩
  | 115 => ⟨S2x8192x128, .f32⟩
  | 116 => ⟨S2x8192x128, .f32⟩
  | 117 => ⟨S2x8192x1x128, .f32⟩
  | 118 => ⟨S2x8192x128, .f32⟩
  | 119 => ⟨S2x8192x128, .f32⟩
  | 120 => ⟨S_, .i32⟩
  | 121 => ⟨S8192, .i32⟩
  | 122 => ⟨S8192, .i32⟩
  | 123 => ⟨S8192, .f32⟩
  | 124 => ⟨S1x8192x1, .f32⟩
  | 125 => ⟨S2x8192x128, .f32⟩
  | 126 => ⟨S2x8192x128, .f32⟩
  | 127 => ⟨S2x8192x1x128, .f32⟩
  | _ => ⟨S2x8192x1024, .f32⟩

abbrev hbmTy0_1 (i : Nat) : BufTy := match i % 128 with
  | 0 => ⟨S2x8192x128, .f32⟩
  | 1 => ⟨S2x8192x128, .f32⟩
  | 2 => ⟨S2x8192x1x128, .f32⟩
  | 3 => ⟨S2x8192x128, .f32⟩
  | 4 => ⟨S_, .f32⟩
  | 5 => ⟨S2x8192x128, .f32⟩
  | 6 => ⟨S2x8192x128, .f32⟩
  | 7 => ⟨S2x8192x1x128, .f32⟩
  | 8 => ⟨S2x8192x128, .f32⟩
  | 9 => ⟨S2x8192x128, .f32⟩
  | 10 => ⟨S2x8192x1x128, .f32⟩
  | 11 => ⟨S2x8192x128, .f32⟩
  | 12 => ⟨S2x8192x128, .f32⟩
  | 13 => ⟨S2x8192x1x128, .f32⟩
  | 14 => ⟨S2x8192x128, .f32⟩
  | 15 => ⟨S2x8192x128, .f32⟩
  | 16 => ⟨S2x8192x1x128, .f32⟩
  | 17 => ⟨S2x8192x128, .f32⟩
  | 18 => ⟨S2x8192x128, .f32⟩
  | 19 => ⟨S2x8192x1x128, .f32⟩
  | 20 => ⟨S2x8192x128, .f32⟩
  | 21 => ⟨S2x8192x128, .f32⟩
  | 22 => ⟨S2x8192x1x128, .f32⟩
  | 23 => ⟨S2x8192x128, .f32⟩
  | 24 => ⟨S2x8192x128, .f32⟩
  | 25 => ⟨S2x8192x1x128, .f32⟩
  | 26 => ⟨S2x8192x128, .f32⟩
  | 27 => ⟨S2x8192x128, .f32⟩
  | 28 => ⟨S2x8192x1x128, .f32⟩
  | 29 => ⟨S2x8192x128, .f32⟩
  | 30 => ⟨S2x8192x128, .f32⟩
  | 31 => ⟨S2x8192x1x128, .f32⟩
  | 32 => ⟨S2x8192x128, .f32⟩
  | 33 => ⟨S2x8192x128, .f32⟩
  | 34 => ⟨S2x8192x1x128, .f32⟩
  | 35 => ⟨S2x8192x128, .f32⟩
  | 36 => ⟨S2x8192x128, .f32⟩
  | 37 => ⟨S2x8192x1x128, .f32⟩
  | 38 => ⟨S2x8192x128, .f32⟩
  | 39 => ⟨S2x8192x128, .f32⟩
  | 40 => ⟨S2x8192x1x128, .f32⟩
  | 41 => ⟨S2x8192x128, .f32⟩
  | 42 => ⟨S2x8192x128, .f32⟩
  | 43 => ⟨S2x8192x1x128, .f32⟩
  | 44 => ⟨S2x8192x128, .f32⟩
  | 45 => ⟨S2x8192x128, .f32⟩
  | 46 => ⟨S2x8192x1x128, .f32⟩
  | 47 => ⟨S2x8192x128, .f32⟩
  | 48 => ⟨S2x8192x128, .f32⟩
  | 49 => ⟨S2x8192x1x128, .f32⟩
  | 50 => ⟨S2x8192x128, .f32⟩
  | 51 => ⟨S2x8192x128, .f32⟩
  | 52 => ⟨S_, .i32⟩
  | 53 => ⟨S8192, .i32⟩
  | 54 => ⟨S8192, .i32⟩
  | 55 => ⟨S8192, .f32⟩
  | 56 => ⟨S1x8192x1, .f32⟩
  | 57 => ⟨S2x8192x128, .f32⟩
  | 58 => ⟨S2x8192x128, .f32⟩
  | 59 => ⟨S2x8192x1x128, .f32⟩
  | 60 => ⟨S2x8192x128, .f32⟩
  | 61 => ⟨S2x8192x128, .f32⟩
  | 62 => ⟨S2x8192x1x128, .f32⟩
  | 63 => ⟨S2x8192x1x128, .f32⟩
  | 64 => ⟨S2x8192x1x128, .f32⟩
  | 65 => ⟨S2x8192x1x128, .f32⟩
  | 66 => ⟨S2x8192x4x128, .f32⟩
  | 67 => ⟨S4x128x128, .f32⟩
  | 68 => ⟨S4x128x2x8192, .f32⟩
  | 69 => ⟨S2x8192x4x128, .f32⟩
  | 70 => ⟨S1x1x4x128, .f32⟩
  | 71 => ⟨S2x8192x4x128, .f32⟩
  | 72 => ⟨S2x8192x4x128, .f32⟩
  | 73 => ⟨S2x8192x512, .f32⟩
  | 74 => ⟨S1x1x512, .f32⟩
  | 75 => ⟨S2x8192x512, .f32⟩
  | 76 => ⟨S2x8192x512, .f32⟩
  | 77 => ⟨S2x8192x8x64, .f32⟩
  | 78 => ⟨S2x8192x8x64, .f32⟩
  | 79 => ⟨S_, .f32⟩
  | 80 => ⟨S2x8192x8, .f32⟩
  | 81 => ⟨S2x8192x8x1, .f32⟩
  | 82 => ⟨S_, .f32⟩
  | 83 => ⟨S2x8192x8x1, .f32⟩
  | 84 => ⟨S2x8192x8x1, .f32⟩
  | 85 => ⟨S_, .f32⟩
  | 86 => ⟨S2x8192x8x1, .f32⟩
  | 87 => ⟨S2x8192x8x1, .f32⟩
  | 88 => ⟨S2x8192x8x1, .f32⟩
  | 89 => ⟨S2x8192x8x64, .f32⟩
  | 90 => ⟨S2x8192x8x64, .f32⟩
  | 91 => ⟨S1x1x1x64, .f32⟩
  | 92 => ⟨S2x8192x8x64, .f32⟩
  | 93 => ⟨S2x8192x8x64, .f32⟩
  | 94 => ⟨S2x8192x512, .f32⟩
  | 95 => ⟨S_, .f32⟩
  | 96 => ⟨S2x8192x512, .f32⟩
  | 97 => ⟨S2x8192x512, .f32⟩
  | 98 => ⟨S2x8192x8x64, .f32⟩
  | 99 => ⟨S2x8192x8x64, .f32⟩
  | 100 => ⟨S_, .f32⟩
  | 101 => ⟨S2x8192x8, .f32⟩
  | 102 => ⟨S2x8192x8x1, .f32⟩
  | 103 => ⟨S_, .f32⟩
  | 104 => ⟨S2x8192x8x1, .f32⟩
  | 105 => ⟨S2x8192x8x1, .f32⟩
  | 106 => ⟨S_, .f32⟩
  | 107 => ⟨S2x8192x8x1, .f32⟩
  | 108 => ⟨S2x8192x8x1, .f32⟩
  | 109 => ⟨S2x8192x8x1, .f32⟩
  | 110 => ⟨S2x8192x8x64, .f32⟩
  | 111 => ⟨S2x8192x8x64, .f32⟩
  | 112 => ⟨S1x1x1x64, .f32⟩
  | 113 => ⟨S2x8192x8x64, .f32⟩
  | 114 => ⟨S2x8192x8x64, .f32⟩
  | 115 => ⟨S2x8192x512, .f32⟩
  | 116 => ⟨S2x8192x512, .bf16⟩
  | 117 => ⟨S2x8192x512, .bf16⟩
  | 118 => ⟨S2x8192x512, .bf16⟩
  | 119 => ⟨S2x8192x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_c_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_7 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_c_9 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_10 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_c_11 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_cst_12 : Ref sig .tc := ⟨.hbm, 207, rfl⟩
abbrev main_v183 : Ref sig .tc := ⟨.hbm, 208, rfl⟩
abbrev main_v184 : Ref sig .tc := ⟨.hbm, 209, rfl⟩
abbrev main_cst_13 : Ref sig .tc := ⟨.hbm, 210, rfl⟩
abbrev main_v185 : Ref sig .tc := ⟨.hbm, 211, rfl⟩
abbrev main_v186 : Ref sig .tc := ⟨.hbm, 212, rfl⟩
abbrev main_cst_14 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_cst_15 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_cst_16 : Ref sig .tc := ⟨.hbm, 228, rfl⟩
abbrev main_v200 : Ref sig .tc := ⟨.hbm, 229, rfl⟩
abbrev main_v201 : Ref sig .tc := ⟨.hbm, 230, rfl⟩
abbrev main_cst_17 : Ref sig .tc := ⟨.hbm, 231, rfl⟩
abbrev main_v202 : Ref sig .tc := ⟨.hbm, 232, rfl⟩
abbrev main_v203 : Ref sig .tc := ⟨.hbm, 233, rfl⟩
abbrev main_cst_18 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩

abbrev nD : Nat := 1
abbrev τ : Topo := Topo.v7x

variable {F : FTy → Type} [FloatOps F]
-- ==== Kernel4.lean ====
abbrev S2x1024 : Shape := ⟨2, ![2, 1024]⟩
abbrev S1024x6144 : Shape := ⟨2, ![1024, 6144]⟩
abbrev S6144 : Shape := ⟨1, ![6144]⟩
abbrev S1024x2 : Shape := ⟨2, ![1024, 2]⟩
abbrev S1x6144 : Shape := ⟨2, ![1, 6144]⟩
abbrev S2x6144 : Shape := ⟨2, ![2, 6144]⟩
abbrev S1024x1536 : Shape := ⟨2, ![1024, 1536]⟩
abbrev S1x1536 : Shape := ⟨2, ![1, 1536]⟩
abbrev S2x1536 : Shape := ⟨2, ![2, 1536]⟩
abbrev S1024x1 : Shape := ⟨2, ![1024, 1]⟩
abbrev S1536 : Shape := ⟨1, ![1536]⟩

abbrev nBuf : Space → Nat
  | .hbm => 6
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024x6144, .f32⟩
  | .hbm, ⟨2, _⟩ => ⟨S6144, .f32⟩
  | .hbm, ⟨3, _⟩ => ⟨S1024x2, .f32⟩
  | .hbm, ⟨4, _⟩ => ⟨S1x6144, .f32⟩
  | .hbm, ⟨5, _⟩ => ⟨S2x6144, .f32⟩
  | .local _ .vmem, ⟨0, _⟩ => ⟨S1024x2, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S2x1536, .f32⟩
  | .local _ .vmem, ⟨6, _⟩ => ⟨S2x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x1024 : Shape := ⟨2, ![2, 1024]⟩
abbrev S1024x6144 : Shape := ⟨2, ![1024, 6144]⟩
abbrev S6144 : Shape := ⟨1, ![6144]⟩
abbrev S_ : Shape := ⟨0, ![]⟩
abbrev S2x6144 : Shape := ⟨2, ![2, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024x6144, .f32⟩
  | .hbm, ⟨2, _⟩ => ⟨S6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x6144, .f32⟩
  | .hbm, ⟨13, _⟩ => ⟨S1x6144, .f32⟩
  | .hbm, ⟨14, _⟩ => ⟨S2x6144, .f32⟩
  | .hbm, ⟨15, _⟩ => ⟨S2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.AttnIter.lean ====
/- One pass of the attention kernel's loop over earlier key blocks: what the two scratch buffers hold after it,
   and the continue flag it computes. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Exec
public import Idealize.ShloMosaic.Lib.Ring

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loop runs under a natural-number bound: the key blocks left. -/
abbrev 𝒱₀ : Variants := Variants.nat

set_option maxHeartbeats 2000000 in
/-- One pass of the loop at key block `jb`, entered with the flag set: from the scratch buffers at `R` and `A` it
    reaches the next call of the loop with the pieces `L9` and `L10` written over them and the flag `fl`. -/
noncomputable def iterRun (c : Dev nD) (i : grid0.Coords) (arg9 : Memref sig .tc .vmem S4x256x1 .f32) (harg9 : arg9.IsWhole)
    (arg10 : Memref sig .tc .vmem S4x256x128 .f32) (harg10 : arg10.IsWhole) (arg3 : Memref sig .tc .vmem S1x128x512 .bf16) (harg3 : arg3.IsWhole)
    (v2 : IVec S1x128 1) (arg4 : Memref sig .tc .vmem S1x8192x512 .bf16) (harg4 : arg4.IsWhole)
    (arg7 : Memref sig .tc .vmem S256x256 .bf16) (harg7 : arg7.IsWhole) (arg5 : Memref sig .tc .vmem S1x8192x512 .bf16) (harg5 : arg5.IsWhole)
    (jb : BitVec 32) (hge : Scalar.cmpi .sge jb 0#32 = 1#1) (hchk : k0_chk1 jb)
    (x0 : Vec F S1x128x512 .bf16) (x1 : Vec F S1x8192x512 .bf16) (x2 : Vec F S1x8192x512 .bf16) (x4 : Vec F S256x256 .bf16)
    (R : Vec F S4x256x1 .f32) (A : Vec F S4x256x128 .f32) :
    Σ' (fl : BitVec 1), Σ' (L9 : List (View.Piece (Elt F) S4x256x1 .f32)), { L10 : List (View.Piece (Elt F) S4x256x128 .f32) //
      ∀ (v : Option ℕ) (E : Set ℕ) (K : BitVec 32 × BitVec 1 → sProp 𝕄),
        iprop(owns (c : Thread nD τ) arg3 fullShare x0 ∗ owns (c : Thread nD τ) arg4 fullShare x1 ∗ owns (c : Thread nD τ) arg5 fullShare x2
            ∗ owns (c : Thread nD τ) arg7 fullShare x4 ∗ owns (c : Thread nD τ) arg9 fullShare R ∗ owns (c : Thread nD τ) arg10 fullShare A
            ∗ (iprop(owns (c : Thread nD τ) arg3 fullShare x0 ∗ owns (c : Thread nD τ) arg4 fullShare x1 ∗ owns (c : Thread nD τ) arg5 fullShare x2
                ∗ owns (c : Thread nD τ) arg7 fullShare x4
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10))
              -∗ wp frame (wpE (defs₀ (F := F)) 𝒱₀ (c : Thread nD τ) v) E
                  (Prog.op (.call (1 : (Λ₀ F).Label) ⟨i, arg9, harg9, arg10, harg10, arg3, harg3, v2, arg4, harg4, arg7, harg7, arg5, harg5, Scalar.subi jb 1#32, fl⟩) Prog.ret) K))
          ⊢ wp frame (wpE (defs₀ (F := F)) 𝒱₀ (c : Thread nD τ) v) E
              (cc0_while1 i arg9 harg9 arg10 harg10 arg3 harg3 v2 arg4 harg4 arg7 harg7 arg5 harg5 jb 1#1) K } := by
  refine ⟨?_, ?_, ?_, fun v E K => ?run⟩
  case run =>
    have htest : Scalar.andi (Scalar.cmpi .sge jb 0#32) 1#1 = 1#1 := by rw [hge]; rfl
    simp only [cc0_while1_eq_skeleton]; unfold cc0_while1_skel
    simp only [htest, ↓reduceIte]
    simp only [k0_part19_eq_skeleton, k0_part20_eq_skeleton, k0_part21_eq_skeleton, k0_part22_eq_skeleton, k0_part23_eq_skeleton, k0_part24_eq_skeleton]
    unfold owns
    iintro ⟨⟨%f3, %hf3, H3⟩, ⟨%f4, %hf4, H4⟩, ⟨%f5, %hf5, H5⟩, ⟨%f7, %hf7, H7⟩, ⟨%f9, %hf9, H9⟩, ⟨%f10, %hf10, H10⟩, Hk⟩
    obtain rfl := harg3.eq_unread hf3; obtain rfl := harg4.eq_unread hf4; obtain rfl := harg5.eq_unread hf5; obtain rfl := harg7.eq_unread hf7
    obtain rfl := harg9.eq_unread hf9; obtain rfl := harg10.eq_unread hf10
    sl_exec (disch := first | sl_exact hchk)
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H9]; · iexists _; iexact H9
    iexists _; iexact H10

end Cert.KernelIdeal.Hand
end
-- ==== Proof.AttnLoop.lean ====
/- The attention kernel's loop over earlier key blocks: the scratch buffers after any number of passes, and that the
   loop's function meets that specification. -/
module

public import proofs.«01_k».proof.Proof.AttnIter

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What one grid point works on: its coordinates, the staging buffers of the queries, keys, values and of the
    triangular matrix, and what these buffers hold. -/
structure Env (F : FTy → Type) where
  i : grid0.Coords
  a3 : Memref sig .tc .vmem S1x128x512 .bf16
  h3 : a3.IsWhole
  a4 : Memref sig .tc .vmem S1x8192x512 .bf16
  h4 : a4.IsWhole
  a5 : Memref sig .tc .vmem S1x8192x512 .bf16
  h5 : a5.IsWhole
  a7 : Memref sig .tc .vmem S256x256 .bf16
  h7 : a7.IsWhole
  x0 : Vec F S1x128x512 .bf16
  x1 : Vec F S1x8192x512 .bf16
  x2 : Vec F S1x8192x512 .bf16
  x4 : Vec F S256x256 .bf16

/-- The running-sum scratch buffer and the accumulator scratch buffer. -/
abbrev sR : Memref sig .tc .vmem S4x256x1 .f32 := Memref.whole cc0_scratch0
abbrev sA : Memref sig .tc .vmem S4x256x128 .f32 := Memref.whole cc0_scratch1

/-- Pieces that cover the running-sum buffer, read back. -/
abbrev readR (L : List (View.Piece (Elt F) S4x256x1 .f32)) : Vec F S4x256x1 .f32 :=
  (sR).view.read (Elt F) ((sR).view.writes (Elt F) (sR).view.junk L)
/-- Pieces that cover the accumulator buffer, read back. -/
abbrev readA (L : List (View.Piece (Elt F) S4x256x128 .f32)) : Vec F S4x256x128 .f32 :=
  (sA).view.read (Elt F) ((sA).view.writes (Elt F) (sA).view.junk L)

/-- The key block reached with `n` passes left: block `n - 1`. -/
abbrev blk (n : ℕ) : BitVec 32 := Scalar.subi (BitVec.ofNat 32 n) 1#32

theorem blk_zero_test : Scalar.cmpi .sge (blk 0) 0#32 = 0#1 := by decide
theorem blk_succ_test : ∀ n : Fin 63, Scalar.cmpi .sge (blk (n.val + 1)) 0#32 = 1#1 := by decide +kernel
theorem blk_succ_chk : ∀ n : Fin 63, k0_chk1 (blk (n.val + 1)) := by
  have h : ∀ n : Fin 63, @decide (k0_chk1 (blk (n.val + 1))) (k0_chk1.dec _) = true := by decide +kernel
  intro n
  exact @of_decide_eq_true _ (k0_chk1.dec _) (h n)
theorem blk_pred : ∀ n : Fin 63, Scalar.subi (blk (n.val + 1)) 1#32 = blk n.val := by decide +kernel

section

variable (c : Dev nD) (e : Env F)

/-- One pass at the block reached with `n + 1` passes left, from the buffers at `R` and `A`. -/
abbrev pass (n : Fin 63) (R : Vec F S4x256x1 .f32) (A : Vec F S4x256x128 .f32) :=
  iterRun c e.i sR (Memref.isWhole_whole _) sA (Memref.isWhole_whole _) e.a3 e.h3 k0_pay107 e.a4 e.h4 e.a7 e.h7 e.a5 e.h5
    (blk (n.val + 1)) (blk_succ_test n) (blk_succ_chk n) e.x0 e.x1 e.x2 e.x4 R A

/-- The buffers after the loop entered with `n` passes left and the flag `fl`. -/
def loop : (n : ℕ) → n ≤ 63 → BitVec 1 → Vec F S4x256x1 .f32 → Vec F S4x256x128 .f32 → Vec F S4x256x1 .f32 × Vec F S4x256x128 .f32
  | 0, _, _, R, A => (R, A)
  | n + 1, hn, fl, R, A =>
    if fl = 1#1 then
      loop n (by omega) (pass c e ⟨n, hn⟩ R A).1 (readR (pass c e ⟨n, hn⟩ R A).2.1) (readA (pass c e ⟨n, hn⟩ R A).2.2.1)
    else (R, A)

theorem coverR (n : Fin 63) (R : Vec F S4x256x1 .f32) (A : Vec F S4x256x128 .f32) (y : S4x256x1.Idx) :
    ∃ pc ∈ (pass c e n R A).2.1, y ∈ pc.1.set :=
  View.cover_of_tiledL (pass c e n R A).2.1 S1x256x1.size (by sl_kernel_rfl) y

theorem coverA (n : Fin 63) (R : Vec F S4x256x1 .f32) (A : Vec F S4x256x128 .f32) (y : S4x256x128.Idx) :
    ∃ pc ∈ (pass c e n R A).2.2.1, y ∈ pc.1.set :=
  View.cover_of_tiledL (pass c e n R A).2.2.1 S1x256x128.size (by sl_kernel_rfl) y

/-- The buffers the loop reads and writes, the scratch buffers at `R` and `A`. -/
def held (R : Vec F S4x256x1 .f32) (A : Vec F S4x256x128 .f32) : sProp 𝕄 :=
  iprop(owns (c : Thread nD τ) e.a3 fullShare e.x0 ∗ owns (c : Thread nD τ) e.a4 fullShare e.x1 ∗ owns (c : Thread nD τ) e.a5 fullShare e.x2
    ∗ owns (c : Thread nD τ) e.a7 fullShare e.x4 ∗ owns (c : Thread nD τ) sR fullShare R ∗ owns (c : Thread nD τ) sA fullShare A)

/-- The loop's specification with `n` passes left. -/
def spec (n : ℕ) (hn : n ≤ 63) (fl : BitVec 1) (R : Vec F S4x256x1 .f32) (A : Vec F S4x256x128 .f32) : sWPT 𝕄 (BitVec 32 × BitVec 1) := do
  sWPT.consume (held c e R A)
  let r ← sWPT.arbitrary
  sWPT.produce (held c e (loop c e n hn fl R A).1 (loop c e n hn fl R A).2)
  pure r

theorem spec_apply (n : ℕ) (hn : n ≤ 63) (fl : BitVec 1) (R : Vec F S4x256x1 .f32) (A : Vec F S4x256x128 .f32) (K : BitVec 32 × BitVec 1 → sProp 𝕄) :
    spec c e n hn fl R A K
      = iprop(held c e R A ∗ ∀ r : BitVec 32 × BitVec 1, (held c e (loop c e n hn fl R A).1 (loop c e n hn fl R A).2 -∗ K r)) := rfl

/-- The loop's function meets the specification, by induction on the passes left: with the flag down or no block left
    it returns; otherwise one pass (`iterRun`) and the call answered by the induction hypothesis. -/
theorem spec_le (E : Set ℕ) : ∀ (n : ℕ) (hn : n ≤ 63) (fl : BitVec 1) (R : Vec F S4x256x1 .f32) (A : Vec F S4x256x128 .f32) (K : BitVec 32 × BitVec 1 → sProp 𝕄),
    spec c e n hn fl R A K
      ⊢ wp frame (wpE (defs₀ (F := F)) 𝒱₀ (c : Thread nD τ) (some n)) E
          (cc0_while1 e.i sR (Memref.isWhole_whole _) sA (Memref.isWhole_whole _) e.a3 e.h3 k0_pay107 e.a4 e.h4 e.a7 e.h7 e.a5 e.h5 (blk n) fl) K := by
  intro n
  induction n with
  | zero =>
    intro hn fl R A K
    rw [spec_apply]
    unfold cc0_while1
    have htest : ¬ Scalar.andi (Scalar.cmpi .sge (blk 0) 0#32) fl = 1#1 := by
      rw [blk_zero_test]; revert fl; decide
    simp only [htest, ↓reduceIte, Prog.pure_eq_ret]
    iintro ⟨H, Hk⟩
    rw [wp_ret]; imodintro
    iapply Hk
    simp only [loop]; iexact H
  | succ n ih =>
    intro hn fl R A K
    by_cases hfl : fl = 1#1
    · subst hfl
      rw [spec_apply]
      have hl : loop c e (n + 1) hn 1#1 R A = loop c e n (by omega) (pass c e ⟨n, hn⟩ R A).1 (readR (pass c e ⟨n, hn⟩ R A).2.1) (readA (pass c e ⟨n, hn⟩ R A).2.2.1) := by
        rw [loop, if_pos rfl]
      rw [hl]
      have key : ∀ j : BitVec 32, j = blk n → ∀ (fl : BitVec 1) (R : Vec F S4x256x1 .f32) (A : Vec F S4x256x128 .f32) (K : BitVec 32 × BitVec 1 → sProp 𝕄),
          spec c e n (by omega) fl R A K ⊢ wp frame (wpE (defs₀ (F := F)) 𝒱₀ (c : Thread nD τ) (some (n + 1))) E
            (Prog.op (.call (1 : (Λ₀ F).Label) ⟨e.i, sR, Memref.isWhole_whole _, sA, Memref.isWhole_whole _, e.a3, e.h3, k0_pay107, e.a4, e.h4, e.a7, e.h7, e.a5, e.h5, j, fl⟩) Prog.ret) K := by
        intro j hj fl R A K
        subst hj
        rw [spec_apply]
        iintro ⟨H, Hk⟩
        iapply (wp_call_spec 𝒱₀ (c : Thread nD τ) (some (n + 1)) E (spec c e n (by omega) fl R A) n
          (fun u hu => by cases hu; exact Nat.lt_succ_self n) (ih (by omega) fl R A))
        rw [spec_apply]
        isplitl [H]; · iexact H
        iintro %r H
        rw [wp_ret]; imodintro
        iapply Hk
        iexact H
      unfold held
      iintro ⟨⟨H3, H4, H5, H7, H9, H10⟩, Hk⟩
      iapply ((pass c e ⟨n, hn⟩ R A).2.2.2 (some (n + 1)) E K)
      isplitl [H3]; · iexact H3
      isplitl [H4]; · iexact H4
      isplitl [H5]; · iexact H5
      isplitl [H7]; · iexact H7
      isplitl [H9]; · iexact H9
      isplitl [H10]; · iexact H10
      iintro ⟨H3, H4, H5, H7, ⟨%f9, H9⟩, ⟨%f10, H10⟩⟩
      iapply (key _ (blk_pred ⟨n, hn⟩) (pass c e ⟨n, hn⟩ R A).1 (readR (pass c e ⟨n, hn⟩ R A).2.1) (readA (pass c e ⟨n, hn⟩ R A).2.2.1) K)
      rw [spec_apply]; unfold held
      isplitl [H3 H4 H5 H7 H9 H10]
      · isplitl [H3]; · iexact H3
        isplitl [H4]; · iexact H4
        isplitl [H5]; · iexact H5
        isplitl [H7]; · iexact H7
        isplitl [H9]
        · unfold owns; iexists _; isplitr
          swap; · iexact H9
          ipureintro; exact View.read_writes_of_cover _ _ _ _ _ (coverR c e ⟨n, hn⟩ R A)
        unfold owns; iexists _; isplitr
        swap; · iexact H10
        ipureintro; exact View.read_writes_of_cover _ _ _ _ _ (coverA c e ⟨n, hn⟩ R A)
      iexact Hk
    · rw [spec_apply]
      unfold cc0_while1
      have htest : ¬ Scalar.andi (Scalar.cmpi .sge (blk (n + 1)) 0#32) fl = 1#1 := by
        rw [blk_succ_test ⟨n, hn⟩]; revert fl; decide
      simp only [htest, ↓reduceIte, Prog.pure_eq_ret]
      iintro ⟨H, Hk⟩
      rw [wp_ret]; imodintro
      iapply Hk
      rw [loop, if_neg hfl]; iexact H

end

end Cert.KernelIdeal.Hand
end
-- ==== Proof.AttnBody.lean ====
/- The attention kernel's whole body at one grid point, in its two cases: at least two earlier key blocks, or fewer. -/
module

public import proofs.«01_k».proof.Proof.AttnLoop

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The block the loop over earlier keys starts at. -/
abbrev startBlk (i : grid0.Coords) : BitVec 32 :=
  Scalar.select (Scalar.cmpi .sge (BitVec.ofNat 32 (i 2).val) 2#32)
    (Scalar.subi (Scalar.subi (BitVec.ofNat 32 (i 2).val) 1#32) 2#32) (Scalar.subi (BitVec.ofNat 32 (i 2).val) 1#32)

/-- The call of the loop's function at block `j = blk n`, from the scratch buffers at `R` and `A`: the program goes on
    with them at the loop's result. -/
theorem call_at (c : Dev nD) (e : Env F) (E : Set ℕ) (n : ℕ) (hn : n ≤ 63) (v : Option ℕ) (hv : ∀ u ∈ v, n < u) (j : BitVec 32) (hj : j = blk n)
    (fl : BitVec 1) (R : Vec F S4x256x1 .f32) (A : Vec F S4x256x128 .f32) {β : Type} {K : β → sProp 𝕄}
    {k : BitVec 32 × BitVec 1 → Prog (TpuEff nD τ sig (Elt F) (Λ₀ F) .tc) β} :
    iprop(held c e R A ∗ ∀ r : BitVec 32 × BitVec 1, (held c e (loop c e n hn fl R A).1 (loop c e n hn fl R A).2
        -∗ wp frame (wpE (defs₀ (F := F)) 𝒱₀ (c : Thread nD τ) v) E (k r) K))
      ⊢ wp frame (wpE (defs₀ (F := F)) 𝒱₀ (c : Thread nD τ) v) E
          (Prog.op (.call (1 : (Λ₀ F).Label) ⟨e.i, sR, Memref.isWhole_whole _, sA, Memref.isWhole_whole _, e.a3, e.h3, k0_pay107, e.a4, e.h4, e.a7, e.h7, e.a5, e.h5, j, fl⟩) k) K := by
  subst hj
  iintro ⟨H, Hk⟩
  iapply (wp_call_spec 𝒱₀ (c : Thread nD τ) v E (spec c e n hn fl R A) n hv (spec_le c e E n hn fl R A))
  rw [spec_apply]
  isplitl [H]; · iexact H
  iexact Hk

set_option maxHeartbeats 2000000 in
/-- With at least two earlier key blocks: the pieces the first blocks leave in the scratch buffers, the flag the loop starts with, and the pieces stored
    to the output block, with the run of the whole body to them. -/
noncomputable def bodyRunA (c : Dev nD) (e : Env F) (a6 : Memref sig .tc .vmem S1x512 .f32) (h6 : a6.IsWhole) (a8 : Memref sig .tc .vmem S1x128x512 .bf16)
    (h8 : a8.IsWhole) (x3 : Vec F S1x512 .f32) (n : ℕ) (hn : n ≤ 63) (hstart : startBlk e.i = blk n) (hc1 : k0_cond1 e.i = 1#1) (hc2 : ¬ k0_cond2 e.i = 1#1) :
    Σ' (L9 : List (View.Piece (Elt F) S4x256x1 .f32)), Σ' (L10 : List (View.Piece (Elt F) S4x256x128 .f32)), Σ' (fl : BitVec 1),
    { L8 : List (View.Piece (Elt F) S1x128x512 .bf16) //
      ∀ (E : Set ℕ) (K : PUnit → sProp 𝕄),
        iprop(owns (c : Thread nD τ) e.a3 fullShare e.x0 ∗ owns (c : Thread nD τ) e.a4 fullShare e.x1 ∗ owns (c : Thread nD τ) e.a5 fullShare e.x2
            ∗ owns (c : Thread nD τ) a6 fullShare x3 ∗ owns (c : Thread nD τ) e.a7 fullShare e.x4
            ∗ (∃ d, owns (c : Thread nD τ) a8 fullShare d) ∗ (∃ d, owns (c : Thread nD τ) sR fullShare d) ∗ (∃ d, owns (c : Thread nD τ) sA fullShare d)
            ∗ (iprop(owns (c : Thread nD τ) e.a3 fullShare e.x0 ∗ owns (c : Thread nD τ) e.a4 fullShare e.x1 ∗ owns (c : Thread nD τ) e.a5 fullShare e.x2
                ∗ owns (c : Thread nD τ) a6 fullShare x3 ∗ owns (c : Thread nD τ) e.a7 fullShare e.x4
                ∗ (∃ f, a8.view.loc (c : Thread nD τ) ↦[a8.view.set]{fullShare} a8.view.writes (Elt F) f L8)
                ∗ owns (c : Thread nD τ) sR fullShare (loop c e n hn fl (readR L9) (readA L10)).1
                ∗ owns (c : Thread nD τ) sA fullShare (loop c e n hn fl (readR L9) (readA L10)).2)
              -∗ K ⟨⟩))
          ⊢ wp frame (wpE (defs₀ (F := F)) 𝒱₀ (c : Thread nD τ) none) E
              (cc0_stickbreak_attn e.i e.a3 e.h3 e.a4 e.h4 e.a5 e.h5 a6 h6 e.a7 e.h7 a8 h8 sR (Memref.isWhole_whole _) sA (Memref.isWhole_whole _)) K } := by
  refine ⟨?L9, ?L10, ?fl, ?L8, fun E K => ?run⟩
  case run =>
    simp only [cc0_stickbreak_attn_eq_skeleton]; unfold cc0_stickbreak_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := e.h3.eq_unread hf3; obtain rfl := e.h4.eq_unread hf4; obtain rfl := e.h5.eq_unread hf5
    obtain rfl := h6.eq_unread hf6; obtain rfl := e.h7.eq_unread hf7
    sl_exec (disch := first | sl_exact hc1 | sl_exact hc2)
    iapply (call_at c e E n hn none (fun u hu => nomatch hu) (bodyRunA.sl.v17 e) hstart ?fl (readR ?L9) (readA ?L10))
    unfold held
    isplitl [H3 H4 H5 H7 H9 H10]
    · unfold owns
      isplitl [H3]
      · iexists _; isplitr; · ipureintro; exact e.h3.read_unread _
        iexact H3
      isplitl [H4]
      · iexists _; isplitr; · ipureintro; exact e.h4.read_unread _
        iexact H4
      isplitl [H5]
      · iexists _; isplitr; · ipureintro; exact e.h5.read_unread _
        iexact H5
      isplitl [H7]
      · iexists _; isplitr; · ipureintro; exact e.h7.read_unread _
        iexact H7
      isplitl [H9]
      · iexists _; isplitr
        swap; · iexact H9
        ipureintro; refine View.read_writes_of_cover _ _ _ _ _ ?_
        exact View.cover_of_tiledL _ S1x256x1.size (by sl_kernel_rfl)
      iexists _; isplitr
      swap; · iexact H10
      ipureintro; refine View.read_writes_of_cover _ _ _ _ _ ?_
      exact View.cover_of_tiledL _ S1x256x128.size (by sl_kernel_rfl)
    unfold owns
    iintro %r ⟨⟨%f3, %hf3, H3⟩, ⟨%f4, %hf4, H4⟩, ⟨%f5, %hf5, H5⟩, ⟨%f7, %hf7, H7⟩, ⟨%f9, %hf9, H9⟩, ⟨%f10, %hf10, H10⟩⟩
    obtain rfl := e.h3.eq_unread hf3; obtain rfl := e.h4.eq_unread hf4; obtain rfl := e.h5.eq_unread hf5
    obtain rfl := e.h7.eq_unread hf7
    obtain rfl := (Memref.isWhole_whole cc0_scratch0).eq_unread hf9; obtain rfl := (Memref.isWhole_whole cc0_scratch1).eq_unread hf10
    sl_exec
    sl_step
    iapply Hk
    isplitl [H3]
    · iexists _; isplitr; · ipureintro; exact e.h3.read_unread _
      iexact H3
    isplitl [H4]
    · iexists _; isplitr; · ipureintro; exact e.h4.read_unread _
      iexact H4
    isplitl [H5]
    · iexists _; isplitr; · ipureintro; exact e.h5.read_unread _
      iexact H5
    isplitl [H6]
    · iexists _; isplitr; · ipureintro; exact h6.read_unread _
      iexact H6
    isplitl [H7]
    · iexists _; isplitr; · ipureintro; exact e.h7.read_unread _
      iexact H7
    isplitl [H8]; · iexists _; iexact H8
    isplitl [H9]
    · iexists _; isplitr; · ipureintro; exact (Memref.isWhole_whole cc0_scratch0).read_unread _
      iexact H9
    iexists _; isplitr; · ipureintro; exact (Memref.isWhole_whole cc0_scratch1).read_unread _
    iexact H10

set_option maxHeartbeats 2000000 in
/-- With fewer than two earlier key blocks: the pieces the first blocks leave in the scratch buffers, the flag the loop starts with, and the pieces stored
    to the output block, with the run of the whole body to them. -/
noncomputable def bodyRunB (c : Dev nD) (e : Env F) (a6 : Memref sig .tc .vmem S1x512 .f32) (h6 : a6.IsWhole) (a8 : Memref sig .tc .vmem S1x128x512 .bf16)
    (h8 : a8.IsWhole) (x3 : Vec F S1x512 .f32) (n : ℕ) (hn : n ≤ 63) (hstart : startBlk e.i = blk n) (hc1 : ¬ k0_cond1 e.i = 1#1) (hc2 : k0_cond2 e.i = 1#1) :
    Σ' (L9 : List (View.Piece (Elt F) S4x256x1 .f32)), Σ' (L10 : List (View.Piece (Elt F) S4x256x128 .f32)), Σ' (fl : BitVec 1),
    { L8 : List (View.Piece (Elt F) S1x128x512 .bf16) //
      ∀ (E : Set ℕ) (K : PUnit → sProp 𝕄),
        iprop(owns (c : Thread nD τ) e.a3 fullShare e.x0 ∗ owns (c : Thread nD τ) e.a4 fullShare e.x1 ∗ owns (c : Thread nD τ) e.a5 fullShare e.x2
            ∗ owns (c : Thread nD τ) a6 fullShare x3 ∗ owns (c : Thread nD τ) e.a7 fullShare e.x4
            ∗ (∃ d, owns (c : Thread nD τ) a8 fullShare d) ∗ (∃ d, owns (c : Thread nD τ) sR fullShare d) ∗ (∃ d, owns (c : Thread nD τ) sA fullShare d)
            ∗ (iprop(owns (c : Thread nD τ) e.a3 fullShare e.x0 ∗ owns (c : Thread nD τ) e.a4 fullShare e.x1 ∗ owns (c : Thread nD τ) e.a5 fullShare e.x2
                ∗ owns (c : Thread nD τ) a6 fullShare x3 ∗ owns (c : Thread nD τ) e.a7 fullShare e.x4
                ∗ (∃ f, a8.view.loc (c : Thread nD τ) ↦[a8.view.set]{fullShare} a8.view.writes (Elt F) f L8)
                ∗ owns (c : Thread nD τ) sR fullShare (loop c e n hn fl (readR L9) (readA L10)).1
                ∗ owns (c : Thread nD τ) sA fullShare (loop c e n hn fl (readR L9) (readA L10)).2)
              -∗ K ⟨⟩))
          ⊢ wp frame (wpE (defs₀ (F := F)) 𝒱₀ (c : Thread nD τ) none) E
              (cc0_stickbreak_attn e.i e.a3 e.h3 e.a4 e.h4 e.a5 e.h5 a6 h6 e.a7 e.h7 a8 h8 sR (Memref.isWhole_whole _) sA (Memref.isWhole_whole _)) K } := by
  refine ⟨?L9, ?L10, ?fl, ?L8, fun E K => ?run⟩
  case run =>
    simp only [cc0_stickbreak_attn_eq_skeleton]; unfold cc0_stickbreak_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := e.h3.eq_unread hf3; obtain rfl := e.h4.eq_unread hf4; obtain rfl := e.h5.eq_unread hf5
    obtain rfl := h6.eq_unread hf6; obtain rfl := e.h7.eq_unread hf7
    sl_exec (disch := first | sl_exact hc1 | sl_exact hc2)
    iapply (call_at c e E n hn none (fun u hu => nomatch hu) (bodyRunB.sl.v17 e) hstart ?fl (readR ?L9) (readA ?L10))
    unfold held
    isplitl [H3 H4 H5 H7 H9 H10]
    · unfold owns
      isplitl [H3]
      · iexists _; isplitr; · ipureintro; exact e.h3.read_unread _
        iexact H3
      isplitl [H4]
      · iexists _; isplitr; · ipureintro; exact e.h4.read_unread _
        iexact H4
      isplitl [H5]
      · iexists _; isplitr; · ipureintro; exact e.h5.read_unread _
        iexact H5
      isplitl [H7]
      · iexists _; isplitr; · ipureintro; exact e.h7.read_unread _
        iexact H7
      isplitl [H9]
      · iexists _; isplitr
        swap; · iexact H9
        ipureintro; refine View.read_writes_of_cover _ _ _ _ _ ?_
        exact View.cover_of_tiledL _ S1x256x1.size (by sl_kernel_rfl)
      iexists _; isplitr
      swap; · iexact H10
      ipureintro; refine View.read_writes_of_cover _ _ _ _ _ ?_
      exact View.cover_of_tiledL _ S1x256x128.size (by sl_kernel_rfl)
    unfold owns
    iintro %r ⟨⟨%f3, %hf3, H3⟩, ⟨%f4, %hf4, H4⟩, ⟨%f5, %hf5, H5⟩, ⟨%f7, %hf7, H7⟩, ⟨%f9, %hf9, H9⟩, ⟨%f10, %hf10, H10⟩⟩
    obtain rfl := e.h3.eq_unread hf3; obtain rfl := e.h4.eq_unread hf4; obtain rfl := e.h5.eq_unread hf5
    obtain rfl := e.h7.eq_unread hf7
    obtain rfl := (Memref.isWhole_whole cc0_scratch0).eq_unread hf9; obtain rfl := (Memref.isWhole_whole cc0_scratch1).eq_unread hf10
    sl_exec
    sl_step
    iapply Hk
    isplitl [H3]
    · iexists _; isplitr; · ipureintro; exact e.h3.read_unread _
      iexact H3
    isplitl [H4]
    · iexists _; isplitr; · ipureintro; exact e.h4.read_unread _
      iexact H4
    isplitl [H5]
    · iexists _; isplitr; · ipureintro; exact e.h5.read_unread _
      iexact H5
    isplitl [H6]
    · iexists _; isplitr; · ipureintro; exact h6.read_unread _
      iexact H6
    isplitl [H7]
    · iexists _; isplitr; · ipureintro; exact e.h7.read_unread _
      iexact H7
    isplitl [H8]; · iexists _; iexact H8
    isplitl [H9]
    · iexists _; isplitr; · ipureintro; exact (Memref.isWhole_whole cc0_scratch0).read_unread _
      iexact H9
    iexists _; isplitr; · ipureintro; exact (Memref.isWhole_whole cc0_scratch1).read_unread _
    iexact H10

end Cert.KernelIdeal.Hand
end
-- ==== Proof.AttnFrame.lean ====
/- The attention kernel's frame: its body's runs placed in the pipeline, launched from the whole program. -/
module

public import proofs.«01_k».proof.Proof.AttnBody
public import Idealize.ShloMosaic.Lib.Pipeline.FrameBody
public import Idealize.ShloMosaic.Lib.WordCmp
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the kernel starts: after the operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The entry up to the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The operations before the kernel write none of the buffers they do not produce. -/
theorem argKept (c : Dev nD) (b : Ref sig .tc) (hb : b ≠ main_v0 ∧ b ≠ main_v1 ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4⟩ := hb
    repeat' apply And.intro
    all_goals exact StableHlo.devRef_ne_of_ne (by assumption)))

/-- The operations before the kernel leave the argument `main_arg0` alone. -/
theorem V_main_arg0 (c : Dev nD) : V m c main_arg0 = m ((c : Thread nD τ).loc main_arg0) :=
  argKept m c main_arg0 (by decide)

/-- The operations before the kernel leave the argument `main_arg1` alone. -/
theorem V_main_arg1 (c : Dev nD) : V m c main_arg1 = m ((c : Thread nD τ).loc main_arg1) :=
  argKept m c main_arg1 (by decide)

/-- The operations before the kernel leave the argument `main_arg2` alone. -/
theorem V_main_arg2 (c : Dev nD) : V m c main_arg2 = m ((c : Thread nD τ).loc main_arg2) :=
  argKept m c main_arg2 (by decide)

/-- The operations before the kernel leave the argument `main_arg3` alone. -/
theorem V_main_arg3 (c : Dev nD) : V m c main_arg3 = m ((c : Thread nD τ).loc main_arg3) :=
  argKept m c main_arg3 (by decide)

/-- Window `w`'s block at point `t`, read off its array as the kernel finds it. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- The whole-block reading of the output's staging buffer. -/
abbrev VO : View sig .tc .vmem S1x128x512 .bf16 := (Memref.whole cc0_stg5_0 : Memref sig .tc .vmem S1x128x512 .bf16).view
abbrev ms0 (t : Fin (cfg0 (F := F)).N) : Memref sig .tc .vmem S1x128x512 .bf16 := win0_0.stage (cfg0.slots t 0)
abbrev hs0 (t : Fin (cfg0 (F := F)).N) : (ms0 t).IsWhole := hstage0_0 ((cfg0.slots t 0).cast nbuf0_0)
abbrev ms1 (t : Fin (cfg0 (F := F)).N) : Memref sig .tc .vmem S1x8192x512 .bf16 := win0_1.stage (cfg0.slots t 1)
abbrev hs1 (t : Fin (cfg0 (F := F)).N) : (ms1 t).IsWhole := hstage0_1 ((cfg0.slots t 1).cast nbuf0_1)
abbrev ms2 (t : Fin (cfg0 (F := F)).N) : Memref sig .tc .vmem S1x8192x512 .bf16 := win0_2.stage (cfg0.slots t 2)
abbrev hs2 (t : Fin (cfg0 (F := F)).N) : (ms2 t).IsWhole := hstage0_2 ((cfg0.slots t 2).cast nbuf0_2)
abbrev ms3 (t : Fin (cfg0 (F := F)).N) : Memref sig .tc .vmem S1x512 .f32 := win0_3.stage (cfg0.slots t 3)
abbrev hs3 (t : Fin (cfg0 (F := F)).N) : (ms3 t).IsWhole := hstage0_3 ((cfg0.slots t 3).cast nbuf0_3)
abbrev ms4 (t : Fin (cfg0 (F := F)).N) : Memref sig .tc .vmem S256x256 .bf16 := win0_4.stage (cfg0.slots t 4)
abbrev hs4 (t : Fin (cfg0 (F := F)).N) : (ms4 t).IsWhole := hstage0_4 ((cfg0.slots t 4).cast nbuf0_4)
abbrev ms5 (t : Fin (cfg0 (F := F)).N) : Memref sig .tc .vmem S1x128x512 .bf16 := win0_5.stage (cfg0.slots t 5)
abbrev hs5 (t : Fin (cfg0 (F := F)).N) : (ms5 t).IsWhole := hstage0_5 ((cfg0.slots t 5).cast nbuf0_5)

/-- The invariant between points: the two scratch buffers at anything, and the generator register. -/
theorem PhiA0_eq (c : Dev nD) :
    (Pipeline.ΦA spec0 c : sProp 𝕄)
      = iprop(iprop((∃ d, owns (c : Thread nD τ) sR fullShare d) ∗ (∃ d, owns (c : Thread nD τ) sA fullShare d)) ∗ (∃ r, prngReg c r)) := by
  unfold Pipeline.ΦA; rw [scopedRest0_eq]; simp only [sR, sA, owns_whole]; try rfl

/-- What point `t` works on. -/
abbrev envAt (c : Dev nD) (t : Fin (cfg0 (F := F)).N) : Env F :=
  ⟨grid0.coords t, ms0 t, hs0 t, ms1 t, hs1 t, ms2 t, hs2 t, ms4 t, hs4 t, iblk m c 0 t, iblk m c 1 t, iblk m c 2 t, iblk m c 4 t⟩

/-- How many blocks the loop has before it at point `t`. -/
def trips (t : Fin (cfg0 (F := F)).N) : ℕ := if 2 ≤ t.val % 64 then t.val % 64 - 2 else t.val % 64

theorem trips_le (t : Fin (cfg0 (F := F)).N) : trips t ≤ 63 := by unfold trips; split <;> omega
theorem start_eq : ∀ t : Fin (cfg0 (F := F)).N, startBlk (grid0.coords t) = blk (trips t) := (by decide +kernel : ∀ t : Fin grid0.N, startBlk (grid0.coords t) = blk (if 2 ≤ t.val % 64 then t.val % 64 - 2 else t.val % 64))
theorem cond1_iff : ∀ t : Fin (cfg0 (F := F)).N, k0_cond1 (grid0.coords t) = 1#1 ↔ 2 ≤ t.val % 64 := (by decide +kernel : ∀ t : Fin grid0.N, k0_cond1 (grid0.coords t) = 1#1 ↔ 2 ≤ t.val % 64)
theorem cond2_iff : ∀ t : Fin (cfg0 (F := F)).N, k0_cond2 (grid0.coords t) = 1#1 ↔ ¬ 2 ≤ t.val % 64 := (by decide +kernel : ∀ t : Fin grid0.N, k0_cond2 (grid0.coords t) = 1#1 ↔ ¬ 2 ≤ t.val % 64)

/-- The run at a point with at least two earlier key blocks. -/
abbrev runA (c : Dev nD) (t : Fin (cfg0 (F := F)).N) (h : 2 ≤ t.val % 64) :=
  bodyRunA c (envAt m c t) (ms3 t) (hs3 t) (ms5 t) (hs5 t) (iblk m c 3 t) (trips t) (trips_le t) (start_eq t)
    ((cond1_iff t).mpr h) (fun h' => (cond2_iff t).mp h' h)
/-- The run at a point with fewer. -/
abbrev runB (c : Dev nD) (t : Fin (cfg0 (F := F)).N) (h : ¬ 2 ≤ t.val % 64) :=
  bodyRunB c (envAt m c t) (ms3 t) (hs3 t) (ms5 t) (hs5 t) (iblk m c 3 t) (trips t) (trips_le t) (start_eq t)
    (fun h' => h ((cond1_iff t).mp h')) ((cond2_iff t).mpr h)

/-- The output block of point `t`. -/
def outAt (c : Dev nD) (t : Fin (cfg0 (F := F)).N) : Vec F S1x128x512 .bf16 :=
  if h : 2 ≤ t.val % 64 then VO.read (Elt F) (VO.writes (Elt F) VO.junk (runA m c t h).2.2.2.1)
  else VO.read (Elt F) (VO.writes (Elt F) VO.junk (runB m c t h).2.2.2.1)

set_option maxHeartbeats 1000000 in
theorem coverA8 (c : Dev nD) (t : Fin (cfg0 (F := F)).N) (h : 2 ≤ t.val % 64) (y : S1x128x512.Idx) : ∃ pc ∈ (runA m c t h).2.2.2.1, y ∈ pc.1.set :=
  View.cover_of_tiledL (runA m c t h).2.2.2.1 S1x128x128.size (by sl_kernel_rfl) y
set_option maxHeartbeats 1000000 in
theorem coverB8 (c : Dev nD) (t : Fin (cfg0 (F := F)).N) (h : ¬ 2 ≤ t.val % 64) (y : S1x128x512.Idx) : ∃ pc ∈ (runB m c t h).2.2.2.1, y ∈ pc.1.set :=
  View.cover_of_tiledL (runB m c t h).2.2.2.1 S1x128x128.size (by sl_kernel_rfl) y

/-- The proof data of the pipeline: the inputs stay, the output block is `outAt`, nothing is carried between points. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = outAt m c t := by dsimp only [dats]; rfl
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0 m c]; unfold Dat.blockOf iblk; rw [A_eq m c 0]; try rfl) t d).trans
    (by unfold Dat.fetched Dat.blockOf iblk; rw [A_eq m c 0]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1 m c]; unfold Dat.blockOf iblk; rw [A_eq m c 1]; try rfl) t d).trans
    (by unfold Dat.fetched Dat.blockOf iblk; rw [A_eq m c 1]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2 m c]; unfold Dat.blockOf iblk; rw [A_eq m c 2]; try rfl) t d).trans
    (by unfold Dat.fetched Dat.blockOf iblk; rw [A_eq m c 2]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3 m c]; unfold Dat.blockOf iblk; rw [A_eq m c 3]; try rfl) t d).trans
    (by unfold Dat.fetched Dat.blockOf iblk; rw [A_eq m c 3]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4 m c]; unfold Dat.blockOf iblk; rw [A_eq m c 4]; try rfl) t d).trans
    (by unfold Dat.fetched Dat.blockOf iblk; rw [A_eq m c 4]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4000000 in
/-- The body at any point: by cases on whether at least two key blocks precede it, the run of that case. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl, PhiA0_eq]
  by_cases h : 2 ≤ t.val % 64
  · rw [outAt, dif_pos h]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runA m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, HS1⟩
    isplitl [HS0 HS1 Hg]
    · isplitl [HS0 HS1]
      · isplitl [HS0]; · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA8 m c t h)
  · rw [outAt, dif_neg h]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runB m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, HS1⟩
    isplitl [HS0 HS1 Hg]
    · isplitl [HS0 HS1]
      · isplitl [HS0]; · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB8 m c t h)

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch: the pipeline's arrays end at what the proof data says, every other buffer as before, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (show ∀ w : Fin 6, (spec0 w).arr.view.ref ≠ main_arg3 from by decide))).trans (V_main_arg3 m c)⟩) (run_main m ρ)

/-- The frame: from any memory every run ends, the arguments as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand
end
-- ==== Proof.AttnSpec.lean ====
/- The scalars one key gives to one query row, and the two lengths the kernel
   keeps as it walks the keys: plain functions on the extended reals. -/
module
public import proofs.«01_k».proof.Proof.AttnFrame
public import Idealize.ShloMosaic.Lib.Pointwise
@[expose] public section
set_option maxRecDepth 16384
set_option maxHeartbeats 4000000
noncomputable section
namespace Cert.KernelIdeal.Hand
open Cert.KernelIdeal.Gen
open Idealize.ShloMosaic Idealize.ShloMosaic.Tactic

/-- The log of the sigmoid of `z`, as the kernel writes it. -/
def lb (z : EReal) : EReal := min z 0 - Ideal.log (1 + Ideal.exp (0 - FloatOps.absf (F := Ideal) (φ := .f32) z))

/-- The log of one minus the sigmoid of `z`. -/
def l1 (z : EReal) : EReal := lb z - z

/-- One query row of two stacked heads against one key: the upper half of the
    rows sees the first 64 lanes of the key, the lower half the other 64. -/
def dot (q : Fin 128 → Fin 128 → EReal) (row : Fin 256) (k : Fin 128 → EReal) : EReal :=
  ∑ x : Fin 128, (if h : row.val < 128 then
      Scalar.select (IntOp.cmpi CmpIPredicate.slt (BitVec.ofNat 32 x.val) 64#32) (q ⟨row.val, h⟩ x) 0
    else Scalar.select (IntOp.cmpi CmpIPredicate.slt (BitVec.ofNat 32 x.val) 64#32) 0
      (q ⟨row.val - 128, by have := row.isLt; omega⟩ x)) * k x

/-- The lanes of column `cc` of one key, zero past the end of the keys. -/
def keyAt (X : Vec Ideal S1x8192x512 .f32) (cc : Fin 4) (key : ℕ) (d : Fin 128) : EReal :=
  if h : key < 8192 then X (ix3 0 ⟨key, h⟩ ⟨128 * cc.val + d.val, by have := cc.isLt; have := d.isLt; omega⟩) else 0

theorem keyAt_pos {X : Vec Ideal S1x8192x512 .f32} {cc : Fin 4} {key : ℕ} {d : Fin 128} (h : key < 8192) :
    keyAt X cc key d = X (ix3 0 ⟨key, h⟩ ⟨128 * cc.val + d.val, by have := cc.isLt; have := d.isLt; omega⟩) :=
  dif_pos h

/-- The score of a query row against a key in column `cc`. -/
def score (x0 : Vec Ideal S1x128x512 .f32) (x1 : Vec Ideal S1x8192x512 .f32) (cc : Fin 4) (row : Fin 256)
    (key : ℕ) : EReal :=
  dot (fun r d => x0 (ix3 0 r ⟨128 * cc.val + d.val, by have := cc.isLt; have := d.isLt; omega⟩)) row (keyAt x1 cc key)

/-- The sum over lanes of a later column is the score. -/
theorem score_col (x0 : Vec Ideal S1x128x512 .f32) (x1 : Vec Ideal S1x8192x512 .f32) (cc : Fin 4) (off : ℕ)
    (ho : off = 128 * cc.val) (row : Fin 256) (key : ℕ) (hk : key < 8192) (hl : ∀ x : Fin 128, off + x.val < 512) :
    (∑ x : Fin 128, (if h : row.val < 128 then
        Scalar.select (IntOp.cmpi CmpIPredicate.slt (BitVec.ofNat 32 x.val) 64#32)
          (x0 (ix3 0 ⟨row.val, h⟩ ⟨off + x.val, hl x⟩)) 0
      else Scalar.select (IntOp.cmpi CmpIPredicate.slt (BitVec.ofNat 32 x.val) 64#32) 0
        (x0 (ix3 0 ⟨row.val - 128, by have := row.isLt; omega⟩ ⟨off + x.val, hl x⟩))) *
      x1 (ix3 0 ⟨key, hk⟩ ⟨off + x.val, hl x⟩)) = score x0 x1 cc row key := by
  subst ho
  unfold score dot
  simp only [keyAt_pos hk]

/-- The sum over lanes of the first column is the score. -/
theorem score_zero (x0 : Vec Ideal S1x128x512 .f32) (x1 : Vec Ideal S1x8192x512 .f32)
    (row : Fin 256) (key : ℕ) (hk : key < 8192) :
    (∑ x : Fin 128, (if h : row.val < 128 then
        Scalar.select (IntOp.cmpi CmpIPredicate.slt (BitVec.ofNat 32 x.val) 64#32)
          (x0 (ix3 0 ⟨row.val, h⟩ ⟨x.val, by have := x.isLt; omega⟩)) 0
      else Scalar.select (IntOp.cmpi CmpIPredicate.slt (BitVec.ofNat 32 x.val) 64#32) 0
        (x0 (ix3 0 ⟨row.val - 128, by have := row.isLt; omega⟩ ⟨x.val, by have := x.isLt; omega⟩))) *
      x1 (ix3 0 ⟨key, hk⟩ ⟨x.val, by have := x.isLt; omega⟩)) = score x0 x1 0 row key := by
  rw [← score_col x0 x1 0 0 rfl row key hk (fun x => by have := x.isLt; omega)]
  simp only [Nat.zero_add]

/-- What a block of `w` keys from key `s` adds to the run. -/
def blockRun (z : ℕ → EReal) (s w : ℕ) : EReal := ∑ x : Fin w, l1 (z (s + x.val))

/-- What a block of `w` keys from key `s` adds to one accumulated lane, from a
    run `r`; `aft` marks the pairs whose first key comes after the second. -/
def blockAcc (z v : ℕ → EReal) {w : ℕ} (aft : Fin w → Fin w → EReal) (r : EReal) (s : ℕ) : EReal :=
  ∑ x : Fin w, Ideal.exp (lb (z (s + x.val)) + ((∑ y : Fin w, l1 (z (s + y.val)) * aft y x) +
    (∑ y : Fin w, (l1 (z (s + y.val)) - l1 (z (s + y.val))) * aft y x)) + r) * v (s + x.val)

theorem key_off : ∀ n : Fin 63, BitVec.toNat (Scalar.indexCast (Scalar.muli (blk (n.val + 1)) 128#32)) = 128 * n.val := by decide +kernel

theorem read_run (h : (Memref.whole cc0_scratch0).IsWhole) (X : Vec Ideal S4x256x1 .f32) :
    View.read (Elt Ideal) (View.whole cc0_scratch0) (h.unread X) = X := h.read_unread X
theorem read_acc (h : (Memref.whole cc0_scratch1).IsWhole) (X : Vec Ideal S4x256x128 .f32) :
    View.read (Elt Ideal) (View.whole cc0_scratch1) (h.unread X) = X := h.read_unread X

theorem emb_run (k : ℕ) (hk : k < 4) (h) (x : Fin 256) :
    (Rect.unit (s := S4x256x1) ![k, 0, 0] ![1, 256, 1] h).emb (ix3 0 x 0) = ix3 ⟨k, hk⟩ x 0 := by
  funext a
  apply Fin.ext
  fin_cases a <;> simp [Rect.unit, Rect.emb, ix3]
theorem emb_acc (k : ℕ) (hk : k < 4) (h) (x : Fin 256) (d : Fin 128) :
    (Rect.unit (s := S4x256x128) ![k, 0, 0] ![1, 256, 128] h).emb (ix3 0 x d) = ix3 ⟨k, hk⟩ x d := by
  funext a
  apply Fin.ext
  fin_cases a <;> simp [Rect.unit, Rect.emb, ix3]

/-- A table by column and row, as the contents of the run. -/
def asRun (g : Fin 4 → Fin 256 → EReal) : Vec Ideal S4x256x1 .f32 := fun y => g (y 0) (y 1)

theorem asRun_emb (g : Fin 4 → Fin 256 → EReal) (k : ℕ) (hk : k < 4) (h) (x : Fin 256) :
    asRun g ((Rect.unit (s := S4x256x1) ![k, 0, 0] ![1, 256, 1] h).emb (ix3 0 x 0)) = g ⟨k, hk⟩ x := by
  rw [emb_run k hk]; rfl

/-- A table by column, row and lane, as the contents of the accumulator. -/
def asAcc (g : Fin 4 → Fin 256 → Fin 128 → EReal) : Vec Ideal S4x256x128 .f32 := fun y => g (y 0) (y 1) (y 2)

theorem asAcc_emb (g : Fin 4 → Fin 256 → Fin 128 → EReal) (k : ℕ) (hk : k < 4) (h) (x : Fin 256) (d : Fin 128) :
    asAcc g ((Rect.unit (s := S4x256x128) ![k, 0, 0] ![1, 256, 128] h).emb (ix3 0 x d)) = g ⟨k, hk⟩ x d := by
  rw [emb_acc k hk]; rfl

theorem diag_off : ∀ i : Fin 64,
    BitVec.toNat (Scalar.indexCast (Scalar.muli (BitVec.ofNat 32 i.val) 128#32)) = 128 * i.val := by decide +kernel

theorem wide_off : ∀ i : Fin 64, 2 ≤ i.val →
    BitVec.toNat (Scalar.indexCast (Scalar.subi (Scalar.muli (BitVec.ofNat 32 i.val) 128#32) 256#32)) = 128 * (i.val - 2) := by
  decide +kernel

/-- Whether the `x`th key of a row's own block comes before the row. -/
def before (x : Fin 128) (row : Fin 256) : BitVec 1 :=
  IntOp.cmpi CmpIPredicate.slt (BitVec.ofNat 32 x.val) (IntOp.andi (BitVec.ofNat 32 row.val) 127#32)

/-- What a row's own block of keys, from key `s`, adds to the run: only the keys before the row count. -/
def diagRun (z : ℕ → EReal) (row : Fin 256) (s : ℕ) : EReal :=
  ∑ x : Fin 128, Scalar.select (before x row) (l1 (z (s + x.val))) 0

/-- What a row's own block of keys, from key `s`, adds to one accumulated lane. -/
def diagAcc (z v : ℕ → EReal) (aft : Fin 128 → Fin 128 → EReal) (row : Fin 256) (s : ℕ) : EReal :=
  ∑ x : Fin 128, Scalar.select (before x row) (Ideal.exp (lb (z (s + x.val)) +
    ((∑ y : Fin 128, Scalar.select (before y row) (l1 (z (s + y.val)) * aft y x) 0) +
     (∑ y : Fin 128, (Scalar.select (before y row) (l1 (z (s + y.val))) 0 -
        Scalar.select (before y row) (l1 (z (s + y.val))) 0) * aft y x))) * v (s + x.val)) 0

/-- Lane `d` of query `r` out of two stacked heads: the upper half of the rows holds the first 64 lanes. -/
def mix (a : Fin 256 → Fin 128 → EReal) (r d : Fin 128) : EReal :=
  Scalar.select (IntOp.cmpi CmpIPredicate.slt (BitVec.ofNat 32 d.val) 64#32)
    (a ⟨r.val, by omega⟩ d) (a ⟨128 + r.val, by omega⟩ d)

/-- The normalised output of one column: each lane over the root of the mean
    square of its head, times the gain `g`. -/
def normed (a : Fin 256 → Fin 128 → EReal) (g : Fin 128 → EReal) (r d : Fin 128) : EReal :=
  mix a r d * Ideal.rsqrt (Scalar.select (IntOp.cmpi CmpIPredicate.slt (BitVec.ofNat 32 d.val) 64#32)
      (∑ x : Fin 128, Scalar.select (IntOp.cmpi CmpIPredicate.slt (BitVec.ofNat 32 x.val) 64#32) (mix a r x * mix a r x) 0)
      (∑ x : Fin 128, Scalar.select (IntOp.cmpi CmpIPredicate.slt (BitVec.ofNat 32 x.val) 64#32) 0 (mix a r x * mix a r x))
    * Ideal.ofBits FTy.f32 1015021568#32 + Ideal.ofBits FTy.f32 897988541#32) * g d

/-- A table by column, query and lane, as one block of the output. -/
def asOut (g : Fin 4 → Fin 128 → Fin 128 → EReal) : Vec Ideal S1x128x512 .bf16 := fun y =>
  g ⟨(y 2).val / 128, by have : (y 2).val < 512 := (y 2).isLt; omega⟩ (y 1) ⟨(y 2).val % 128, Nat.mod_lt _ (by decide)⟩

theorem asOut_emb (g : Fin 4 → Fin 128 → Fin 128 → EReal) (off k : ℕ) (hk : k < 4) (ho : off = 128 * k) (h) (x d : Fin 128) :
    asOut g ((Rect.unit (s := S1x128x512) ![0, 0, off] ![1, 128, 128] h).emb (ix3 0 x d)) = g ⟨k, hk⟩ x d := by
  subst ho
  have hd := d.isLt
  have h2 : ((Rect.unit (s := S1x128x512) ![0, 0, 128 * k] ![1, 128, 128] h).emb (ix3 0 x d) 2).val = 128 * k + d.val := by
    simp [Rect.unit, Rect.emb, ix3]
  refine congr (congr (congrArg g (Fin.ext ?_)) (Fin.ext ?_)) (Fin.ext ?_)
  · show _ / 128 = k
    rw [h2]; omega
  · simp [Rect.unit, Rect.emb, ix3]
  · show _ % 128 = d.val
    rw [h2]; omega

end Cert.KernelIdeal.Hand
end
-- ==== Proof.AttnPass.lean ====
/- What one pass of the loop leaves in the run and in the accumulator. -/
module
public import proofs.«01_k».proof.Proof.AttnSpec
@[expose] public section
set_option maxRecDepth 16384
set_option maxHeartbeats 1000000
noncomputable section
namespace Cert.KernelIdeal.Hand
open Cert.KernelIdeal.Gen
open Idealize.ShloMosaic Idealize.ShloMosaic.Tactic

theorem pass_R (c : Dev nD) (e : Env Ideal) (n : Fin 63) (R : Vec Ideal S4x256x1 .f32) (A: Vec Ideal S4x256x128 .f32) :
    readR (pass c e n R A).2.1 = asRun fun cc row => R (ix3 cc row 0) + blockRun (score e.x0 e.x1 cc row) (128 * n.val) 128 := by
  funext y
  refine View.read_writes_apply_of_pieces _ _ (asRun _) _ ?_ y (coverR c e n R A y)
  unfold pass iterRun
  dsimp only
  sl_unfold_words
  simp only [List.forall_mem_cons, List.not_mem_nil, false_imp_iff, implies_true, and_true]
  have hn := n.isLt
  have hz0 := fun row (x : Fin 128) => score_zero e.x0 e.x1 row (128 * n.val + x.val) (by omega)
  have hz1 := fun row (x : Fin 128) => score_col e.x0 e.x1 1 128 rfl row (128 * n.val + x.val) (by omega) (by omega)
  have hz2 := fun row (x : Fin 128) => score_col e.x0 e.x1 2 256 rfl row (128 * n.val + x.val) (by omega) (by omega)
  have hz3 := fun row (x : Fin 128) => score_col e.x0 e.x1 3 384 rfl row (128 * n.val + x.val) (by omega) (by omega)
  refine ⟨?_, ?_, ?_, ?_⟩
  all_goals
    intro x
    idx_vars x
    obtain rfl : x0 = 0 := Subsingleton.elim _ _
    obtain rfl : x2 = 0 := Subsingleton.elim _ _
    rw [asRun_emb _ _ (by decide)]
    simp only [View.readAt_eq_ld, Memref.IsWhole.read_unread]
    unfold_payloads
    pointwise
    simp only [key_off n, read_run]
    first | simp only [hz0] | simp only [hz1] | simp only [hz2] | simp only [hz3]
    unfold blockRun l1 lb
    rfl
theorem pass_A (c : Dev nD) (e : Env Ideal) (n : Fin 63) (R : Vec Ideal S4x256x1 .f32) (A: Vec Ideal S4x256x128 .f32) :
    readA (pass c e n R A).2.2.1 = asAcc fun cc row d => A (ix3 cc row d) +
      blockAcc (score e.x0 e.x1 cc row) (fun key => keyAt e.x2 cc key d)
        (fun y x : Fin 128 => e.x4 (ix2 ⟨y.val, by omega⟩ ⟨x.val, by omega⟩)) (R (ix3 cc row 0)) (128 * n.val) := by
  funext y
  refine View.read_writes_apply_of_pieces _ _ (asAcc _) _ ?_ y (coverA c e n R A y)
  unfold pass iterRun
  dsimp only
  sl_unfold_words
  simp only [List.forall_mem_cons, List.not_mem_nil, false_imp_iff, implies_true, and_true]
  have hn := n.isLt
  have hv : ∀ (cc : Fin 4) (x : Fin 128) d, keyAt e.x2 cc (128 * n.val + x.val) d = e.x2 (ix3 0 ⟨128 * n.val + x.val, by omega⟩ ⟨128 * cc.val + d.val, by have := cc.isLt; have := d.isLt; omega⟩) := fun cc x d => keyAt_pos _
  have hz0 := fun row (x : Fin 128) => score_zero e.x0 e.x1 row (128 * n.val + x.val) (by omega)
  have hz1 := fun row (x : Fin 128) => score_col e.x0 e.x1 1 128 rfl row (128 * n.val + x.val) (by omega) (by omega)
  have hz2 := fun row (x : Fin 128) => score_col e.x0 e.x1 2 256 rfl row (128 * n.val + x.val) (by omega) (by omega)
  have hz3 := fun row (x : Fin 128) => score_col e.x0 e.x1 3 384 rfl row (128 * n.val + x.val) (by omega) (by omega)
  refine ⟨?_, ?_, ?_, ?_⟩
  all_goals
    intro x
    idx_vars x
    obtain rfl : x0 = 0 := Subsingleton.elim _ _
    rw [asAcc_emb _ _ (by decide)]
    simp only [View.readAt_eq_ld, Memref.IsWhole.read_unread]
    unfold_payloads
    pointwise
    simp only [key_off n, read_run, read_acc]
    first | simp only [hz0] | simp only [hz1] | simp only [hz2] | simp only [hz3]
    unfold blockAcc l1 lb
    simp only [hv]
    first | (simp only [Fin.val_zero, Nat.mul_zero, Nat.zero_add]; done) | rfl
end Cert.KernelIdeal.Hand
end
-- ==== Proof.AttnOut.lean ====
/- What is stored to the output block, from the accumulator the loop leaves. -/
module
public import proofs.«01_k».proof.Proof.AttnSpec
@[expose] public section
set_option maxRecDepth 16384
set_option maxHeartbeats 1000000
noncomputable section
namespace Cert.KernelIdeal.Hand
open Cert.KernelIdeal.Gen
open Idealize.ShloMosaic Idealize.ShloMosaic.Tactic
variable (c : Dev nD) (e : Env Ideal) (a6 : Memref sig .tc .vmem S1x512 .f32) (h6 : a6.IsWhole)
    (a8 : Memref sig .tc .vmem S1x128x512 .bf16) (h8 : a8.IsWhole) (x3 : Vec Ideal S1x512 .f32) (n : ℕ) (hn : n ≤ 63)
    (hstart : startBlk e.i = blk n)

theorem outA_pieces (hc1 : k0_cond1 e.i = 1#1) (hc2 : ¬ k0_cond2 e.i = 1#1) (A : Vec Ideal S4x256x128 .f32)
    (hA : (loop c e n hn (bodyRunA c e a6 h6 a8 h8 x3 n hn hstart hc1 hc2).2.2.1
      (readR (bodyRunA c e a6 h6 a8 h8 x3 n hn hstart hc1 hc2).1) (readA (bodyRunA c e a6 h6 a8 h8 x3 n hn hstart hc1 hc2).2.1)).2 = A) :
    ∀ p ∈ (bodyRunA c e a6 h6 a8 h8 x3 n hn hstart hc1 hc2).2.2.2.1, ∀ x, p.2 x =
      asOut (fun cc r d => normed (fun row d => A (ix3 cc row d))
        (fun d => x3 (ix2 0 ⟨128 * cc.val + d.val, by have := cc.isLt; omega⟩)) r d) (p.1.emb x) := by
  revert hA
  unfold bodyRunA
  dsimp only
  sl_unfold_words
  intro hA
  simp only [hA]
  clear hA
  simp only [List.forall_mem_cons, List.not_mem_nil, false_imp_iff, implies_true, and_true]
  refine ⟨?_, ?_, ?_, ?_⟩
  all_goals
    intro x
    idx_vars x
    obtain rfl : x0 = 0 := Subsingleton.elim _ _
    first
      | rw [asOut_emb _ _ 0 (by decide) rfl] | rw [asOut_emb _ _ 1 (by decide) rfl]
      | rw [asOut_emb _ _ 2 (by decide) rfl] | rw [asOut_emb _ _ 3 (by decide) rfl]
    simp only [View.readAt_eq_ld, Memref.IsWhole.read_unread]
    unfold_payloads
    pointwise
    simp only [Memref.IsWhole.read_unread, read_acc]
    unfold normed mix
    first | rfl | simp only [Fin.val_zero, Nat.mul_zero, Nat.zero_add] | (simp only [Nat.mul_zero, Nat.zero_add]; rfl)

theorem outA (hc1 : k0_cond1 e.i = 1#1) (hc2 : ¬ k0_cond2 e.i = 1#1) :
    VO.read (Elt Ideal) (VO.writes (Elt Ideal) VO.junk (bodyRunA c e a6 h6 a8 h8 x3 n hn hstart hc1 hc2).2.2.2.1) =
      asOut fun cc r d => normed (fun row d => (loop c e n hn (bodyRunA c e a6 h6 a8 h8 x3 n hn hstart hc1 hc2).2.2.1
      (readR (bodyRunA c e a6 h6 a8 h8 x3 n hn hstart hc1 hc2).1) (readA (bodyRunA c e a6 h6 a8 h8 x3 n hn hstart hc1 hc2).2.1)).2 (ix3 cc row d))
        (fun d => x3 (ix2 0 ⟨128 * cc.val + d.val, by have := cc.isLt; omega⟩)) r d := by
  funext y
  refine View.read_writes_apply_of_pieces _ _ (asOut _) _ (outA_pieces c e a6 h6 a8 h8 x3 n hn hstart hc1 hc2 _ rfl) y ?_
  revert y; exact View.cover_of_tiledL _ S1x128x128.size (by sl_kernel_rfl)

theorem outB_pieces (hc1 : ¬ k0_cond1 e.i = 1#1) (hc2 : k0_cond2 e.i = 1#1) (A : Vec Ideal S4x256x128 .f32)
    (hA : (loop c e n hn (bodyRunB c e a6 h6 a8 h8 x3 n hn hstart hc1 hc2).2.2.1
      (readR (bodyRunB c e a6 h6 a8 h8 x3 n hn hstart hc1 hc2).1) (readA (bodyRunB c e a6 h6 a8 h8 x3 n hn hstart hc1 hc2).2.1)).2 = A) :
    ∀ p ∈ (bodyRunB c e a6 h6 a8 h8 x3 n hn hstart hc1 hc2).2.2.2.1, ∀ x, p.2 x =
      asOut (fun cc r d => normed (fun row d => A (ix3 cc row d))
        (fun d => x3 (ix2 0 ⟨128 * cc.val + d.val, by have := cc.isLt; omega⟩)) r d) (p.1.emb x) := by
  revert hA
  unfold bodyRunB
  dsimp only
  sl_unfold_words
  intro hA
  simp only [hA]
  clear hA
  simp only [List.forall_mem_cons, List.not_mem_nil, false_imp_iff, implies_true, and_true]
  refine ⟨?_, ?_, ?_, ?_⟩
  all_goals
    intro x
    idx_vars x
    obtain rfl : x0 = 0 := Subsingleton.elim _ _
    first
      | rw [asOut_emb _ _ 0 (by decide) rfl] | rw [asOut_emb _ _ 1 (by decide) rfl]
      | rw [asOut_emb _ _ 2 (by decide) rfl] | rw [asOut_emb _ _ 3 (by decide) rfl]
    simp only [View.readAt_eq_ld, Memref.IsWhole.read_unread]
    unfold_payloads
    pointwise
    simp only [Memref.IsWhole.read_unread, read_acc]
    unfold normed mix
    first | rfl | simp only [Fin.val_zero, Nat.mul_zero, Nat.zero_add] | (simp only [Nat.mul_zero, Nat.zero_add]; rfl)

theorem outB (hc1 : ¬ k0_cond1 e.i = 1#1) (hc2 : k0_cond2 e.i = 1#1) :
    VO.read (Elt Ideal) (VO.writes (Elt Ideal) VO.junk (bodyRunB c e a6 h6 a8 h8 x3 n hn hstart hc1 hc2).2.2.2.1) =
      asOut fun cc r d => normed (fun row d => (loop c e n hn (bodyRunB c e a6 h6 a8 h8 x3 n hn hstart hc1 hc2).2.2.1
      (readR (bodyRunB c e a6 h6 a8 h8 x3 n hn hstart hc1 hc2).1) (readA (bodyRunB c e a6 h6 a8 h8 x3 n hn hstart hc1 hc2).2.1)).2 (ix3 cc row d))
        (fun d => x3 (ix2 0 ⟨128 * cc.val + d.val, by have := cc.isLt; omega⟩)) r d := by
  funext y
  refine View.read_writes_apply_of_pieces _ _ (asOut _) _ (outB_pieces c e a6 h6 a8 h8 x3 n hn hstart hc1 hc2 _ rfl) y ?_
  revert y; exact View.cover_of_tiledL _ S1x128x128.size (by sl_kernel_rfl)

end Cert.KernelIdeal.Hand
end
-- ==== Proof.AttnWalk.lean ====
/- The flag that keeps the loop going, and what the loop leaves in the accumulator. -/
module
public import proofs.«01_k».proof.Proof.AttnPass
public import proofs.«01_k».proof.Proof.AttnOut
@[expose] public section
set_option maxRecDepth 16384
set_option maxHeartbeats 1000000
noncomputable section
namespace Cert.KernelIdeal.Hand
open Cert.KernelIdeal.Gen
open Idealize.ShloMosaic Idealize.ShloMosaic.Tactic
variable (c : Dev nD) (e : Env Ideal) (a6 : Memref sig .tc .vmem S1x512 .f32) (h6 : a6.IsWhole)
    (a8 : Memref sig .tc .vmem S1x128x512 .bf16) (h8 : a8.IsWhole) (x3 : Vec Ideal S1x512 .f32) (n : ℕ) (hn : n ≤ 63)
    (hstart : startBlk e.i = blk n)

theorem top_run (R : Vec Ideal S4x256x1 .f32) (h : R (ix3 0 0 0) ≠ ⊥) :
    Scalar.cmpf CmpFPredicate.ogt (k0_pay3 R) (Named.named κ "log_zero" 0xC2D16666#32 : Ideal .f32) = 1#1 := by
  have : (⊥ : EReal) < k0_pay3 R := by
    unfold k0_pay3
    dsimp only
    pointwise
    rw [Finset.lt_fold_max]
    right
    refine ⟨ix4 0 0 0 0, ?_, ?_⟩
    · simp only [Finset.mem_filter, Finset.mem_univ, true_and]
      funext a
      fin_cases a
      exact Subsingleton.elim (α := Fin 1) _ _
    · exact bot_lt_iff_ne_bot.mpr h
  have hb : (Named.named κ "log_zero" 0xC2D16666#32 : Ideal .f32) = (⊥ : EReal) := rfl
  rw [hb]
  show BitVec.ofBool (decide ((⊥ : EReal) < k0_pay3 R)) = 1#1
  rw [decide_eq_true this]
  rfl

theorem whole_run (L : List (View.Piece (Elt Ideal) S4x256x1 .f32)) :
    sR.view.readCov (Val := Elt Ideal) L (Rect.unit ![0, 0, 0] ![4, 256, 1] inb_S4x256x1_S4x256x1_0_0_0).toLoadRect = readR L := by
  funext x
  idx_vars x
  show readR L _ = _
  congr 1
  funext a
  apply Fin.ext
  fin_cases a <;> simp [Rect.unit, ix3, Rect.toLoadRect, LoadRect.idx]

theorem flag_pass (R : Vec Ideal S4x256x1 .f32) (A : Vec Ideal S4x256x128 .f32) (k : Fin 63) (h : readR (pass c e k R A).2.1 (ix3 0 0 0) ≠ ⊥) :
    (pass c e k R A).1 = 1#1 := by
  have key : (pass c e k R A).1 = Scalar.cmpf CmpFPredicate.ogt
      (k0_pay3 (sR.view.readCov (pass c e k R A).2.1 (Rect.unit ![0, 0, 0] ![4, 256, 1] inb_S4x256x1_S4x256x1_0_0_0).toLoadRect))
      (Named.named κ "log_zero" 0xC2D16666#32 : Ideal .f32) := by
    unfold pass iterRun
    dsimp only
    rfl
  rw [key, whole_run]
  exact top_run _ h

theorem flagA (hc1 : k0_cond1 e.i = 1#1) (hc2 : ¬ k0_cond2 e.i = 1#1) (h : readR (bodyRunA c e a6 h6 a8 h8 x3 n hn hstart hc1 hc2).1 (ix3 0 0 0) ≠ ⊥) :
    (bodyRunA c e a6 h6 a8 h8 x3 n hn hstart hc1 hc2).2.2.1 = 1#1 := by
  have key : (bodyRunA c e a6 h6 a8 h8 x3 n hn hstart hc1 hc2).2.2.1 = Scalar.cmpf CmpFPredicate.ogt
      (k0_pay3 (sR.view.readCov (bodyRunA c e a6 h6 a8 h8 x3 n hn hstart hc1 hc2).1 (Rect.unit ![0, 0, 0] ![4, 256, 1] inb_S4x256x1_S4x256x1_0_0_0).toLoadRect))
      (Named.named κ "log_zero" 0xC2D16666#32 : Ideal .f32) := by
    unfold bodyRunA
    dsimp only
    rfl
  rw [key, whole_run]
  exact top_run _ h

theorem flagB (hc1 : ¬ k0_cond1 e.i = 1#1) (hc2 : k0_cond2 e.i = 1#1) (h : readR (bodyRunB c e a6 h6 a8 h8 x3 n hn hstart hc1 hc2).1 (ix3 0 0 0) ≠ ⊥) :
    (bodyRunB c e a6 h6 a8 h8 x3 n hn hstart hc1 hc2).2.2.1 = 1#1 := by
  have key : (bodyRunB c e a6 h6 a8 h8 x3 n hn hstart hc1 hc2).2.2.1 = Scalar.cmpf CmpFPredicate.ogt
      (k0_pay3 (sR.view.readCov (bodyRunB c e a6 h6 a8 h8 x3 n hn hstart hc1 hc2).1 (Rect.unit ![0, 0, 0] ![4, 256, 1] inb_S4x256x1_S4x256x1_0_0_0).toLoadRect))
      (Named.named κ "log_zero" 0xC2D16666#32 : Ideal .f32) := by
    unfold bodyRunB
    dsimp only
    rfl
  rw [key, whole_run]
  exact top_run _ h

/-- The run and the accumulated lane after `n` more blocks of 128 keys, the
    last block first. -/
def walk (z v : ℕ → EReal) (aft : Fin 128 → Fin 128 → EReal) : ℕ → EReal → EReal → EReal
  | 0, _, a => a
  | n + 1, r, a => walk z v aft n (r + blockRun z (128 * n) 128) (a + blockAcc z v aft r (128 * n))

theorem asRun_apply (g : Fin 4 → Fin 256 → EReal) (cc row) : asRun g (ix3 cc row 0) = g cc row := rfl
theorem asAcc_apply (g : Fin 4 → Fin 256 → Fin 128 → EReal) (cc row d) : asAcc g (ix3 cc row d) = g cc row d := rfl

theorem blockRun_ne_bot (z : ℕ → EReal) (hz : ∀ key, l1 (z key) ≠ ⊥) (s w : ℕ) : blockRun z s w ≠ ⊥ := by
  unfold blockRun
  induction (Finset.univ : Finset (Fin w)) using Finset.cons_induction with
  | empty => simp
  | cons x s hx ih =>
    rw [Finset.sum_cons]
    intro h
    rcases EReal.add_eq_bot_iff.mp h with h | h
    · exact hz _ h
    · exact ih h

theorem loop_acc (hz : ∀ key, l1 (score e.x0 e.x1 0 0 key) ≠ ⊥) (n : ℕ) (hn : n ≤ 63)
    (R : Vec Ideal S4x256x1 .f32) (A : Vec Ideal S4x256x128 .f32) (hR : R (ix3 0 0 0) ≠ ⊥) (cc row d) :
    (loop c e n hn 1#1 R A).2 (ix3 cc row d) =
      walk (score e.x0 e.x1 cc row) (fun key => keyAt e.x2 cc key d)
        (fun y x => e.x4 (ix2 ⟨y.val, by omega⟩ ⟨x.val, by omega⟩)) n (R (ix3 cc row 0)) (A (ix3 cc row d)) := by
  induction n generalizing R A with
  | zero => rfl
  | succ n ih =>
    have hR' : readR (pass c e ⟨n, hn⟩ R A).2.1 (ix3 0 0 0) ≠ ⊥ := by
      rw [pass_R, asRun_apply]
      intro h
      rcases EReal.add_eq_bot_iff.mp h with h | h
      · exact hR h
      · exact blockRun_ne_bot _ hz _ _ h
    have hl : loop c e (n + 1) hn 1#1 R A = loop c e n (by omega) (pass c e ⟨n, hn⟩ R A).1
        (readR (pass c e ⟨n, hn⟩ R A).2.1) (readA (pass c e ⟨n, hn⟩ R A).2.2.1) := by
      rw [loop]; exact if_pos rfl
    have hf := congrArg (fun f => loop c e n (by omega) f (readR (pass c e ⟨n, hn⟩ R A).2.1)
      (readA (pass c e ⟨n, hn⟩ R A).2.2.1)) (flag_pass c e R A ⟨n, hn⟩ hR')
    have hr : readR (pass c e ⟨n, hn⟩ R A).2.1 (ix3 cc row 0) = _ := congrFun (pass_R c e ⟨n, hn⟩ R A) (ix3 cc row 0)
    have ha : readA (pass c e ⟨n, hn⟩ R A).2.2.1 (ix3 cc row d) = _ := congrFun (pass_A c e ⟨n, hn⟩ R A) (ix3 cc row d)
    exact (congrFun (congrArg Prod.snd (hl.trans hf)) _).trans
      ((ih (by omega) _ (readA (pass c e ⟨n, hn⟩ R A).2.2.1) hR').trans (congrArg₂ (walk _ _ _ n) hr ha))

end Cert.KernelIdeal.Hand
end
-- ==== Proof.AttnMath.lean ====
/- The walk over key blocks as one sum over the keys before a query: pure arithmetic on the extended reals. -/
module
public import proofs.«01_k».proof.Proof.AttnWalk
@[expose] public section
noncomputable section
namespace Cert.KernelIdeal.Hand
open Idealize.ShloMosaic
open Finset (Ico)

/-- The run over the keys from `s` up to `p`. -/
def runTo (z : ℕ → EReal) (s p : ℕ) : EReal := ∑ k ∈ Ico s p, l1 (z k)

/-- One accumulated lane over the keys from `s` up to `p`. -/
def accTo (z v : ℕ → EReal) (s p : ℕ) : EReal := ∑ k ∈ Ico s p, Ideal.exp (lb (z k) + runTo z (k + 1) p) * v k

/-- The pairs whose first key comes after the second. -/
def after {w : ℕ} (y x : Fin w) : EReal := if x.val < y.val then 1 else 0

theorem sum_fin_Ico {w : ℕ} (f : ℕ → EReal) (a b : ℕ) (hb : b ≤ w) (s : ℕ) :
    (∑ y : Fin w, if a ≤ y.val ∧ y.val < b then f (s + y.val) else 0) = ∑ k ∈ Ico (s + a) (s + b), f k := by
  rw [Fin.sum_univ_eq_sum_range (fun y => if a ≤ y ∧ y < b then f (s + y) else 0) w, ← Finset.sum_filter]
  have : (Finset.range w).filter (fun y => a ≤ y ∧ y < b) = Ico a b := by
    ext y; simp only [Finset.mem_filter, Finset.mem_range, Finset.mem_Ico]; omega
  rw [this, Finset.sum_Ico_add, add_comm a s, add_comm b s]

theorem sum_after {w : ℕ} (z : ℕ → EReal) (s j : ℕ) (hj : j ≤ w) (x : Fin w) :
    (∑ y : Fin w, (if y.val < j then l1 (z (s + y.val)) else 0) * after y x) = runTo z (s + x.val + 1) (s + j) := by
  unfold runTo
  rw [show s + x.val + 1 = s + (x.val + 1) by omega, ← sum_fin_Ico (fun k => l1 (z k)) (x.val + 1) j hj s]
  refine Finset.sum_congr rfl fun y _ => ?_
  unfold after
  by_cases h1 : y.val < j <;> by_cases h2 : x.val < y.val
  · rw [if_pos h1, if_pos h2, mul_one]
    exact (if_pos ⟨h2, h1⟩).symm
  · rw [if_neg h2, mul_zero]
    exact (if_neg fun h => h2 h.1).symm
  · rw [if_neg h1, zero_mul]
    exact (if_neg fun h => h1 h.2).symm
  · rw [if_neg h1, zero_mul]
    exact (if_neg fun h => h1 h.2).symm

/-- Every score's second log is a real number. -/
def Tame (z : ℕ → EReal) : Prop := ∀ k, l1 (z k) ≠ ⊥ ∧ l1 (z k) ≠ ⊤

theorem runTo_split (z : ℕ → EReal) {s m p : ℕ} (h1 : s ≤ m) (h2 : m ≤ p) : runTo z s p = runTo z m p + runTo z s m := by
  unfold runTo
  rw [add_comm, Finset.sum_Ico_consecutive _ h1 h2]

theorem blockRun_eq (z : ℕ → EReal) (s w : ℕ) : blockRun z s w = runTo z s (s + w) := by
  unfold runTo
  have h := sum_fin_Ico (w := w) (fun k => l1 (z k)) 0 w le_rfl s
  rw [add_zero] at h
  rw [← h]
  exact Finset.sum_congr rfl fun y _ => (if_pos ⟨Nat.zero_le _, y.isLt⟩).symm

theorem blockAcc_eq (z v : ℕ → EReal) (hz : Tame z) (s w p : ℕ) (hp : s + w ≤ p) :
    accTo z v s p = accTo z v (s + w) p + blockAcc z v (w := w) after (runTo z (s + w) p) s := by
  have key : blockAcc z v (w := w) after (runTo z (s + w) p) s = ∑ k ∈ Ico s (s + w), Ideal.exp (lb (z k) + runTo z (k + 1) p) * v k := by
    have h := sum_fin_Ico (w := w) (fun k => Ideal.exp (lb (z k) + runTo z (k + 1) p) * v k) 0 w le_rfl s
    rw [add_zero] at h
    rw [← h]
    refine Finset.sum_congr rfl fun x _ => ?_
    rw [if_pos ⟨Nat.zero_le _, x.isLt⟩]
    have hx := x.isLt
    have h0 : (∑ y : Fin w, (l1 (z (s + y.val)) - l1 (z (s + y.val))) * after y x) = 0 :=
      Finset.sum_eq_zero fun y _ => by rw [EReal.sub_self (hz _).2 (hz _).1, zero_mul]
    have h1 : (∑ y : Fin w, l1 (z (s + y.val)) * after y x) = runTo z (s + x.val + 1) (s + w) := by
      rw [← sum_after z s w le_rfl x]
      exact Finset.sum_congr rfl fun y _ => by rw [if_pos y.isLt]
    rw [h0, h1, add_zero, add_assoc, runTo_split z (show s + x.val + 1 ≤ s + w by omega) hp, add_comm (runTo z (s + w) p)]
  rw [key]
  unfold accTo
  rw [add_comm, Finset.sum_Ico_consecutive _ (by omega) hp]

theorem walk_eq (z v : ℕ → EReal) (hz : Tame z) (p n : ℕ) (hn : 128 * n ≤ p) :
    walk z v after n (runTo z (128 * n) p) (accTo z v (128 * n) p) = accTo z v 0 p := by
  induction n with
  | zero => rfl
  | succ n ih =>
    have e : 128 * (n + 1) = 128 * n + 128 := by omega
    rw [e] at hn ⊢
    show walk z v after n (_ + _) (_ + _) = _
    rw [← blockAcc_eq z v hz (128 * n) 128 p hn, blockRun_eq, ← runTo_split z (by omega) hn]
    exact ih (by omega)

theorem before_iff (x : Fin 128) (row : Fin 256) : before x row = 1#1 ↔ x.val < row.val % 128 := by
  revert x row
  decide +kernel

theorem select_before (x : Fin 128) (row : Fin 256) (a b : EReal) :
    Scalar.select (before x row) a b = if x.val < row.val % 128 then a else b := by
  by_cases h : x.val < row.val % 128
  · rw [if_pos h]; exact if_pos ((before_iff x row).mpr h)
  · rw [if_neg h]; exact if_neg fun h' => h ((before_iff x row).mp h')

theorem diagRun_eq (z : ℕ → EReal) (row : Fin 256) (s : ℕ) : diagRun z row s = runTo z s (s + row.val % 128) := by
  unfold runTo diagRun
  have hr : row.val % 128 ≤ 128 := by omega
  have h := sum_fin_Ico (w := 128) (fun k => l1 (z k)) 0 _ hr s
  rw [add_zero] at h
  rw [← h]
  refine Finset.sum_congr rfl fun y _ => ?_
  rw [select_before]
  simp only [Nat.zero_le, true_and]

theorem diagAcc_eq (z v : ℕ → EReal) (hz : Tame z) (row : Fin 256) (s : ℕ) :
    diagAcc z v after row s = accTo z v s (s + row.val % 128) := by
  unfold accTo diagAcc
  have hr : row.val % 128 ≤ 128 := by omega
  have h := sum_fin_Ico (w := 128) (fun k => Ideal.exp (lb (z k) + runTo z (k + 1) (s + row.val % 128)) * v k) 0 _ hr s
  rw [add_zero] at h
  rw [← h]
  refine Finset.sum_congr rfl fun x _ => ?_
  simp only [select_before, Nat.zero_le, true_and]
  refine if_congr Iff.rfl ?_ rfl
  have h0 : (∑ y : Fin 128, ((if y.val < row.val % 128 then l1 (z (s + y.val)) else 0) -
      (if y.val < row.val % 128 then l1 (z (s + y.val)) else 0)) * after y x) = 0 := by
    refine Finset.sum_eq_zero fun y _ => ?_
    split
    · rw [EReal.sub_self (hz _).2 (hz _).1, zero_mul]
    · rw [sub_zero, zero_mul]
  have h1 : (∑ y : Fin 128, if y.val < row.val % 128 then l1 (z (s + y.val)) * after y x else 0)
      = runTo z (s + x.val + 1) (s + row.val % 128) := by
    rw [← sum_after z s _ hr x]
    exact Finset.sum_congr rfl fun y _ => by split <;> simp
  rw [h0, h1, add_zero]

end Cert.KernelIdeal.Hand
end
-- ==== Proof.AttnFirst.lean ====
/- What the first key blocks of a query block leave in the run and in the accumulator. -/
module
public import proofs.«01_k».proof.Proof.AttnSpec
@[expose] public section
set_option maxRecDepth 16384
set_option maxHeartbeats 1000000
noncomputable section
namespace Cert.KernelIdeal.Hand
open Cert.KernelIdeal.Gen
open Idealize.ShloMosaic Idealize.ShloMosaic.Tactic
variable (c : Dev nD) (e : Env Ideal) (a6 : Memref sig .tc .vmem S1x512 .f32) (h6 : a6.IsWhole)
    (a8 : Memref sig .tc .vmem S1x128x512 .bf16) (h8 : a8.IsWhole) (x3 : Vec Ideal S1x512 .f32) (n : ℕ) (hn : n ≤ 63)
    (hstart : startBlk e.i = blk n)

theorem firstA_R (hc1 : k0_cond1 e.i = 1#1) (hc2 : ¬ k0_cond2 e.i = 1#1) (hi : 2 ≤ (e.i 2).val) :
    readR (bodyRunA c e a6 h6 a8 h8 x3 n hn hstart hc1 hc2).1 = asRun fun cc row => diagRun (score e.x0 e.x1 cc row) row (128 * (e.i 2).val)
      + blockRun (score e.x0 e.x1 cc row) (128 * ((e.i 2).val - 2)) 256 := by
  funext y
  have hi2 : (e.i 2).val < 64 := (e.i 2).isLt
  have hz0 := fun row (x : Fin 128) => score_zero e.x0 e.x1 row (128 * (e.i 2).val + x.val) (by omega)
  have hz1 := fun row (x : Fin 128) => score_col e.x0 e.x1 1 128 rfl row (128 * (e.i 2).val + x.val) (by omega) (by omega)
  have hz2 := fun row (x : Fin 128) => score_col e.x0 e.x1 2 256 rfl row (128 * (e.i 2).val + x.val) (by omega) (by omega)
  have hz3 := fun row (x : Fin 128) => score_col e.x0 e.x1 3 384 rfl row (128 * (e.i 2).val + x.val) (by omega) (by omega)
  have hw0 := fun row (x : Fin 256) => score_zero e.x0 e.x1 row (128 * ((e.i 2).val - 2) + x.val) (by omega)
  have hw1 := fun row (x : Fin 256) => score_col e.x0 e.x1 1 128 rfl row (128 * ((e.i 2).val - 2) + x.val) (by omega) (by omega)
  have hw2 := fun row (x : Fin 256) => score_col e.x0 e.x1 2 256 rfl row (128 * ((e.i 2).val - 2) + x.val) (by omega) (by omega)
  have hw3 := fun row (x : Fin 256) => score_col e.x0 e.x1 3 384 rfl row (128 * ((e.i 2).val - 2) + x.val) (by omega) (by omega)
  refine View.read_writes_apply_of_pieces _ _ (asRun _) _ ?_ y ?_
  swap
  · revert y; exact View.cover_of_tiledL _ S1x256x1.size (by sl_kernel_rfl)
  unfold bodyRunA
  dsimp only
  sl_unfold_words
  simp only [List.forall_mem_cons, List.not_mem_nil, false_imp_iff, implies_true, and_true]
  refine ⟨?_, ?_, ?_, ?_⟩
  all_goals
    intro x
    idx_vars x
    obtain rfl : x0 = 0 := Subsingleton.elim _ _
    obtain rfl : x2 = 0 := Subsingleton.elim _ _
    rw [asRun_emb _ _ (by decide)]
    simp only [View.readAt_eq_ld, Memref.IsWhole.read_unread]
    unfold_payloads
    pointwise
    simp only [diag_off (e.i 2), wide_off (e.i 2) hi, Memref.IsWhole.read_unread, read_run, read_acc]
    first | simp only [hz0] | simp only [hz1] | simp only [hz2] | simp only [hz3]
    first | simp only [hw0] | simp only [hw1] | simp only [hw2] | simp only [hw3]
    unfold diagRun blockRun before l1 lb
    rfl

theorem firstA_A (hc1 : k0_cond1 e.i = 1#1) (hc2 : ¬ k0_cond2 e.i = 1#1) (hi : 2 ≤ (e.i 2).val) :
    readA (bodyRunA c e a6 h6 a8 h8 x3 n hn hstart hc1 hc2).2.1 = asAcc fun cc row d =>
      diagAcc (score e.x0 e.x1 cc row) (fun key => keyAt e.x2 cc key d)
        (fun y x => e.x4 (ix2 ⟨y.val, by omega⟩ ⟨x.val, by omega⟩)) row (128 * (e.i 2).val)
      + blockAcc (score e.x0 e.x1 cc row) (fun key => keyAt e.x2 cc key d) (fun y x : Fin 256 => e.x4 (ix2 y x))
        (diagRun (score e.x0 e.x1 cc row) row (128 * (e.i 2).val)) (128 * ((e.i 2).val - 2)) := by
  funext y
  have hi2 : (e.i 2).val < 64 := (e.i 2).isLt
  have hz0 := fun row (x : Fin 128) => score_zero e.x0 e.x1 row (128 * (e.i 2).val + x.val) (by omega)
  have hz1 := fun row (x : Fin 128) => score_col e.x0 e.x1 1 128 rfl row (128 * (e.i 2).val + x.val) (by omega) (by omega)
  have hz2 := fun row (x : Fin 128) => score_col e.x0 e.x1 2 256 rfl row (128 * (e.i 2).val + x.val) (by omega) (by omega)
  have hz3 := fun row (x : Fin 128) => score_col e.x0 e.x1 3 384 rfl row (128 * (e.i 2).val + x.val) (by omega) (by omega)
  have hw0 := fun row (x : Fin 256) => score_zero e.x0 e.x1 row (128 * ((e.i 2).val - 2) + x.val) (by omega)
  have hw1 := fun row (x : Fin 256) => score_col e.x0 e.x1 1 128 rfl row (128 * ((e.i 2).val - 2) + x.val) (by omega) (by omega)
  have hw2 := fun row (x : Fin 256) => score_col e.x0 e.x1 2 256 rfl row (128 * ((e.i 2).val - 2) + x.val) (by omega) (by omega)
  have hw3 := fun row (x : Fin 256) => score_col e.x0 e.x1 3 384 rfl row (128 * ((e.i 2).val - 2) + x.val) (by omega) (by omega)
  have hv := fun (cc : Fin 4) (x : Fin 128) d => keyAt_pos (X := e.x2) (cc := cc) (d := d) (show 128 * (e.i 2).val + x.val < 8192 by omega)
  have hu := fun (cc : Fin 4) (x : Fin 256) d => keyAt_pos (X := e.x2) (cc := cc) (d := d) (show 128 * ((e.i 2).val - 2) + x.val < 8192 by omega)
  refine View.read_writes_apply_of_pieces _ _ (asAcc _) _ ?_ y ?_
  swap
  · revert y; exact View.cover_of_tiledL _ S1x256x128.size (by sl_kernel_rfl)
  unfold bodyRunA
  dsimp only
  sl_unfold_words
  simp only [List.forall_mem_cons, List.not_mem_nil, false_imp_iff, implies_true, and_true]
  refine ⟨?_, ?_, ?_, ?_⟩
  all_goals
    intro x
    idx_vars x
    obtain rfl : x0 = 0 := Subsingleton.elim _ _
    rw [asAcc_emb _ _ (by decide)]
    simp only [View.readAt_eq_ld, Memref.IsWhole.read_unread]
    unfold_payloads
    pointwise
    simp only [diag_off (e.i 2), wide_off (e.i 2) hi, Memref.IsWhole.read_unread, read_run, read_acc]
    first | simp only [hz0] | simp only [hz1] | simp only [hz2] | simp only [hz3]
    first | simp only [hw0] | simp only [hw1] | simp only [hw2] | simp only [hw3]
    unfold diagRun blockAcc diagAcc before l1 lb
    simp only [hv, hu]
    first | (simp only [Fin.val_zero, Nat.mul_zero, Nat.zero_add]; done) | rfl

theorem firstB_R (hc1 : ¬ k0_cond1 e.i = 1#1) (hc2 : k0_cond2 e.i = 1#1) :
    readR (bodyRunB c e a6 h6 a8 h8 x3 n hn hstart hc1 hc2).1 = asRun fun cc row => diagRun (score e.x0 e.x1 cc row) row (128 * (e.i 2).val) := by
  funext y
  have hi2 : (e.i 2).val < 64 := (e.i 2).isLt
  have hz0 := fun row (x : Fin 128) => score_zero e.x0 e.x1 row (128 * (e.i 2).val + x.val) (by omega)
  have hz1 := fun row (x : Fin 128) => score_col e.x0 e.x1 1 128 rfl row (128 * (e.i 2).val + x.val) (by omega) (by omega)
  have hz2 := fun row (x : Fin 128) => score_col e.x0 e.x1 2 256 rfl row (128 * (e.i 2).val + x.val) (by omega) (by omega)
  have hz3 := fun row (x : Fin 128) => score_col e.x0 e.x1 3 384 rfl row (128 * (e.i 2).val + x.val) (by omega) (by omega)
  refine View.read_writes_apply_of_pieces _ _ (asRun _) _ ?_ y ?_
  swap
  · revert y; exact View.cover_of_tiledL _ S1x256x1.size (by sl_kernel_rfl)
  unfold bodyRunB
  dsimp only
  sl_unfold_words
  simp only [List.forall_mem_cons, List.not_mem_nil, false_imp_iff, implies_true, and_true]
  refine ⟨?_, ?_, ?_, ?_⟩
  all_goals
    intro x
    idx_vars x
    obtain rfl : x0 = 0 := Subsingleton.elim _ _
    obtain rfl : x2 = 0 := Subsingleton.elim _ _
    rw [asRun_emb _ _ (by decide)]
    simp only [View.readAt_eq_ld, Memref.IsWhole.read_unread]
    unfold_payloads
    pointwise
    simp only [diag_off (e.i 2), Memref.IsWhole.read_unread, read_run, read_acc]
    first | simp only [hz0] | simp only [hz1] | simp only [hz2] | simp only [hz3]
    unfold diagRun before l1 lb
    rfl

theorem firstB_A (hc1 : ¬ k0_cond1 e.i = 1#1) (hc2 : k0_cond2 e.i = 1#1) :
    readA (bodyRunB c e a6 h6 a8 h8 x3 n hn hstart hc1 hc2).2.1 = asAcc fun cc row d =>
      diagAcc (score e.x0 e.x1 cc row) (fun key => keyAt e.x2 cc key d)
        (fun y x => e.x4 (ix2 ⟨y.val, by omega⟩ ⟨x.val, by omega⟩)) row (128 * (e.i 2).val) := by
  funext y
  have hi2 : (e.i 2).val < 64 := (e.i 2).isLt
  have hz0 := fun row (x : Fin 128) => score_zero e.x0 e.x1 row (128 * (e.i 2).val + x.val) (by omega)
  have hz1 := fun row (x : Fin 128) => score_col e.x0 e.x1 1 128 rfl row (128 * (e.i 2).val + x.val) (by omega) (by omega)
  have hz2 := fun row (x : Fin 128) => score_col e.x0 e.x1 2 256 rfl row (128 * (e.i 2).val + x.val) (by omega) (by omega)
  have hz3 := fun row (x : Fin 128) => score_col e.x0 e.x1 3 384 rfl row (128 * (e.i 2).val + x.val) (by omega) (by omega)
  have hv := fun (cc : Fin 4) (x : Fin 128) d => keyAt_pos (X := e.x2) (cc := cc) (d := d) (show 128 * (e.i 2).val + x.val < 8192 by omega)
  refine View.read_writes_apply_of_pieces _ _ (asAcc _) _ ?_ y ?_
  swap
  · revert y; exact View.cover_of_tiledL _ S1x256x128.size (by sl_kernel_rfl)
  unfold bodyRunB
  dsimp only
  sl_unfold_words
  simp only [List.forall_mem_cons, List.not_mem_nil, false_imp_iff, implies_true, and_true]
  refine ⟨?_, ?_, ?_, ?_⟩
  all_goals
    intro x
    idx_vars x
    obtain rfl : x0 = 0 := Subsingleton.elim _ _
    rw [asAcc_emb _ _ (by decide)]
    simp only [View.readAt_eq_ld, Memref.IsWhole.read_unread]
    unfold_payloads
    pointwise
    simp only [diag_off (e.i 2), Memref.IsWhole.read_unread, read_run, read_acc]
    first | simp only [hz0] | simp only [hz1] | simp only [hz2] | simp only [hz3]
    unfold diagAcc before l1 lb
    simp only [hv]
    first | (simp only [Fin.val_zero, Nat.mul_zero, Nat.zero_add]; done) | rfl
end Cert.KernelIdeal.Hand
end
-- ==== Proof.AttnPoint.lean ====
/- The accumulator a query block leaves, as one sum over the keys before each query. -/
module
public import proofs.«01_k».proof.Proof.AttnMath
public import proofs.«01_k».proof.Proof.AttnFirst
@[expose] public section
noncomputable section
namespace Cert.KernelIdeal.Hand
open Cert.KernelIdeal.Gen
open Idealize.ShloMosaic Idealize.ShloMosaic.Tactic
variable (c : Dev nD) (e : Env Ideal) (a6 : Memref sig .tc .vmem S1x512 .f32) (h6 : a6.IsWhole)
    (a8 : Memref sig .tc .vmem S1x128x512 .bf16) (h8 : a8.IsWhole) (x3 : Vec Ideal S1x512 .f32) (n : ℕ) (hn : n ≤ 63)
    (hstart : startBlk e.i = blk n)

/-- What the loop leaves, from any first run and accumulator that hold the sums
    over the keys from block `n` on. -/
theorem loop_total (hz : ∀ cc row, Tame (score e.x0 e.x1 cc row)) (haft : ∀ y x : Fin 256, e.x4 (ix2 y x) = after y x)
    (p : Fin 256 → ℕ) (hp : ∀ row, 128 * n ≤ p row) (fl : BitVec 1) (R : Vec Ideal S4x256x1 .f32) (A : Vec Ideal S4x256x128 .f32)
    (hfl : R (ix3 0 0 0) ≠ ⊥ → fl = 1#1)
    (hR : R = asRun fun cc row => runTo (score e.x0 e.x1 cc row) (128 * n) (p row))
    (hA : A = asAcc fun cc row d => accTo (score e.x0 e.x1 cc row) (fun key => keyAt e.x2 cc key d) (128 * n) (p row))
    (cc row d) :
    (loop c e n hn fl R A).2 (ix3 cc row d)
      = accTo (score e.x0 e.x1 cc row) (fun key => keyAt e.x2 cc key d) 0 (p row) := by
  have hb : R (ix3 0 0 0) ≠ ⊥ := by
    rw [hR, asRun_apply]
    unfold runTo
    rw [Finset.sum_Ico_eq_sum_range, ← Fin.sum_univ_eq_sum_range (fun k => l1 (score e.x0 e.x1 0 0 (128 * n + k)))]
    exact blockRun_ne_bot _ (fun k => (hz 0 0 k).1) _ _
  obtain rfl := hfl hb
  have ha : (fun y x : Fin 128 => e.x4 (ix2 ⟨y.val, by omega⟩ ⟨x.val, by omega⟩)) = after :=
    funext fun y => funext fun x => haft _ _
  rw [loop_acc c e n (fun k => (hz 0 0 k).1) n hn R A hb cc row d, ha, hR, hA, asRun_apply, asAcc_apply]
  exact walk_eq _ _ (hz cc row) (p row) n (hp row)

theorem totalA (hz : ∀ cc row, Tame (score e.x0 e.x1 cc row)) (haft : ∀ y x : Fin 256, e.x4 (ix2 y x) = after y x)
    (hc1 : k0_cond1 e.i = 1#1) (hc2 : ¬ k0_cond2 e.i = 1#1) (hi : 2 ≤ (e.i 2).val) (hni : n = (e.i 2).val - 2) (cc row d) :
    (loop c e n hn (bodyRunA c e a6 h6 a8 h8 x3 n hn hstart hc1 hc2).2.2.1
      (readR (bodyRunA c e a6 h6 a8 h8 x3 n hn hstart hc1 hc2).1)
      (readA (bodyRunA c e a6 h6 a8 h8 x3 n hn hstart hc1 hc2).2.1)).2 (ix3 cc row d)
      = accTo (score e.x0 e.x1 cc row) (fun key => keyAt e.x2 cc key d) 0 (128 * (e.i 2).val + row.val % 128) := by
  have ha : (fun y x : Fin 128 => e.x4 (ix2 ⟨y.val, by omega⟩ ⟨x.val, by omega⟩)) = after :=
    funext fun y => funext fun x => haft _ _
  have hw : (fun y x : Fin 256 => e.x4 (ix2 y x)) = after := funext fun y => funext fun x => haft _ _
  have hs : 128 * n + 256 = 128 * (e.i 2).val := by omega
  have hs' : 128 * ((e.i 2).val - 2) = 128 * n := by omega
  refine loop_total c e n hn hz haft (fun row => 128 * (e.i 2).val + row.val % 128) (fun row => by omega) _ _ _
    (flagA c e a6 h6 a8 h8 x3 n hn hstart hc1 hc2)
    ((firstA_R c e a6 h6 a8 h8 x3 n hn hstart hc1 hc2 hi).trans (congrArg asRun ?_))
    ((firstA_A c e a6 h6 a8 h8 x3 n hn hstart hc1 hc2 hi).trans (congrArg asAcc ?_)) cc row d
  · funext cc row
    rw [hs', diagRun_eq, blockRun_eq, hs, ← runTo_split _ (by omega) (by omega)]
  · funext cc row d
    rw [hs', ha, hw, diagAcc_eq _ _ (hz cc row), diagRun_eq, blockAcc_eq _ _ (hz cc row) (128 * n) 256 _ (by omega), hs]

theorem totalB (hz : ∀ cc row, Tame (score e.x0 e.x1 cc row)) (haft : ∀ y x : Fin 256, e.x4 (ix2 y x) = after y x)
    (hc1 : ¬ k0_cond1 e.i = 1#1) (hc2 : k0_cond2 e.i = 1#1) (hni : n = (e.i 2).val) (cc row d) :
    (loop c e n hn (bodyRunB c e a6 h6 a8 h8 x3 n hn hstart hc1 hc2).2.2.1
      (readR (bodyRunB c e a6 h6 a8 h8 x3 n hn hstart hc1 hc2).1)
      (readA (bodyRunB c e a6 h6 a8 h8 x3 n hn hstart hc1 hc2).2.1)).2 (ix3 cc row d)
      = accTo (score e.x0 e.x1 cc row) (fun key => keyAt e.x2 cc key d) 0 (128 * (e.i 2).val + row.val % 128) := by
  have ha : (fun y x : Fin 128 => e.x4 (ix2 ⟨y.val, by omega⟩ ⟨x.val, by omega⟩)) = after :=
    funext fun y => funext fun x => haft _ _
  refine loop_total c e n hn hz haft (fun row => 128 * (e.i 2).val + row.val % 128) (fun row => by omega) _ _ _
    (flagB c e a6 h6 a8 h8 x3 n hn hstart hc1 hc2)
    ((firstB_R c e a6 h6 a8 h8 x3 n hn hstart hc1 hc2).trans (congrArg asRun ?_))
    ((firstB_A c e a6 h6 a8 h8 x3 n hn hstart hc1 hc2).trans (congrArg asAcc ?_)) cc row d
  · funext cc row
    rw [diagRun_eq, hni]
  · funext cc row d
    rw [ha, diagAcc_eq _ _ (hz cc row), hni]

end Cert.KernelIdeal.Hand
end
-- ==== Proof.AttnArray.lean ====
/- The blocks the attention kernel works on, read off the arguments. -/
module
public import proofs.«01_k».proof.Proof.AttnPoint
public import Idealize.ShloMosaic.Lib.Pipeline.ValueKit
public import Idealize.ShloMosaic.Lib.StableHlo.Run
@[expose] public section
set_option maxRecDepth 16384
set_option maxHeartbeats 1000000
noncomputable section
namespace Cert.KernelIdeal.Hand
open Cert.KernelIdeal.Gen
open Idealize.ShloMosaic Idealize.ShloMosaic.TcCoe Idealize.ShloMosaic.Tactic
open Idealize.SL.Sem

variable (m : (ℓ : Loc nD τ sig) → Buf (Elt Ideal) ℓ)

theorem idxs : ∀ t : Fin grid0.N, win0_0.index t = ![t.val / 64, t.val % 64, 0] ∧ win0_1.index t = ![t.val / 64, 0, 0]
    ∧ win0_2.index t = ![t.val / 64, 0, 0] ∧ win0_3.index t = ![0, 0] ∧ win0_4.index t = ![0, 0]
    ∧ win0_5.index t = ![t.val / 64, t.val % 64, 0] := by decide +kernel

theorem iblk0_apply (c : Dev nD) (t : Fin (cfg0 (F := Ideal)).N) (r : Fin 128) (l : Fin 512) :
    iblk m c 0 t (ix3 0 r l) = V m c main_arg0 (ix3 ⟨t.val / 64, by have : t.val < 128 := t.isLt; omega⟩ ⟨128 * (t.val % 64) + r.val, by omega⟩ l) := by
  blk_ext [iblk, idxs t]

theorem iblk1_apply (c : Dev nD) (t : Fin (cfg0 (F := Ideal)).N) (r : Fin 8192) (l : Fin 512) :
    iblk m c 1 t (ix3 0 r l) = V m c main_arg1 (ix3 ⟨t.val / 64, by have : t.val < 128 := t.isLt; omega⟩ r l) := by
  blk_ext [iblk, idxs t]

theorem iblk2_apply (c : Dev nD) (t : Fin (cfg0 (F := Ideal)).N) (r : Fin 8192) (l : Fin 512) :
    iblk m c 2 t (ix3 0 r l) = V m c main_arg2 (ix3 ⟨t.val / 64, by have : t.val < 128 := t.isLt; omega⟩ r l) := by
  blk_ext [iblk, idxs t]

theorem iblk3_apply (c : Dev nD) (t : Fin (cfg0 (F := Ideal)).N) (l : Fin 512) :
    iblk m c 3 t (ix2 0 l) = V m c main_v0 (ix2 0 l) := by
  blk_ext [iblk, idxs t]

theorem iblk4_apply (c : Dev nD) (t : Fin (cfg0 (F := Ideal)).N) (y x : Fin 256) :
    iblk m c 4 t (ix2 y x) = V m c main_v4 (ix2 y x) := by
  blk_ext [iblk, idxs t]

theorem gain_apply (c : Dev nD) (h : Fin 8) (d : Fin 64) :
    V m c main_v0 (ix2 0 ⟨64 * h.val + d.val, by omega⟩) = m ((c : Thread nD τ).loc main_arg3) (ix2 h d) := by
  unfold_abbrev_sides
  after_results
  pointwise

theorem after_apply (c : Dev nD) (y x : Fin 256) : V m c main_v4 (ix2 y x) = after y x := by
  unfold_abbrev_sides
  after_results
  pointwise
  have hw : IntOp.cmpi CmpIPredicate.sgt (BitVec.ofNat 32 y.val) (BitVec.ofNat 32 x.val) = if x.val < y.val then 1#1 else 0#1 := by
    have hx := x.isLt
    have hy := y.isLt
    have e : ∀ n : ℕ, n < 256 → (BitVec.ofNat 32 n).toInt = n := fun n hn => by
      rw [BitVec.toInt_eq_toNat_of_lt] <;> simp only [BitVec.toNat_ofNat] <;> omega
    simp only [IntOp.cmpi, BitVec.slt, e _ hx, e _ hy]
    split_ifs with h
    · simp [h]
    · simp [h]
  rw [hw, after]
  split_ifs
  · show ((((1#1 : BitVec 1).toNat : ℝ)) : EReal) = 1
    norm_num
  · show ((((0#1 : BitVec 1).toNat : ℝ)) : EReal) = 0
    norm_num

end Cert.KernelIdeal.Hand
end
-- ==== Proof.RefWindow.lean ====
/- The reversed running sum along the last axis, read at one position. -/
module
public import proofs.«01_k».proof.Proof.Gen.ReferenceIdeal.Read
public import Idealize.ShloMosaic.Lib.Pointwise
@[expose] public section
set_option maxRecDepth 16384
noncomputable section
namespace Cert.ReferenceIdeal.Hand
open Cert.ReferenceIdeal Cert.ReferenceIdeal.Gen Cert.ReferenceIdeal.Read Idealize.ShloMosaic Idealize.ShloMosaic.Tactic

theorem foldl_add {α : Type} (g : α → EReal) (l : List α) (v : EReal) :
    l.foldl (fun r n => r + g n) v = v + (l.map g).sum := by
  induction l generalizing v with
  | nil => simp
  | cons a l ih => simp [ih, add_assoc]

/-- A float window sum from zero, as a sum over the positions of the window. -/
theorem window_sum {s : Shape} (window strides lo hi : Fin s.rank → ℕ) {t : Shape} (h : s.ReduceWindows window strides lo hi t)
    (x : s.Idx → EReal) (j : t.Idx) :
    Ideal.hostReduceWindowAdd window strides lo hi h x 0 j =
      ∑ q : (⟨s.rank, window⟩ : Shape).Idx,
        if hin : ∀ a, lo a ≤ (j (a.cast h.1.symm)).val * strides a + (q a).val
            ∧ (j (a.cast h.1.symm)).val * strides a + (q a).val - lo a < s.size a then
          x (fun a => ⟨(j (a.cast h.1.symm)).val * strides a + (q a).val - lo a, (hin a).2⟩) else 0 := by
  unfold Ideal.hostReduceWindowAdd Host.reduceWindow
  dsimp only
  rw [foldl_add, zero_add, ← Fin.sum_univ_def,
    ← Equiv.sum_comp (⟨s.rank, window⟩ : Shape).rowMajor]
  simp only [Equiv.symm_apply_apply]

/-- The shape of one window of the running sum. -/
abbrev W : Shape := ⟨4, ![1, 1, 1, 8192]⟩

/-- A window position is a step along the last axis. -/
def step : Fin 8192 ≃ W.Idx where
  toFun x := fun a => match a with
    | ⟨0, _⟩ => (0 : Fin 1)
    | ⟨1, _⟩ => (0 : Fin 1)
    | ⟨2, _⟩ => (0 : Fin 1)
    | ⟨3, _⟩ => x
  invFun q := q 3
  left_inv _ := rfl
  right_inv q := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem step_0 (x : Fin 8192) : (step x (0 : Fin 4)).val = 0 := rfl
theorem step_1 (x : Fin 8192) : (step x (1 : Fin 4)).val = 0 := rfl
theorem step_2 (x : Fin 8192) : (step x (2 : Fin 4)).val = 0 := rfl
theorem step_3 (x : Fin 8192) : (step x (3 : Fin 4)).val = x.val := rfl

theorem v20_apply (x0 x1 : Vec Ideal S2x8192x512 .bf16) (b : Fin 2) (h : Fin 8) (i j : Fin 8192) :
    val_main_v20 (F := Ideal) x0 x1 (ix4 b h i j) =
      ∑ x : Fin 8192, if hx : j.val + x.val < 8192 then val_main_v19 (F := Ideal) x0 x1 (ix4 b h i ⟨j.val + x.val, hx⟩) else 0 := by
  unfold val_main_v20
  generalize val_main_v19 (F := Ideal) x0 x1 = y
  have hv : val_main_call3_v0 (F := Ideal) = fun _ => (0 : EReal) := by
    funext q
    pointwise [val_main_call3_v0, val_main_call3_cst]
  rw [hv]
  unfold Host.reduceWindowAdd
  rw [Ideal.hostReduceWindowAdd_def, window_sum]
  refine (Equiv.sum_comp step _).symm.trans ?_
  refine Finset.sum_congr rfl fun x _ => ?_
  by_cases hx : j.val + x.val < 8192
  · rw [dif_pos hx, dif_pos]
    · congr 1
      funext a
      apply Fin.ext
      fin_cases a <;> simp [step_0, step_1, step_2, step_3, ix4]
    · intro a
      fin_cases a <;> simp [step_0, step_1, step_2, step_3, ix4]
      all_goals omega
  · rw [dif_neg hx, dif_neg]
    intro hin
    have := (hin 3).2
    simp [step_0, step_1, step_2, step_3, ix4] at this
    exact hx this
end Cert.ReferenceIdeal.Hand
end
-- ==== Proof.AttnReal.lean ====
/- The two logs of a sigmoid at a real score, in the kernel's form and in the reference's. -/
module
public import proofs.«01_k».proof.Proof.AttnMath
@[expose] public section
noncomputable section
namespace Cert.KernelIdeal.Hand
open Idealize.ShloMosaic

/-- A value that is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.zero : IsReal 0 := ⟨0, rfl⟩
theorem IsReal.sum {α : Type} (s : Finset α) (f : α → EReal) (h : ∀ a, IsReal (f a)) : IsReal (∑ a ∈ s, f a) := by
  induction s using Finset.cons_induction with
  | empty => exact IsReal.zero
  | cons a s ha ih =>
    rw [Finset.sum_cons]
    obtain ⟨x, hx⟩ := h a; obtain ⟨y, hy⟩ := ih
    exact ⟨x + y, by rw [hx, hy, EReal.coe_add]⟩

theorem absf_coe (r : ℝ) : FloatOps.absf (F := Ideal) (φ := .f32) (r : EReal) = ((|r| : ℝ) : EReal) := by
  show max (r : EReal) (-(r : EReal)) = _
  rw [← EReal.coe_neg, abs_eq_max_neg]
  exact (EReal.coe_strictMono.monotone.map_max).symm

theorem soft_coe (r : ℝ) : Ideal.log (1 + Ideal.exp (((-|r| : ℝ) : EReal))) = ((Real.log (1 + Real.exp (-|r|)) : ℝ) : EReal) := by
  rw [Ideal.exp_coe, ← EReal.coe_one, ← EReal.coe_add, Ideal.log_coe, if_neg]
  have := Real.exp_pos (-|r|)
  linarith

theorem min_coe (r : ℝ) : min (r : EReal) 0 = ((min r 0 : ℝ) : EReal) :=
  (EReal.coe_strictMono.monotone.map_min (a := r) (b := 0)).symm
theorem max_coe (r : ℝ) : max (r : EReal) 0 = ((max r 0 : ℝ) : EReal) :=
  (EReal.coe_strictMono.monotone.map_max (a := r) (b := 0)).symm

theorem lb_coe (r : ℝ) : lb (r : EReal) = ((min r 0 - Real.log (1 + Real.exp (-|r|)) : ℝ) : EReal) := by
  unfold lb
  rw [absf_coe, ← EReal.coe_zero, ← EReal.coe_sub, zero_sub, soft_coe, EReal.coe_zero, min_coe, ← EReal.coe_sub]

theorem l1_coe (r : ℝ) : l1 (r : EReal) = ((min r 0 - Real.log (1 + Real.exp (-|r|)) - r : ℝ) : EReal) := by
  unfold l1
  rw [lb_coe, ← EReal.coe_sub]

theorem tame_of_real {z : ℕ → EReal} (h : ∀ k, IsReal (z k)) : Tame z := fun k => by
  obtain ⟨r, hr⟩ := h k
  rw [hr, l1_coe]
  exact ⟨EReal.coe_ne_bot _, EReal.coe_ne_top _⟩

/-- The log of the sigmoid as the reference writes it, of the negated score `w`. -/
def refLog (w : EReal) : EReal :=
  -if w ≠ w then w else max w 0 + Ideal.log1p (Ideal.exp (-FloatOps.absf (F := Ideal) (φ := .f32) w))

theorem refLog_coe (r : ℝ) : refLog (r : EReal) = ((-(max r 0 + Real.log (1 + Real.exp (-|r|))) : ℝ) : EReal) := by
  unfold refLog Ideal.log1p
  rw [if_neg (fun h => h rfl), absf_coe, ← EReal.coe_neg, soft_coe, max_coe, ← EReal.coe_add, ← EReal.coe_neg]

theorem refLog_neg {z : EReal} (h : IsReal z) : refLog (-z) = lb z := by
  obtain ⟨r, rfl⟩ := h
  rw [← EReal.coe_neg, refLog_coe, lb_coe, abs_neg]
  congr 1
  rcases le_total r 0 with h | h
  · rw [min_eq_left h, max_eq_left (by linarith)]; ring
  · rw [min_eq_right h, max_eq_right (by linarith)]; ring

theorem refLog_pos {z : EReal} (h : IsReal z) : refLog (- -z) = l1 z := by
  obtain ⟨r, rfl⟩ := h
  rw [neg_neg, refLog_coe, l1_coe]
  congr 1
  rcases le_total r 0 with h | h
  · rw [min_eq_left h, max_eq_right h]; ring
  · rw [min_eq_right h, max_eq_left h]; ring

end Cert.KernelIdeal.Hand
end
-- ==== Proof.RefVal.lean ====
/- The reference's result at one place, as the sum over the keys before the query. -/
module
public import proofs.«01_k».proof.Proof.RefWindow
public import proofs.«01_k».proof.Proof.AttnReal
@[expose] public section
set_option maxRecDepth 16384
set_option maxHeartbeats 1000000
noncomputable section
namespace Cert.ReferenceIdeal.Hand
open Cert.ReferenceIdeal Cert.ReferenceIdeal.Gen Cert.ReferenceIdeal.Read Idealize.ShloMosaic Idealize.ShloMosaic.Tactic
open Cert.KernelIdeal.Hand (IsReal lb l1 refLog refLog_neg refLog_pos runTo accTo Tame tame_of_real)
open Finset (Ico)

/-- One query's score against every key of a head, zero past the end of the keys. -/
def refZ (x0 x1 : Vec Ideal S2x8192x512 .bf16) (b : Fin 2) (h : Fin 8) (i : Fin 8192) (k : ℕ) : EReal :=
  if hk : k < 8192 then ∑ x : Fin 64, x0 (ix3 b i ⟨h.val * 64 + x.val, by omega⟩) * x1 (ix3 b ⟨k, hk⟩ ⟨h.val * 64 + x.val, by omega⟩) else 0

theorem v15_apply (x0 x1 : Vec Ideal S2x8192x512 .bf16) (b : Fin 2) (h : Fin 8) (i j : Fin 8192) : val_main_v15 (F := Ideal) x0 x1 (ix4 b h i j) = refZ x0 x1 b h i j.val := by
  pointwise [val_main_v15, val_main_v2, val_main_v5, val_main_v1, val_main_v4, val_main_v0, val_main_v3]
  unfold refZ
  rw [dif_pos j.isLt]

theorem v16_apply (x0 x1 : Vec Ideal S2x8192x512 .bf16) (b : Fin 2) (h : Fin 8) (i j : Fin 8192) : val_main_v16 (F := Ideal) x0 x1 (ix4 b h i j) = refLog (-refZ x0 x1 b h i j.val) := by
  rw [← v15_apply]
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v16]
  rfl

theorem v18_apply (x0 x1 : Vec Ideal S2x8192x512 .bf16) (b : Fin 2) (h : Fin 8) (i j : Fin 8192) : val_main_v18 (F := Ideal) x0 x1 (ix4 b h i j) = refLog (- -refZ x0 x1 b h i j.val) := by
  rw [← v15_apply]
  pointwise [val_main_call1_v0, val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_v1, val_main_v18, val_main_v17]
  rfl

theorem select_lt (i j : Fin 8192) (a b : EReal) :
    Scalar.select (IntOp.cmpi CmpIPredicate.slt (BitVec.ofNat 32 j.val) (BitVec.ofNat 32 i.val)) a b = if j.val < i.val then a else b := by
  have hi := i.isLt
  have hj := j.isLt
  have key : IntOp.cmpi CmpIPredicate.slt (BitVec.ofNat 32 j.val) (BitVec.ofNat 32 i.val) = BitVec.ofBool (decide (j.val < i.val)) := by
    show BitVec.ofBool (BitVec.slt _ _) = _
    congr 1
    have e : ∀ n : ℕ, n < 8192 → (BitVec.ofNat 32 n).toInt = n := fun n hn => by
      rw [BitVec.toInt_eq_toNat_cond, BitVec.toNat_ofNat, Nat.mod_eq_of_lt (by omega), if_pos (by omega)]
    rw [BitVec.slt_eq_decide, e _ hi, e _ hj]
    simp only [Int.ofNat_lt]
  rw [key]
  by_cases h : j.val < i.val
  · rw [if_pos h, decide_eq_true h]; rfl
  · rw [if_neg h, decide_eq_false h]; rfl

theorem v19_apply (x0 x1 : Vec Ideal S2x8192x512 .bf16) (b : Fin 2) (h : Fin 8) (i j : Fin 8192) (hz : IsReal (refZ x0 x1 b h i j.val)) :
    val_main_v19 (F := Ideal) x0 x1 (ix4 b h i j) = if j.val < i.val then l1 (refZ x0 x1 b h i j.val) else 0 := by
  rw [← refLog_pos hz, ← v18_apply, ← select_lt]
  pointwise [val_main_call2_v0, val_main_call2_v1, val_main_call2_v2, val_main_v9, val_main_v10, val_main_v11, val_main_v12, val_main_v13, val_main_v14, val_main_v19, val_main_cst]
  congr 1
  show (constant (F := Ideal) S_ FTy.f32 0#32) ix0 = 0
  pointwise

theorem v20_run (x0 x1 : Vec Ideal S2x8192x512 .bf16) (b : Fin 2) (h : Fin 8) (i j : Fin 8192) (hz : ∀ k, IsReal (refZ x0 x1 b h i k)) :
    val_main_v20 (F := Ideal) x0 x1 (ix4 b h i j) = runTo (refZ x0 x1 b h i) j.val i.val := by
  have hi := i.isLt
  have hj := j.isLt
  rw [v20_apply]
  have e : ∀ x : Fin 8192, (if hx : j.val + x.val < 8192 then val_main_v19 (F := Ideal) x0 x1 (ix4 b h i ⟨j.val + x.val, hx⟩) else 0)
      = if 0 ≤ x.val ∧ x.val < i.val - j.val then l1 (refZ x0 x1 b h i (j.val + x.val)) else 0 := by
    intro x
    by_cases hx : j.val + x.val < 8192
    · rw [dif_pos hx, v19_apply _ _ _ _ _ _ (hz _)]
      by_cases hlt : j.val + x.val < i.val
      · rw [if_pos hlt, if_pos ⟨Nat.zero_le _, by omega⟩]
      · rw [if_neg hlt, if_neg (fun hh => by omega)]
    · rw [dif_neg hx, if_neg (fun hh => by omega)]
  rw [Finset.sum_congr rfl fun x _ => e x,
    Cert.KernelIdeal.Hand.sum_fin_Ico (fun k => l1 (refZ x0 x1 b h i k)) 0 (i.val - j.val) (by omega) j.val, add_zero]
  unfold runTo
  by_cases hlt : j.val ≤ i.val
  · rw [Nat.add_sub_cancel' hlt]
  · rw [Finset.Ico_eq_empty_of_le (by omega), Finset.Ico_eq_empty_of_le (by omega)]

theorem v23_apply (x0 x1 : Vec Ideal S2x8192x512 .bf16) (b : Fin 2) (h : Fin 8) (i j : Fin 8192) (hz : ∀ k, IsReal (refZ x0 x1 b h i k)) :
    val_main_v23 (F := Ideal) x0 x1 (ix4 b h i j) =
      if j.val < i.val then lb (refZ x0 x1 b h i j.val) + runTo (refZ x0 x1 b h i) (j.val + 1) i.val else ⊥ := by
  have e : val_main_v23 (F := Ideal) x0 x1 (ix4 b h i j) =
      if j.val < i.val then val_main_v16 (F := Ideal) x0 x1 (ix4 b h i j) +
        (val_main_v20 (F := Ideal) x0 x1 (ix4 b h i j) - val_main_v19 (F := Ideal) x0 x1 (ix4 b h i j)) else ⊥ := by
    rw [← select_lt]
    pointwise [val_main_call4_v0, val_main_call4_v1, val_main_call4_v2, val_main_v9, val_main_v10, val_main_v11, val_main_v12, val_main_v13, val_main_v14, val_main_v21, val_main_v22, val_main_v23, val_main_cst_0]
    rfl
  rw [e]
  refine if_ctx_congr Iff.rfl (fun hlt => ?_) fun _ => rfl
  rw [v16_apply, refLog_neg (hz _), v19_apply _ _ _ _ _ _ (hz _), if_pos hlt, v20_run _ _ _ _ _ _ hz,
    Cert.KernelIdeal.Hand.runTo_split _ (show j.val ≤ j.val + 1 by omega) (show j.val + 1 ≤ i.val by omega)]
  congr 1
  obtain ⟨r, hr⟩ := hz j.val
  rw [show runTo (refZ x0 x1 b h i) j.val (j.val + 1) = l1 (refZ x0 x1 b h i j.val) by unfold runTo; simp, hr,
    Cert.KernelIdeal.Hand.l1_coe, EReal.add_sub_cancel_right]

/-- One lane of a head of every value, zero past the end of the keys. -/
def refV (x2 : Vec Ideal S2x8192x512 .bf16) (b : Fin 2) (h : Fin 8) (d : Fin 64) (k : ℕ) : EReal :=
  if hk : k < 8192 then x2 (ix3 b ⟨k, hk⟩ ⟨h.val * 64 + d.val, by omega⟩) else 0

theorem v26_apply (x0 x1 x2 : Vec Ideal S2x8192x512 .bf16) (b : Fin 2) (h : Fin 8) (i : Fin 8192) (d : Fin 64)
    (hz : ∀ k, IsReal (refZ x0 x1 b h i k)) :
    val_main_v26 (F := Ideal) x0 x1 x2 (ix4 b i h d) = accTo (refZ x0 x1 b h i) (refV x2 b h d) 0 i.val := by
  have e : val_main_v26 (F := Ideal) x0 x1 x2 (ix4 b i h d) =
      ∑ x : Fin 8192, Ideal.exp (val_main_v23 (F := Ideal) x0 x1 (ix4 b h i x)) * x2 (ix3 b x ⟨h.val * 64 + d.val, by omega⟩) := by
    pointwise [val_main_v6, val_main_v7, val_main_v8, val_main_v24, val_main_v25, val_main_v26]
  rw [e]
  have hs := Cert.KernelIdeal.Hand.sum_fin_Ico (w := 8192)
    (fun k => Ideal.exp (lb (refZ x0 x1 b h i k) + runTo (refZ x0 x1 b h i) (k + 1) i.val) * refV x2 b h d k) 0 i.val (by omega) 0
  rw [zero_add, zero_add] at hs
  unfold accTo
  rw [← hs]
  refine Finset.sum_congr rfl fun x _ => ?_
  rw [v23_apply _ _ _ _ _ _ hz, zero_add]
  by_cases hlt : x.val < i.val
  · rw [if_pos hlt, if_pos ⟨Nat.zero_le _, hlt⟩]
    congr 1
    unfold refV
    rw [dif_pos x.isLt]
  · rw [if_neg hlt, if_neg (fun hh => hlt hh.2), Ideal.exp_bot, zero_mul]

/-- The reference's result at one place. -/
theorem v41_apply (x0 x1 x2 : Vec Ideal S2x8192x512 .bf16) (x3 : Vec Ideal S8x64 .f32) (b : Fin 2) (i : Fin 8192) (y : Fin 512) :
    val_main_v41 (F := Ideal) x0 x1 x2 x3 (ix3 b i y) =
      (fun (h : Fin 8) (d : Fin 64) => val_main_v26 (F := Ideal) x0 x1 x2 (ix4 b i h d) *
        Ideal.rsqrt (Ideal.div (∑ x, val_main_v26 (F := Ideal) x0 x1 x2 (ix4 b i h x) * val_main_v26 (F := Ideal) x0 x1 x2 (ix4 b i h x))
            (Ideal.ofBits FTy.f32 1115684864#32) + Ideal.ofBits FTy.f32 897988541#32) * x3 (ix2 h d))
        ⟨y.val / 64, by omega⟩ ⟨y.val % 64, by omega⟩ := by
  pointwise [val_main_v27, val_main_v28, val_main_v29, val_main_v30, val_main_v31, val_main_v32, val_main_v33, val_main_v34, val_main_v35, val_main_v36, val_main_v37, val_main_v38, val_main_v39, val_main_v40, val_main_v41, val_main_cst_1, val_main_cst_2, val_main_cst_3]

end Cert.ReferenceIdeal.Hand
end
-- ==== Proof.AttnJoin.lean ====
/- The kernel's scores and normalised lanes, in the reference's terms. -/
module
public import proofs.«01_k».proof.Proof.AttnSpec
public import proofs.«01_k».proof.Proof.RefVal
public import Idealize.ShloMosaic.Lib.IdealHost
@[expose] public section
set_option maxRecDepth 16384
set_option maxHeartbeats 1000000
noncomputable section
namespace Cert.KernelIdeal.Hand
open Cert.KernelIdeal.Gen
open Idealize.ShloMosaic Idealize.ShloMosaic.TcCoe Idealize.ShloMosaic.Tactic
open Cert.ReferenceIdeal.Hand (refZ refV)

/-- The lane test picks by the lane's number. -/
theorem lane_low (d : Fin 128) (a b : EReal) :
    Scalar.select (IntOp.cmpi CmpIPredicate.slt (BitVec.ofNat 32 d.val) 64#32) a b = if d.val < 64 then a else b := by
  have hw : IntOp.cmpi CmpIPredicate.slt (BitVec.ofNat 32 d.val) 64#32 = if d.val < 64 then 1#1 else 0#1 := by
    revert d; decide +kernel
  rw [hw]
  split_ifs
  · rfl
  · rfl

theorem sum_low (f : Fin 128 → EReal) :
    (∑ x : Fin 128, if x.val < 64 then f x else 0) = ∑ x : Fin 64, f ⟨x.val, by omega⟩ := by
  refine (Fin.sum_univ_add (a := 64) (b := 64) _).trans ?_
  rw [Finset.sum_eq_zero (s := Finset.univ) (f := fun i : Fin 64 => if (Fin.natAdd 64 i).val < 64 then f (Fin.natAdd 64 i) else 0)
    (fun i _ => if_neg (by simp)), add_zero]
  exact Finset.sum_congr rfl fun i _ => if_pos i.isLt

theorem sum_high (f : Fin 128 → EReal) :
    (∑ x : Fin 128, if x.val < 64 then 0 else f x) = ∑ x : Fin 64, f ⟨64 + x.val, by omega⟩ := by
  refine (Fin.sum_univ_add (a := 64) (b := 64) _).trans ?_
  rw [Finset.sum_eq_zero (s := Finset.univ) (f := fun i : Fin 64 => if (Fin.castAdd 64 i).val < 64 then 0 else f (Fin.castAdd 64 i))
    (fun i _ => if_pos i.isLt), zero_add]
  exact Finset.sum_congr rfl fun i _ => if_neg (by simp)

/-- A row of the kernel's scores is one query's scores in one head: the upper
    half of the rows the column's first head, the lower half its second. -/
theorem score_link (x0 : Vec Ideal S1x128x512 .f32) (x1 : Vec Ideal S1x8192x512 .f32) (q k : Vec Ideal S2x8192x512 .bf16)
    (cc : Fin 4) (row : Fin 256) (b : Fin 2) (i : Fin 8192)
    (hq : ∀ l, x0 (ix3 0 ⟨row.val % 128, by omega⟩ l) = q (ix3 b i l))
    (hk : ∀ key l, x1 (ix3 0 key l) = k (ix3 b key l)) :
    score x0 x1 cc row = refZ q k b ⟨2 * cc.val + row.val / 128, by omega⟩ i := by
  funext key
  unfold score dot refZ
  by_cases hkey : key < 8192
  · rw [dif_pos hkey]
    by_cases hr : row.val < 128
    · refine (Finset.sum_congr rfl fun x _ => ?_).trans
        ((sum_low fun x => q (ix3 b i ⟨128 * cc.val + x.val, by omega⟩) * k (ix3 b ⟨key, hkey⟩ ⟨128 * cc.val + x.val, by omega⟩)).trans
          (Finset.sum_congr rfl fun x _ => ?_))
      · rw [dif_pos hr, lane_low, keyAt_pos hkey, hk]
        split_ifs
        · refine congrArg (· * _) ((congrArg (fun r => x0 (ix3 0 r _)) (Fin.ext ?_)).trans (hq _))
          show row.val = row.val % 128
          omega
        · exact zero_mul _
      · have e : 128 * cc.val + x.val = (2 * cc.val + row.val / 128) * 64 + x.val := by omega
        exact congrArg (fun l => q (ix3 b i l) * k (ix3 b ⟨key, hkey⟩ l)) (Fin.ext e)
    · refine (Finset.sum_congr rfl fun x _ => ?_).trans
        ((sum_high fun x => q (ix3 b i ⟨128 * cc.val + x.val, by omega⟩) * k (ix3 b ⟨key, hkey⟩ ⟨128 * cc.val + x.val, by omega⟩)).trans
          (Finset.sum_congr rfl fun x _ => ?_))
      · rw [dif_neg hr, lane_low, keyAt_pos hkey, hk]
        split_ifs
        · exact zero_mul _
        · refine congrArg (· * _) ((congrArg (fun r => x0 (ix3 0 r _)) (Fin.ext ?_)).trans (hq _))
          show row.val - 128 = row.val % 128
          omega
      · have e : 128 * cc.val + (64 + x.val) = (2 * cc.val + row.val / 128) * 64 + x.val := by omega
        exact congrArg (fun l => q (ix3 b i l) * k (ix3 b ⟨key, hkey⟩ l)) (Fin.ext e)
  · rw [dif_neg hkey]
    refine Finset.sum_eq_zero fun x _ => ?_
    unfold keyAt
    rw [dif_neg hkey, mul_zero]

/-- A lane of the keys' values, in its head. -/
theorem value_link (x2 : Vec Ideal S1x8192x512 .f32) (v : Vec Ideal S2x8192x512 .bf16) (cc : Fin 4) (d : Fin 128) (b : Fin 2)
    (hv : ∀ key l, x2 (ix3 0 key l) = v (ix3 b key l)) :
    (fun key => keyAt x2 cc key d) = refV v b ⟨2 * cc.val + d.val / 64, by omega⟩ ⟨d.val % 64, by omega⟩ := by
  funext key
  unfold keyAt refV
  split_ifs
  · rw [hv]
    refine congrArg (fun l => v (ix3 b _ l)) (Fin.ext ?_)
    show 128 * cc.val + d.val = (2 * cc.val + d.val / 64) * 64 + d.val % 64
    omega
  · rfl

/-- One lane of a head over the root of the head's mean square. -/
def rms (o : Fin 64 → EReal) (d : Fin 64) : EReal :=
  o d * Ideal.rsqrt (Ideal.div (∑ x, o x * o x) (Ideal.ofBits FTy.f32 1115684864#32) + Ideal.ofBits FTy.f32 897988541#32)

/-- The kernel's factor is the inverse of the number of lanes in a head. -/
theorem mean_eq (s : EReal) : s * Ideal.ofBits FTy.f32 1015021568#32 = Ideal.div s (Ideal.ofBits FTy.f32 1115684864#32) := by
  have h1 : Ideal.ofBits FTy.f32 1015021568#32 = ((1 / 64 : ℝ) : EReal) := by
    simp [Ideal.ofBits, Ideal.ieee, -EReal.coe_mul]
    norm_num
  have h2 : Ideal.ofBits FTy.f32 1115684864#32 = ((64 : ℝ) : EReal) := by
    simp [Ideal.ofBits, Ideal.ieee, -EReal.coe_mul]
    norm_num
  rw [h1, h2, Ideal.div_coe (by norm_num)]

/-- A column's normalised lane, when its rows hold the two heads `o 0` and `o 1`. -/
theorem normed_eq (a : Fin 256 → Fin 128 → EReal) (g : Fin 128 → EReal) (o : Fin 2 → Fin 64 → EReal) (r d : Fin 128)
    (h0 : ∀ x : Fin 64, a ⟨r.val, by omega⟩ ⟨x.val, by omega⟩ = o 0 x)
    (h1 : ∀ x : Fin 64, a ⟨128 + r.val, by omega⟩ ⟨64 + x.val, by omega⟩ = o 1 x) :
    normed a g r d = rms (o ⟨d.val / 64, by omega⟩) ⟨d.val % 64, by omega⟩ * g d := by
  have hm : ∀ x, mix a r x = if x.val < 64 then a ⟨r.val, by omega⟩ x else a ⟨128 + r.val, by omega⟩ x := fun x => by
    unfold mix; rw [lane_low]
  unfold normed rms
  rw [lane_low]
  simp only [lane_low]
  rw [sum_low (fun x => mix a r x * mix a r x), sum_high (fun x => mix a r x * mix a r x), mean_eq]
  have e0 : ∀ x : Fin 64, mix a r ⟨x.val, by omega⟩ = o 0 x := fun x => (hm _).trans ((if_pos x.isLt).trans (h0 x))
  have e1 : ∀ x : Fin 64, mix a r ⟨64 + x.val, by omega⟩ = o 1 x := fun x =>
    (hm _).trans ((if_neg (by show ¬ 64 + x.val < 64; omega)).trans (h1 x))
  simp only [e0, e1]
  by_cases hd : d.val < 64
  · have i1 : (⟨d.val / 64, by omega⟩ : Fin 2) = 0 := Fin.ext (by show d.val / 64 = 0; omega)
    have i2 : (⟨d.val % 64, by omega⟩ : Fin 64) = ⟨d.val, hd⟩ := Fin.ext (by show d.val % 64 = d.val; omega)
    rw [if_pos hd, i1, i2, ← e0 ⟨d.val, hd⟩]
  · have i1 : (⟨d.val / 64, by omega⟩ : Fin 2) = 1 := Fin.ext (by show d.val / 64 = 1; omega)
    have i2 : (⟨d.val % 64, by omega⟩ : Fin 64) = ⟨d.val - 64, by omega⟩ := Fin.ext (by show d.val % 64 = d.val - 64; omega)
    have i3 : mix a r d = o 1 ⟨d.val - 64, by omega⟩ :=
      (congrArg (mix a r) (Fin.ext (by show d.val = 64 + (d.val - 64); omega))).trans (e1 ⟨d.val - 64, by omega⟩)
    rw [if_neg hd, i1, i2, i3]

end Cert.KernelIdeal.Hand
end
-- ==== Proof.AttnValue.lean ====
/- What the attention kernel leaves in its output array. -/
module
public import proofs.«01_k».proof.Proof.AttnArray
public import proofs.«01_k».proof.Proof.AttnOut
public import proofs.«01_k».proof.Proof.AttnJoin
@[expose] public section
set_option maxRecDepth 16384
set_option maxHeartbeats 1000000
noncomputable section
namespace Cert.KernelIdeal.Hand
open Cert.KernelIdeal.Gen
open Idealize.ShloMosaic Idealize.ShloMosaic.TcCoe Idealize.ShloMosaic.Tactic
open Idealize.SL.Sem
open Cert.ReferenceIdeal.Hand (refZ refV)

variable (m : (ℓ : Loc nD τ sig) → Buf (Elt Ideal) ℓ)

abbrev argQ (c : Dev nD) : Vec Ideal S2x8192x512 .bf16 := m ((c : Thread nD τ).loc main_arg0)
abbrev argK (c : Dev nD) : Vec Ideal S2x8192x512 .bf16 := m ((c : Thread nD τ).loc main_arg1)
abbrev argV (c : Dev nD) : Vec Ideal S2x8192x512 .bf16 := m ((c : Thread nD τ).loc main_arg2)
abbrev argG (c : Dev nD) : Vec Ideal S8x64 .f32 := m ((c : Thread nD τ).loc main_arg3)

/-- Every entry of the queries and the keys is a real number. -/
def RealQK (c : Dev nD) : Prop := (∀ j, IsReal (argQ m c j)) ∧ ∀ j, IsReal (argK m c j)

theorem refZ_real {q k : Vec Ideal S2x8192x512 .bf16} (hq : ∀ j, IsReal (q j)) (hk : ∀ j, IsReal (k j)) (b : Fin 2)
    (h : Fin 8) (i : Fin 8192) (key : ℕ) : IsReal (refZ q k b h i key) := by
  unfold refZ
  split_ifs
  · exact IsReal.sum _ _ fun x => (hq _).mul (hk _)
  · exact IsReal.zero

/-- The sum a query's head gathers, over the keys before the query. -/
def gathered (c : Dev nD) (b : Fin 2) (h : Fin 8) (i : Fin 8192) (x : Fin 64) : EReal :=
  accTo (refZ (argQ m c) (argK m c) b h i) (refV (argV m c) b h x) 0 i.val

abbrev batchAt (t : Fin (cfg0 (F := Ideal)).N) : Fin 2 := ⟨t.val / 64, by have : t.val < 128 := t.isLt; omega⟩
abbrev queryAt (t : Fin (cfg0 (F := Ideal)).N) (r : Fin 128) : Fin 8192 := ⟨128 * (t.val % 64) + r.val, by omega⟩

theorem coords2 : ∀ t : Fin (cfg0 (F := Ideal)).N, ((grid0.coords t) 2).val = t.val % 64 :=
  (by decide +kernel : ∀ t : Fin grid0.N, ((grid0.coords t) 2).val = t.val % 64)

theorem score_at (c : Dev nD) (t : Fin (cfg0 (F := Ideal)).N) (cc : Fin 4) (row : Fin 256) :
    score (iblk m c 0 t) (iblk m c 1 t) cc row =
      refZ (argQ m c) (argK m c) (batchAt t) ⟨2 * cc.val + row.val / 128, by omega⟩ (queryAt t ⟨row.val % 128, by omega⟩) :=
  score_link _ _ _ _ cc row _ _ (fun l => (iblk0_apply m c t _ l).trans (congrFun (V_main_arg0 m c) _))
    (fun key l => (iblk1_apply m c t key l).trans (congrFun (V_main_arg1 m c) _))

theorem value_at (c : Dev nD) (t : Fin (cfg0 (F := Ideal)).N) (cc : Fin 4) (d : Fin 128) :
    (fun key => keyAt (iblk m c 2 t) cc key d) = refV (argV m c) (batchAt t) ⟨2 * cc.val + d.val / 64, by omega⟩ ⟨d.val % 64, by omega⟩ :=
  value_link _ _ cc d _ (fun key l => (iblk2_apply m c t key l).trans (congrFun (V_main_arg2 m c) _))

theorem tame_at (c : Dev nD) (hr : RealQK m c) (t : Fin (cfg0 (F := Ideal)).N) (cc : Fin 4) (row : Fin 256) :
    Tame (score (iblk m c 0 t) (iblk m c 1 t) cc row) := by
  rw [score_at]
  exact tame_of_real fun key => refZ_real hr.1 hr.2 _ _ _ key

theorem outAt_norm (c : Dev nD) (hr : RealQK m c) (t : Fin (cfg0 (F := Ideal)).N) :
    outAt m c t = asOut fun cc r d => normed (fun row d =>
      accTo (score (iblk m c 0 t) (iblk m c 1 t) cc row) (fun key => keyAt (iblk m c 2 t) cc key d) 0 (128 * (t.val % 64) + row.val % 128))
        (fun d => iblk m c 3 t (ix2 0 ⟨128 * cc.val + d.val, by have := cc.isLt; omega⟩)) r d := by
  have haft : ∀ y x : Fin 256, iblk m c 4 t (ix2 y x) = after y x := fun y x => (iblk4_apply m c t y x).trans (after_apply m c y x)
  unfold outAt
  by_cases h : 2 ≤ t.val % 64
  · rw [dif_pos h]
    refine (outA c (envAt m c t) (ms3 t) (hs3 t) (ms5 t) (hs5 t) (iblk m c 3 t) (trips t) (trips_le t) (start_eq t)
      ((cond1_iff t).mpr h) (fun h' => (cond2_iff t).mp h' h)).trans ?_
    refine congrArg asOut (funext fun cc => funext fun r => funext fun d => ?_)
    refine congrArg (fun a => normed a _ r d) (funext fun row => funext fun d => ?_)
    refine (totalA c (envAt m c t) (ms3 t) (hs3 t) (ms5 t) (hs5 t) (iblk m c 3 t) (trips t) (trips_le t) (start_eq t)
      (tame_at m c hr t) haft ((cond1_iff t).mpr h) (fun h' => (cond2_iff t).mp h' h) (by rw [coords2]; exact h)
      (by rw [coords2]; exact if_pos h) cc row d).trans ?_
    rw [coords2]
  · rw [dif_neg h]
    refine (outB c (envAt m c t) (ms3 t) (hs3 t) (ms5 t) (hs5 t) (iblk m c 3 t) (trips t) (trips_le t) (start_eq t)
      (fun h' => h ((cond1_iff t).mp h')) ((cond2_iff t).mpr h)).trans ?_
    refine congrArg asOut (funext fun cc => funext fun r => funext fun d => ?_)
    refine congrArg (fun a => normed a _ r d) (funext fun row => funext fun d => ?_)
    refine (totalB c (envAt m c t) (ms3 t) (hs3 t) (ms5 t) (hs5 t) (iblk m c 3 t) (trips t) (trips_le t) (start_eq t)
      (tame_at m c hr t) haft (fun h' => h ((cond1_iff t).mp h')) ((cond2_iff t).mpr h)
      (by rw [coords2]; exact if_neg h) cc row d).trans ?_
    rw [coords2]

/-- A row's sum is its query's sum in its head. -/
theorem row_sum (c : Dev nD) (t : Fin (cfg0 (F := Ideal)).N) (cc : Fin 4) (row : Fin 256) (d : Fin 128) (hh : row.val / 128 = d.val / 64) :
    accTo (score (iblk m c 0 t) (iblk m c 1 t) cc row) (fun key => keyAt (iblk m c 2 t) cc key d) 0 (128 * (t.val % 64) + row.val % 128)
      = gathered m c (batchAt t) ⟨2 * cc.val + d.val / 64, by omega⟩ (queryAt t ⟨row.val % 128, by omega⟩) ⟨d.val % 64, by omega⟩ := by
  rw [score_at, value_at]
  unfold gathered
  have e : (⟨2 * cc.val + row.val / 128, by omega⟩ : Fin 8) = ⟨2 * cc.val + d.val / 64, by omega⟩ := Fin.ext (by show _ + _ = _ + _; rw [hh])
  rw [e]

theorem gain_at (c : Dev nD) (t : Fin (cfg0 (F := Ideal)).N) (cc : Fin 4) (d : Fin 128) :
    iblk m c 3 t (ix2 0 ⟨128 * cc.val + d.val, by omega⟩) = argG m c (ix2 ⟨2 * cc.val + d.val / 64, by omega⟩ ⟨d.val % 64, by omega⟩) := by
  refine (iblk3_apply m c t _).trans ((congrArg (fun l => V m c main_v0 (ix2 0 l)) (Fin.ext ?_)).trans
    (gain_apply m c ⟨2 * cc.val + d.val / 64, by omega⟩ ⟨d.val % 64, by omega⟩))
  show 128 * cc.val + d.val = 64 * (2 * cc.val + d.val / 64) + d.val % 64
  omega

/-- The reference's result, from the same sums. -/
theorem ref_at (c : Dev nD) (hr : RealQK m c) (b : Fin 2) (i : Fin 8192) (y : Fin 512) :
    Cert.ReferenceIdeal.Read.val_main_v41 (F := Ideal) (argQ m c) (argK m c) (argV m c) (argG m c) (ix3 b i y) =
      rms (gathered m c b ⟨y.val / 64, by omega⟩ i) ⟨y.val % 64, by omega⟩ * argG m c (ix2 ⟨y.val / 64, by omega⟩ ⟨y.val % 64, by omega⟩) := by
  rw [Cert.ReferenceIdeal.Hand.v41_apply]
  have e : ∀ h x, Cert.ReferenceIdeal.Read.val_main_v26 (F := Ideal) (argQ m c) (argK m c) (argV m c) (ix4 b i h x) = gathered m c b h i x :=
    fun h x => Cert.ReferenceIdeal.Hand.v26_apply _ _ _ b h i x fun k => refZ_real hr.1 hr.2 b h i k
  simp only [e]
  rfl

theorem asOut_ix3 (g : Fin 4 → Fin 128 → Fin 128 → EReal) (y0 : Fin 1) (r : Fin 128) (l : Fin 512) :
    asOut g (ix3 y0 r l) = g ⟨l.val / 128, by omega⟩ r ⟨l.val % 128, by omega⟩ := rfl

theorem outAt_ref (c : Dev nD) (hr : RealQK m c) (t : Fin (cfg0 (F := Ideal)).N) (y0 : Fin 1) (r : Fin 128) (l : Fin 512) :
    outAt m c t (ix3 y0 r l) =
      Cert.ReferenceIdeal.Read.val_main_v41 (F := Ideal) (argQ m c) (argK m c) (argV m c) (argG m c) (ix3 (batchAt t) (queryAt t r) l) := by
  rw [ref_at m c hr, outAt_norm m c hr t, asOut_ix3]
  have hl := l.isLt
  refine (normed_eq _ _ (fun j => gathered m c (batchAt t) ⟨2 * (l.val / 128) + j.val, by omega⟩ (queryAt t r)) r ⟨l.val % 128, by omega⟩ ?_ ?_).trans ?_
  · intro x
    refine (row_sum m c t ⟨l.val / 128, by omega⟩ ⟨r.val, by omega⟩ ⟨x.val, by omega⟩ (by show r.val / 128 = x.val / 64; omega)).trans ?_
    congr 1
    · exact Fin.ext (by show 2 * (l.val / 128) + x.val / 64 = 2 * (l.val / 128) + 0; omega)
    · exact Fin.ext (by show 128 * (t.val % 64) + r.val % 128 = 128 * (t.val % 64) + r.val; omega)
    · exact Fin.ext (by show x.val % 64 = x.val; omega)
  · intro x
    refine (row_sum m c t ⟨l.val / 128, by omega⟩ ⟨128 + r.val, by omega⟩ ⟨64 + x.val, by omega⟩ (by show (128 + r.val) / 128 = (64 + x.val) / 64; omega)).trans ?_
    congr 1
    · exact Fin.ext (by show 2 * (l.val / 128) + (64 + x.val) / 64 = 2 * (l.val / 128) + 1; omega)
    · exact Fin.ext (by show 128 * (t.val % 64) + (128 + r.val) % 128 = 128 * (t.val % 64) + r.val; omega)
    · exact Fin.ext (by show (64 + x.val) % 64 = x.val; omega)
  · refine congr (congrArg _ (congr (congrArg rms (congrArg (fun h => gathered m c (batchAt t) h (queryAt t r)) (Fin.ext ?_))) (Fin.ext ?_)))
      ((gain_at m c t ⟨l.val / 128, by omega⟩ ⟨l.val % 128, by omega⟩).trans (congrArg (argG m c) (congr (congrArg ix2 (Fin.ext ?_)) (Fin.ext ?_))))
    · show 2 * (l.val / 128) + l.val % 128 / 64 = l.val / 64; omega
    · show l.val % 128 % 64 = l.val % 64; omega
    · show 2 * (l.val / 128) + l.val % 128 / 64 = l.val / 64; omega
    · show l.val % 128 % 64 = l.val % 64; omega

end Cert.KernelIdeal.Hand
end
-- ==== Proof.AttnFinal.lean ====
/- The attention kernel's run ends with the reference's result. -/
module
public import proofs.«01_k».proof.Proof.AttnValue
public import proofs.«01_k».proof.Pre_finite
public import Idealize.ShloMosaic.Lib.ReduceAll
@[expose] public section
set_option maxRecDepth 16384
set_option maxHeartbeats 1000000
noncomputable section
namespace Cert.KernelIdeal.Hand
open Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The reference's result at the kernel's arguments. -/
abbrev refOut (c : Dev nD) : Vec Ideal S2x8192x512 .bf16 :=
  Cert.ReferenceIdeal.Read.val_main_v41 (F := Ideal) (argQ m c) (argK m c) (argV m c) (argG m c)

theorem block_emb (t : Fin (cfg0 (F := Ideal)).N) (y0 : Fin 1) (r : Fin 128) (l : Fin 512) :
    (((cfg0 (F := Ideal)).win 5).blk t).view.emb (ix3 y0 r l) = ix3 (batchAt t) (queryAt t r) l := by
  refine funext fun a => Fin.ext ?_
  fin_cases a
  · show ((((cfg0 (F := Ideal)).win 5).blk t).view.emb (ix3 y0 r l) 0 : ℕ) = t.val / 64
    blk_simp [idxs t]
  · show ((((cfg0 (F := Ideal)).win 5).blk t).view.emb (ix3 y0 r l) 1 : ℕ) = 128 * (t.val % 64) + r.val
    blk_simp [idxs t]
    omega
  · show ((((cfg0 (F := Ideal)).win 5).blk t).view.emb (ix3 y0 r l) 2 : ℕ) = l.val
    blk_simp [idxs t]

theorem array_eq (c : Dev nD) (hr : RealQK m c) : (dats m 0 c).arrAt 5 (cfg0 (F := Ideal)).N = refOut m c := by
  refine (dats m 0 c).arrAt_eq_of_covers 5 _ (by decide +kernel) fun t hf y => ?_
  blk_simp
  rw [after0_5]
  idx_vars y
  exact (outAt_ref m c hr t _ _ _).trans (congrArg (refOut m c) (block_emb t _ _ _).symm)

theorem run_out (hr : ∀ c, RealQK m c) : θ_run defs (onTc (τ := τ) (main (F := Ideal))) ⟨m, fun _ => 0, ρ⟩ (fun r => ∀ c : Dev nD,
      r.2.mem ((c.tc : Thread nD τ).loc main_v5) = refOut m c) :=
  (θ_run defs _ _).mono (fun _ h c => ((h c).1 5).trans (array_eq m c (hr c))) (run_main m ρ)

/-- Two one-bit words are both set when their conjunction is. -/
theorem and_one : ∀ a b : BitVec 1, IntOp.andi a b = 1#1 ↔ a = 1#1 ∧ b = 1#1 := by decide

/-- An entry below infinity in size is a real number. -/
theorem real_of_lt (x : EReal) (h : FloatOps.cmpf (F := Ideal) (φ := .f32) .olt (FloatOps.absf (F := Ideal) (φ := .f32) x) (Ideal.ofBits .f32 0x7F800000#32) = 1#1) : IsReal x := by
  have ht : Ideal.ofBits .f32 0x7F800000#32 = ⊤ := by simp [Ideal.ofBits, Ideal.ieee]
  have hb : max x (-x) < ⊤ := by
    rw [ht] at h
    by_contra hn
    have : FloatOps.cmpf (F := Ideal) (φ := .f32) .olt (FloatOps.absf (F := Ideal) (φ := .f32) x) (⊤ : EReal) = 0#1 := by
      show BitVec.ofBool (decide (max x (-x) < ⊤)) = 0#1
      rw [decide_eq_false hn]; rfl
    rw [this] at h
    exact absurd h (by decide)
  induction x with
  | bot => exact absurd hb (by simp)
  | coe r => exact ⟨r, rfl⟩
  | top => exact absurd hb (by simp)

/-- The precondition says every query and key entry is a real number. -/
theorem real_of_pre [Cert.Pre_finite.Facts] (c : Dev nD) (j : Cert.Pre_finite.S_.Idx)
    (h : Cert.Pre_finite.fn (F := Ideal) (argQ m c) (argK m c) (argV m c) (argG m c) j = 1#1) : RealQK m c := by
  dsimp only [Cert.Pre_finite.fn] at h
  have h' : IntOp.andi _ _ = 1#1 := h
  obtain ⟨h1, h2⟩ := (and_one _ _).mp h'
  exact ⟨fun i => real_of_lt _ (Host.reduce_andi_all _ _ _ _ j h1 i), fun i => real_of_lt _ (Host.reduce_andi_all _ _ _ _ j h2 i)⟩

end Cert.KernelIdeal.Hand
end
-- ==== Proof.AttnClaims.lean ====
/- The attention call's claims. -/
module
public import proofs.«01_k».proof.Defs
public import proofs.«01_k».proof.Proof.AttnFinal
public import proofs.«01_k».proof.Proof.PlainFrame
@[expose] public section
noncomputable section
namespace Cert.AttnClaims
open Idealize.ShloMosaic Idealize.SL.Sem

/-- What the precondition's text takes for granted. -/
theorem pre_facts : Cert.Pre_finite.Facts where
  bitsLt_bf16_f32 := by decide
  bcast_S_S2x8192x512 := by decide
  reducesTo_S2x8192x512_S_d0_1_2 := by decide
  h_S_ := by decide

attribute [local instance] pre_facts

theorem frame_p : Cert.quiescent_Kernel := fun m g _ => Cert.Kernel.Hand.frame m g

theorem frame_pi : Cert.quiescent_KernelIdeal := fun m g _ => Cert.KernelIdeal.Hand.frame m g

theorem frame_pi_pre : Cert.quiescent_KernelIdeal_pre_finite := fun m g _ => Cert.KernelIdeal.Hand.frame m g

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_pre : Cert.quiescent_ReferenceIdeal_pre_finite := fun m g _ => frame_ri m g trivial

/-- The kernel's stand-in for the logarithm of zero is named; its name's value is minus infinity. -/
theorem preserves : Cert.preserves_Kernel_KernelIdeal :=
  IdealRules.named_const.statement Cert.KernelIdeal.κ "log_zero" .f32 0xC2D16666#32 ⊥ rfl

/-- The kernel and the reference end with the same result. -/
theorem algebraic : Cert.algebraic_KernelIdeal_ReferenceIdeal_pre_finite := by
  intro m g m' g' hp hagree
  have hr : ∀ c, Cert.KernelIdeal.Hand.RealQK m c := fun c =>
    Cert.KernelIdeal.Hand.real_of_pre m c (fun i => i.elim0) (congrFun (hp c) _)
  refine ⟨fun c => Cert.KernelIdeal.Hand.refOut m c, ?_, ?_⟩
  · exact (θ_run Cert.KernelIdeal.defs _ _).mono (fun _ h c => ⟨h.1 c, h.2 c⟩)
      (θ_run_and (Cert.KernelIdeal.Hand.run_out m g hr) (Cert.KernelIdeal.Hand.unchanged m g))
  · refine (θ_run Cert.ReferenceIdeal.defs _ _).mono (fun _ h c => ⟨(h c).1.trans ?_, (h c).2⟩)
      (Cert.ReferenceIdeal.Value.run (F := Ideal) m' g')
    obtain ⟨h0, h1, h2, h3⟩ := hagree c
    rw [Cert.ReferenceIdeal.Read.val_main_v41_eq, h0, h1, h2, h3]

end Cert.AttnClaims
end
-- ==== Proof.FfnHalo.lean ====
/- The feed-forward body's two runs, read as plain sums. -/
module
public import proofs.«01_k».proof.Proof.Gen.Kernel2Ideal.Frame
public import Idealize.ShloMosaic.Lib.Pointwise
public import Idealize.ShloMosaic.Lib.Pipeline.ValueKit
public import Idealize.ShloMosaic.Lib.Pipeline.ReadBack
@[expose] public section
set_option maxRecDepth 16384
set_option maxHeartbeats 2000000
noncomputable section
namespace Cert.Kernel2Ideal.Hand
open Cert.Kernel2Ideal.Gen
open Idealize.ShloMosaic Idealize.ShloMosaic.TcCoe Idealize.ShloMosaic.Tactic
open Idealize.SL.Sem

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x512x1024 .f32) (harg12 : arg12.IsWhole) (arg13 : Memref sig .tc .vmem S22x8x256 .f32) (harg13 : arg13.IsWhole) (arg14 : Memref sig .tc .vmem S512x2816 .bf16) (harg14 : arg14.IsWhole)
variable (x0 : Vec Ideal S1x512x1024 .f32) (x1 : Vec Ideal S1x512x512 .bf16) (x2 : Vec Ideal S1x512x512 .bf16) (x3 : Vec Ideal S1x6x1024 .f32) (x4 : Vec Ideal S1x1024 .f32) (x5 : Vec Ideal S1024x1024 .bf16) (x6 : Vec Ideal S1024x5632 .bf16) (x7 : Vec Ideal S3x5632 .f32) (x8 : Vec Ideal S1x5632 .f32) (x9 : Vec Ideal S2816x1024 .bf16) (xs0 : Vec Ideal S22x8x256 .f32)

/-- The residual after the output projection. -/
def midV : FVec Ideal S512x1024 .f32 :=
  k0_pay5 (View.ld x3 (Rect.unit ![0, 2, 0] ![1, 1, 1024] inb_S1x6x1024_S1x1x1024_0_2_0)) x1
    (View.ld x5 (Rect.unit ![0, 0] ![512, 1024] inb_S1024x1024_S512x1024_0_0)) x2
    (View.ld x5 (Rect.unit ![512, 0] ![512, 1024] inb_S1024x1024_S512x1024_512_0)) x0

/-- The normalised, modulated rows that the up projection reads. -/
def hbV : FVec Ideal S512x1024 .bf16 :=
  k0_pay8 (k0_pay2 (View.ld x3 (Rect.unit ![0, 3, 0] ![1, 1, 1024] inb_S1x6x1024_S1x1x1024_0_3_0)))
    (k0_pay3 (View.ld x3 (Rect.unit ![0, 4, 0] ![1, 1, 1024] inb_S1x6x1024_S1x1x1024_0_4_0)))
    (midV x0 x1 x2 x3 x5)
    (k0_pay6 (View.ld x3 (Rect.unit ![0, 2, 0] ![1, 1, 1024] inb_S1x6x1024_S1x1x1024_0_2_0)) x1
      (View.ld x5 (Rect.unit ![0, 0] ![512, 1024] inb_S1024x1024_S512x1024_0_0)) x2
      (View.ld x5 (Rect.unit ![512, 0] ![512, 1024] inb_S1024x1024_S512x1024_512_0)) x0)
    k0_pay7 x4

/-- The first residual, under its name. -/
theorem midV_fold : k0_pay5 (View.ld x3 (Rect.unit ![0, 2, 0] ![1, 1, 1024] inb_S1x6x1024_S1x1x1024_0_2_0)) x1
    (View.ld x5 (Rect.unit ![0, 0] ![512, 1024] inb_S1024x1024_S512x1024_0_0)) x2
    (View.ld x5 (Rect.unit ![512, 0] ![512, 1024] inb_S1024x1024_S512x1024_512_0)) x0 = midV x0 x1 x2 x3 x5 := rfl

/-- The normalised rows, under their name. -/
theorem hbV_fold : k0_pay8 (k0_pay2 (View.ld x3 (Rect.unit ![0, 3, 0] ![1, 1, 1024] inb_S1x6x1024_S1x1x1024_0_3_0)))
    (k0_pay3 (View.ld x3 (Rect.unit ![0, 4, 0] ![1, 1, 1024] inb_S1x6x1024_S1x1x1024_0_4_0)))
    (midV x0 x1 x2 x3 x5)
    (k0_pay6 (View.ld x3 (Rect.unit ![0, 2, 0] ![1, 1, 1024] inb_S1x6x1024_S1x1x1024_0_2_0)) x1
      (View.ld x5 (Rect.unit ![0, 0] ![512, 1024] inb_S1024x1024_S512x1024_0_0)) x2
      (View.ld x5 (Rect.unit ![512, 0] ![512, 1024] inb_S1024x1024_S512x1024_512_0)) x0)
    k0_pay7 x4 = hbV x0 x1 x2 x3 x4 x5 := rfl

/-- The up projection at a row and a lane. -/
def upAt (hb : FVec Ideal S512x1024 .bf16) (x6 : Vec Ideal S1024x5632 .bf16) (r : Fin 512) (f : Fin 5632) : EReal :=
  ∑ d : Fin 1024, hb (ix2 r d) * x6 (ix2 d f)

/-- The last eight rows of the up projection, by chunk of 256 lanes. -/
def haloOf (hb : FVec Ideal S512x1024 .bf16) (x6 : Vec Ideal S1024x5632 .bf16) : Vec Ideal S22x8x256 .f32 := fun y =>
  upAt hb x6 ⟨504 + (y 1).val, by have : (y 1).val < 8 := (y 1).isLt; omega⟩
    ⟨256 * (y 0).val + (y 2).val, by have : (y 0).val < 22 := (y 0).isLt; have : (y 2).val < 256 := (y 2).isLt; omega⟩

/-- A carried chunk, as one load of the carried array. -/
theorem haloOf_emb (hb : FVec Ideal S512x1024 .bf16) (x6 : Vec Ideal S1024x5632 .bf16) (k : ℕ) (hk : k < 22) (h) (r : Fin 8) (l : Fin 256) :
    haloOf hb x6 ((Rect.unit (s := S22x8x256) ![k, 0, 0] ![1, 8, 256] h).emb (ix3 0 r l)) =
      upAt hb x6 ⟨504 + r.val, by omega⟩ ⟨256 * k + l.val, by omega⟩ := by
  have h0 : ((Rect.unit (s := S22x8x256) ![k, 0, 0] ![1, 8, 256] h).emb (ix3 0 r l) 0).val = k := by
    simp [Rect.unit, Rect.emb, ix3]
  have h1 : ((Rect.unit (s := S22x8x256) ![k, 0, 0] ![1, 8, 256] h).emb (ix3 0 r l) 1).val = r.val := by
    simp [Rect.unit, Rect.emb, ix3]
  have h2 : ((Rect.unit (s := S22x8x256) ![k, 0, 0] ![1, 8, 256] h).emb (ix3 0 r l) 2).val = l.val := by
    simp [Rect.unit, Rect.emb, ix3]
  unfold haloOf
  congr 1
  · exact Fin.ext (by show 504 + _ = 504 + _; rw [h1])
  · exact Fin.ext (by show 256 * _ + _ = 256 * _ + _; rw [h0, h2])

/-- At a batch's first tile, what the body carries on: the last eight rows of the tile's up projection. -/
theorem haloA (hc0 : cond0_0 i) (y : S22x8x256.Idx) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 y = haloOf (hbV x0 x1 x2 x3 x4 x5) x6 y := by
  frame_out [midV_fold, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
  simp only [hbV_fold]
  generalize hbV x0 x1 x2 x3 x4 x5 = hb
  try clear x0 x1 x2 x3 x4 x5 x7 x8 x9 xs0 hc0 harg2 harg3 harg4 harg5 harg6 harg7 harg8 harg9 harg10 harg11 harg12 harg13 harg14 arg2 arg3 arg4 arg5 arg6 arg7 arg8 arg9 arg10 arg11 arg12 arg13 arg14
  refine (congrArg (fun L => View.canon L y) (List.take_append_drop 22 _).symm).trans (View.canon_append_of_piecesOf (haloOf hb x6) _ _ ?_ y ?_)
  swap
  · revert y; exact View.cover_of_tiledL _ S1x8x256.size (by sl_kernel_rfl)
  dsimp only [View.PiecesOf, List.take_succ_cons, List.take_zero]
  refine ⟨?_, ?_, ?_, ?_, ?_, ?_, ?_, ?_, ?_, ?_, ?_, ?_, ?_, ?_, ?_, ?_, ?_, ?_, ?_, ?_, ?_, ?_, trivial⟩
  all_goals
    intro x
    idx_vars x
    obtain rfl : x0 = 0 := Subsingleton.elim _ _
    rw [haloOf_emb _ _ _ (by decide)]
    pointwise
    unfold upAt
    rfl

/-- The same at a later tile: the rows carried in are overwritten. -/
theorem haloB (hc0 : ¬ cond0_0 i) (y : S22x8x256.Idx) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 y = haloOf (hbV x0 x1 x2 x3 x4 x5) x6 y := by
  frame_out [midV_fold, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
  simp only [hbV_fold]
  generalize hbV x0 x1 x2 x3 x4 x5 = hb
  try clear x0 x1 x2 x3 x4 x5 x7 x8 x9 xs0 hc0 harg2 harg3 harg4 harg5 harg6 harg7 harg8 harg9 harg10 harg11 harg12 harg13 harg14 arg2 arg3 arg4 arg5 arg6 arg7 arg8 arg9 arg10 arg11 arg12 arg13 arg14
  refine (congrArg (fun L => View.canon L y) (List.take_append_drop 22 _).symm).trans (View.canon_append_of_piecesOf (haloOf hb x6) _ _ ?_ y ?_)
  swap
  · revert y; exact View.cover_of_tiledL _ S1x8x256.size (by sl_kernel_rfl)
  dsimp only [View.PiecesOf, List.take_succ_cons, List.take_zero]
  refine ⟨?_, ?_, ?_, ?_, ?_, ?_, ?_, ?_, ?_, ?_, ?_, ?_, ?_, ?_, ?_, ?_, ?_, ?_, ?_, ?_, ?_, ?_, trivial⟩
  all_goals
    intro x
    idx_vars x
    obtain rfl : x0 = 0 := Subsingleton.elim _ _
    rw [haloOf_emb _ _ _ (by decide)]
    pointwise
    unfold upAt
    rfl

end Cert.Kernel2Ideal.Hand
-- ==== Proof.FfnOut.lean ====
/- The feed-forward body's two runs, read as plain sums. -/
module
public import proofs.«01_k».proof.Proof.Gen.Kernel2Ideal.Frame
public import proofs.«01_k».proof.Proof.FfnHalo
public import Idealize.ShloMosaic.Lib.Pointwise
public import Idealize.ShloMosaic.Lib.Pipeline.ValueKit
public import Idealize.ShloMosaic.Lib.Pipeline.ReadBack
@[expose] public section
set_option maxRecDepth 16384
set_option maxHeartbeats 2000000
noncomputable section
namespace Cert.Kernel2Ideal.Hand
open Cert.Kernel2Ideal.Gen
open Idealize.ShloMosaic Idealize.ShloMosaic.TcCoe Idealize.ShloMosaic.Tactic
open Idealize.SL.Sem

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x512x1024 .f32) (harg12 : arg12.IsWhole) (arg13 : Memref sig .tc .vmem S22x8x256 .f32) (harg13 : arg13.IsWhole) (arg14 : Memref sig .tc .vmem S512x2816 .bf16) (harg14 : arg14.IsWhole)
variable (x0 : Vec Ideal S1x512x1024 .f32) (x1 : Vec Ideal S1x512x512 .bf16) (x2 : Vec Ideal S1x512x512 .bf16) (x3 : Vec Ideal S1x6x1024 .f32) (x4 : Vec Ideal S1x1024 .f32) (x5 : Vec Ideal S1024x1024 .bf16) (x6 : Vec Ideal S1024x5632 .bf16) (x7 : Vec Ideal S3x5632 .f32) (x8 : Vec Ideal S1x5632 .f32) (x9 : Vec Ideal S2816x1024 .bf16) (xs0 : Vec Ideal S22x8x256 .f32)

/-- The up-projection `k` rows back from row `r`, column `l` of chunk `c`: the carried rows come first, then this tile's. -/
def backAt (H : Vec Ideal S22x8x256 .f32) (hb : FVec Ideal S512x1024 .bf16) (x6 : Vec Ideal S1024x5632 .bf16) (k : ℕ) (c : Fin 22) (r : Fin 512)
    (l : Fin 256) : EReal :=
  if h : (8 + r.val + 520 - k) % 520 < 8 then H (ix3 c ⟨(8 + r.val + 520 - k) % 520, h⟩ l)
  else upAt hb x6 ⟨(8 + r.val + 520 - k) % 520 - 8, by omega⟩ ⟨256 * c.val + l.val, by omega⟩

/-- The three-tap convolution at row `r`, column `l` of chunk `c`. -/
def convAt (H : Vec Ideal S22x8x256 .f32) (hb : FVec Ideal S512x1024 .bf16) (x6 : Vec Ideal S1024x5632 .bf16) (x7 : Vec Ideal S3x5632 .f32)
    (x8 : Vec Ideal S1x5632 .f32) (c : Fin 22) (r : Fin 512) (l : Fin 256) : EReal :=
  x7 (ix2 2 ⟨256 * c.val + l.val, by omega⟩) * upAt hb x6 r ⟨256 * c.val + l.val, by omega⟩ +
      x7 (ix2 1 ⟨256 * c.val + l.val, by omega⟩) * backAt H hb x6 1 c r l +
      x7 (ix2 0 ⟨256 * c.val + l.val, by omega⟩) * backAt H hb x6 2 c r l +
    x8 (ix2 0 ⟨256 * c.val + l.val, by omega⟩)

/-- The gated activation at row `r`, column `l` of chunk `c`. -/
def actAt (H : Vec Ideal S22x8x256 .f32) (hb : FVec Ideal S512x1024 .bf16) (x6 : Vec Ideal S1024x5632 .bf16) (x7 : Vec Ideal S3x5632 .f32)
    (x8 : Vec Ideal S1x5632 .f32) (c : Fin 11) (r : Fin 512) (l : Fin 256) : EReal :=
  Ideal.div (convAt H hb x6 x7 x8 ⟨c.val, by omega⟩ r l) (1 + Ideal.exp (0 - convAt H hb x6 x7 x8 ⟨c.val, by omega⟩ r l)) *
    convAt H hb x6 x7 x8 ⟨11 + c.val, by omega⟩ r l

/-- The gated activation of a tile, as one array. -/
def actOf (H : Vec Ideal S22x8x256 .f32) (hb : FVec Ideal S512x1024 .bf16) (x6 : Vec Ideal S1024x5632 .bf16) (x7 : Vec Ideal S3x5632 .f32)
    (x8 : Vec Ideal S1x5632 .f32) : S512x2816.Idx → EReal := fun y =>
  actAt H hb x6 x7 x8 ⟨(y 1).val / 256, by have : (y 1).val < 2816 := (y 1).isLt; omega⟩ (y 0) ⟨(y 1).val % 256, by omega⟩

/-- A stored chunk of the activation, as one load of the array. -/
theorem actOf_emb (H : Vec Ideal S22x8x256 .f32) (hb : FVec Ideal S512x1024 .bf16) (x6 : Vec Ideal S1024x5632 .bf16) (x7 : Vec Ideal S3x5632 .f32)
    (x8 : Vec Ideal S1x5632 .f32) (k : ℕ) (hk : k % 256 = 0 ∧ k < 2816) (h) (r : Fin 512) (l : Fin 256) :
    actOf H hb x6 x7 x8 ((Rect.unit (s := S512x2816) ![0, k] ![512, 256] h).emb (ix2 r l)) =
      actAt H hb x6 x7 x8 ⟨k / 256, by omega⟩ r l := by
  have h0 : ((Rect.unit (s := S512x2816) ![0, k] ![512, 256] h).emb (ix2 r l) 0).val = r.val := by
    simp [Rect.unit, Rect.emb, ix2]
  have h1 : ((Rect.unit (s := S512x2816) ![0, k] ![512, 256] h).emb (ix2 r l) 1).val = k + l.val := by
    simp [Rect.unit, Rect.emb, ix2]
  unfold actOf
  congr 1
  · exact Fin.ext (by show _ / 256 = k / 256; rw [h1]; omega)
  · exact Fin.ext h0
  · exact Fin.ext (by show _ % 256 = l.val; rw [h1]; omega)

/-- A load of a scratch buffer whose stores are all read off one array and cover it is a load of that array. -/
theorem readCov_of_pieces {sig : RefSig} {κ : Kind} {sp : Space} {s : Shape} {e : EltTy} (v : View sig κ sp s e)
    (L : List (View.Piece (Elt Ideal) s e)) (G : s.Idx → Elt Ideal e) (r : Rect s) (h : View.PiecesOf G L)
    (hc : ∀ y, ∃ p ∈ L, y ∈ p.1.set) : v.readCov L r = View.ld G r := by
  rw [View.readCov_eq_canon']
  funext j
  exact View.canon_apply_of_pieces G L h.mem _ (hc _)

/-- The second residual, row `r`, column `e`. -/
def outOf (act : S512x2816.Idx → EReal) (mid : FVec Ideal S512x1024 .f32) (x3 : Vec Ideal S1x6x1024 .f32) (x9 : Vec Ideal S2816x1024 .bf16)
    (r : Fin 512) (e : Fin 1024) : EReal :=
  mid (ix2 r e) + x3 (ix3 0 5 e) * ∑ f : Fin 2816, act (ix2 r f) * x9 (ix2 f e)

/-- The first chunk rotates as every other. -/
theorem pay13_fold (v3 v5 : FVec Ideal S1x1024 .f32) (v21 : FVec Ideal S512x1024 .f32) (v26 v27 : FVec Ideal S512x1 .f32) (v32 : Vec Ideal S1x1024 .f32)
    (v45 : Vec Ideal S1024x256 .bf16) (v47 : Vec Ideal S1x8x256 .f32) :
    k0_pay13 v3 v5 v21 v26 v27 v32 v45 v47 = k0_pay65 (k0_pay8 v3 v5 v21 v26 v27 v32) v45 v47 := rfl

/-- The first chunk takes its first two taps as every other. -/
theorem pay14_fold (v3 v5 : FVec Ideal S1x1024 .f32) (v21 : FVec Ideal S512x1024 .f32) (v26 v27 : FVec Ideal S512x1 .f32) (v32 : Vec Ideal S1x1024 .f32)
    (v45 : Vec Ideal S1024x256 .bf16) (v47 : Vec Ideal S1x8x256 .f32) (v58 v61 : Vec Ideal S1x256 .f32) :
    k0_pay14 v3 v5 v21 v26 v27 v32 v45 v47 v58 v61 = k0_pay87 (k0_pay8 v3 v5 v21 v26 v27 v32) v45 v47 v58 v61 := rfl

/-- At a batch's first tile the carried rows are zero. -/
theorem outA (hc0 : cond0_0 i) (r : Fin 512) (e : Fin 1024) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 0 r e) =
      outOf (actOf (k0_pay9 (F := Ideal)) (hbV x0 x1 x2 x3 x4 x5) x6 x7 x8) (midV x0 x1 x2 x3 x5) x3 x9 r e := by
  frame_open
  simp (disch := decide) only [↓ View.readCov_skip, ↓ View.readCov_cons_toLoadRect, ↓ View.readCov_fill]
  frame_out [midV_fold]
  simp only [pay13_fold, pay14_fold, hbV_fold]
  generalize hbV x0 x1 x2 x3 x4 x5 = hb
  generalize midV x0 x1 x2 x3 x5 = mid
  generalize k0_pay9 (F := Ideal) = H
  try clear x0 x1 x2 x4 x5 hc0 harg2 harg3 harg4 harg5 harg6 harg7 harg8 harg9 harg10 harg11 harg12 harg14 arg2 arg3 arg4 arg5 arg6 arg7 arg8 arg9 arg10 arg11 arg12
  rw [readCov_of_pieces _ _ (actOf H hb x6 x7 x8)]
  · generalize actOf H hb x6 x7 x8 = act
    pointwise [k0_pay1, k0_pay2, k0_pay3, k0_pay4, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
    unfold outOf
    rfl
  · dsimp only [View.PiecesOf]
    refine ⟨?_, ?_, ?_, ?_, ?_, ?_, ?_, ?_, ?_, ?_, ?_, trivial⟩
    all_goals
      intro x
      idx_vars x
      rw [actOf_emb _ _ _ _ _ _ (by decide)]
      pointwise [k0_pay1, k0_pay2, k0_pay3, k0_pay4, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
      unfold actAt convAt backAt upAt
      first | rfl | (simp only [Nat.zero_div, Fin.val_zero, Fin.coe_ofNat_eq_mod, Nat.zero_mod, Nat.mul_zero, Nat.zero_add]; rfl)
  · intro y
    revert y
    exact View.cover_of_tiledL _ S512x256.size (by sl_kernel_rfl)

/-- At a later tile they are what the tile before left. -/
theorem outB (hc0 : ¬ cond0_0 i) (r : Fin 512) (e : Fin 1024) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 (ix3 0 r e) =
      outOf (actOf xs0 (hbV x0 x1 x2 x3 x4 x5) x6 x7 x8) (midV x0 x1 x2 x3 x5) x3 x9 r e := by
  frame_open
  simp (disch := decide) only [↓ View.readCov_skip, ↓ View.readCov_cons_toLoadRect, ↓ View.readCov_fill]
  frame_out [midV_fold]
  simp only [pay13_fold, pay14_fold, hbV_fold]
  generalize hbV x0 x1 x2 x3 x4 x5 = hb
  generalize midV x0 x1 x2 x3 x5 = mid

  try clear x0 x1 x2 x4 x5 hc0 harg2 harg3 harg4 harg5 harg6 harg7 harg8 harg9 harg10 harg11 harg12 harg14 arg2 arg3 arg4 arg5 arg6 arg7 arg8 arg9 arg10 arg11 arg12
  rw [readCov_of_pieces _ _ (actOf xs0 hb x6 x7 x8)]
  · generalize actOf xs0 hb x6 x7 x8 = act
    pointwise [k0_pay1, k0_pay2, k0_pay3, k0_pay4, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
    unfold outOf
    rfl
  · dsimp only [View.PiecesOf]
    refine ⟨?_, ?_, ?_, ?_, ?_, ?_, ?_, ?_, ?_, ?_, ?_, trivial⟩
    all_goals
      intro x
      idx_vars x
      rw [actOf_emb _ _ _ _ _ _ (by decide)]
      pointwise [k0_pay1, k0_pay2, k0_pay3, k0_pay4, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
      unfold actAt convAt backAt upAt
      first | rfl | (simp only [Nat.zero_div, Fin.val_zero, Fin.coe_ofNat_eq_mod, Nat.zero_mod, Nat.mul_zero, Nat.zero_add]; rfl)
  · intro y
    revert y
    exact View.cover_of_tiledL _ S512x256.size (by sl_kernel_rfl)

end Cert.Kernel2Ideal.Hand
-- ==== Proof.FfnMath.lean ====
/- What the feed-forward call computes, on plain functions: the residual, the normalised rows, the convolution over the rows, the gate. -/
module
public import Idealize.ShloMosaic.Lib.Pointwise
@[expose] public section
noncomputable section
namespace Cert.FfnMath
open Idealize.ShloMosaic

variable (x : Fin 2 → Fin 8192 → Fin 1024 → EReal) (yp o : Fin 2 → Fin 8192 → Fin 512 → EReal) (md : Fin 2 → Fin 6 → Fin 1024 → EReal)
  (g : Fin 1024 → EReal) (wo : Fin 1024 → Fin 1024 → EReal) (wu : Fin 1024 → Fin 5632 → EReal) (cw : Fin 3 → Fin 5632 → EReal)
  (cb : Fin 5632 → EReal) (wd : Fin 2816 → Fin 1024 → EReal)

/-- The first residual. -/
def mid (b : Fin 2) (s : Fin 8192) (e : Fin 1024) : EReal :=
  x b s e + md b 2 e * (∑ k : Fin 512, yp b s k * wo ⟨k.val, by omega⟩ e + ∑ k : Fin 512, o b s k * wo ⟨512 + k.val, by omega⟩ e)

/-- A row normalised, scaled and shifted. -/
def normed (a : Fin 2 → Fin 8192 → Fin 1024 → EReal) (b : Fin 2) (s : Fin 8192) (d : Fin 1024) : EReal :=
  a b s d * Ideal.rsqrt (Ideal.div (∑ k : Fin 1024, a b s k * a b s k) (Ideal.ofBits .f32 0x44800000#32) + Ideal.ofBits .f32 0x358637BD#32)
    * (g d * (1 + md b 4 d)) + md b 3 d

/-- The up projection at a row number, zero past the last row. -/
def up (h : Fin 2 → Fin 8192 → Fin 1024 → EReal) (b : Fin 2) (n : ℕ) (f : Fin 5632) : EReal :=
  if hn : n < 8192 then ∑ d : Fin 1024, h b ⟨n, hn⟩ d * wu d f else 0

/-- `k` rows back, zero before the first row. -/
def back (u : Fin 2 → ℕ → Fin 5632 → EReal) (k : ℕ) (b : Fin 2) (n : ℕ) (f : Fin 5632) : EReal := if n < k then 0 else u b (n - k) f

/-- The three-tap convolution down the rows. -/
def conv (u : Fin 2 → ℕ → Fin 5632 → EReal) (b : Fin 2) (n : ℕ) (f : Fin 5632) : EReal :=
  cw 2 f * u b n f + cw 1 f * back u 1 b n f + cw 0 f * back u 2 b n f + cb f

/-- The gated activation. -/
def act (v : Fin 2 → ℕ → Fin 5632 → EReal) (b : Fin 2) (n : ℕ) (f : Fin 2816) : EReal :=
  Ideal.div (v b n ⟨f.val, by omega⟩) (1 + Ideal.exp (0 - v b n ⟨f.val, by omega⟩)) * v b n ⟨2816 + f.val, by omega⟩

/-- The call's result at one place. -/
def out (b : Fin 2) (s : Fin 8192) (e : Fin 1024) : EReal :=
  mid x yp o md wo b s e
    + md b 5 e * ∑ f : Fin 2816, act (conv cw cb (up wu (normed md g (mid x yp o md wo)))) b s.val f * wd f e

end Cert.FfnMath
-- ==== Proof.FfnArray.lean ====
/- The blocks the feed-forward kernel works on, read off the arguments; its residual and normalised rows at a place. -/
module
public import proofs.«01_k».proof.Proof.FfnOut
public import proofs.«01_k».proof.Proof.FfnMath
public import Idealize.ShloMosaic.Lib.StableHlo.Run
@[expose] public section
set_option maxRecDepth 16384
set_option maxHeartbeats 1000000
noncomputable section
namespace Cert.Kernel2Ideal.Hand
open Cert.Kernel2Ideal.Gen
open Idealize.ShloMosaic Idealize.ShloMosaic.TcCoe Idealize.ShloMosaic.Tactic
open Idealize.SL.Sem

variable (m : (ℓ : Loc nD τ sig) → Buf (Elt Ideal) ℓ)

theorem idxs : ∀ t : Fin grid0.N, win0_0.index t = ![t.val / 16, t.val % 16, 0] ∧ win0_1.index t = ![t.val / 16, t.val % 16, 0]
    ∧ win0_2.index t = ![t.val / 16, t.val % 16, 0] ∧ win0_3.index t = ![t.val / 16, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val / 16, t.val % 16, 0] := by decide +kernel

theorem iblk0_apply (c : Dev nD) (t : Fin cfg0.N) (r : Fin 512) (l : Fin 1024) :
    iblk m c 0 t (ix3 0 r l) = m ((c : Thread nD τ).loc main_arg0) (ix3 ⟨t.val / 16, by have : t.val < 32 := t.isLt; omega⟩ ⟨512 * (t.val % 16) + r.val, by omega⟩ l) := by
  refine Eq.trans (b := V m c main_arg0 (ix3 ⟨t.val / 16, by have : t.val < 32 := t.isLt; omega⟩ ⟨512 * (t.val % 16) + r.val, by omega⟩ l)) ?_ (congrFun (V_main_arg0 m c) _)
  blk_ext [iblk, idxs t]

theorem iblk1_apply (c : Dev nD) (t : Fin cfg0.N) (r : Fin 512) (l : Fin 512) :
    iblk m c 1 t (ix3 0 r l) = m ((c : Thread nD τ).loc main_arg1) (ix3 ⟨t.val / 16, by have : t.val < 32 := t.isLt; omega⟩ ⟨512 * (t.val % 16) + r.val, by omega⟩ l) := by
  refine Eq.trans (b := V m c main_arg1 (ix3 ⟨t.val / 16, by have : t.val < 32 := t.isLt; omega⟩ ⟨512 * (t.val % 16) + r.val, by omega⟩ l)) ?_ (congrFun (V_main_arg1 m c) _)
  blk_ext [iblk, idxs t]

theorem iblk2_apply (c : Dev nD) (t : Fin cfg0.N) (r : Fin 512) (l : Fin 512) :
    iblk m c 2 t (ix3 0 r l) = m ((c : Thread nD τ).loc main_arg2) (ix3 ⟨t.val / 16, by have : t.val < 32 := t.isLt; omega⟩ ⟨512 * (t.val % 16) + r.val, by omega⟩ l) := by
  refine Eq.trans (b := V m c main_arg2 (ix3 ⟨t.val / 16, by have : t.val < 32 := t.isLt; omega⟩ ⟨512 * (t.val % 16) + r.val, by omega⟩ l)) ?_ (congrFun (V_main_arg2 m c) _)
  blk_ext [iblk, idxs t]

theorem iblk3_apply (c : Dev nD) (t : Fin cfg0.N) (k : Fin 6) (l : Fin 1024) :
    iblk m c 3 t (ix3 0 k l) = m ((c : Thread nD τ).loc main_arg3) (ix3 ⟨t.val / 16, by have : t.val < 32 := t.isLt; omega⟩ k l) := by
  refine Eq.trans (b := V m c main_arg3 (ix3 ⟨t.val / 16, by have : t.val < 32 := t.isLt; omega⟩ k l)) ?_ (congrFun (V_main_arg3 m c) _)
  blk_ext [iblk, idxs t]

theorem iblk4_apply (c : Dev nD) (t : Fin cfg0.N) (l : Fin 1024) : iblk m c 4 t (ix2 0 l) = V m c main_v0 (ix2 0 l) := by
  blk_ext [iblk, idxs t]

theorem iblk5_apply (c : Dev nD) (t : Fin cfg0.N) (k l : Fin 1024) : iblk m c 5 t (ix2 k l) = m ((c : Thread nD τ).loc main_arg5) (ix2 k l) := by
  refine Eq.trans (b := V m c main_arg5 (ix2 k l)) ?_ (congrFun (V_main_arg5 m c) _)
  blk_ext [iblk, idxs t]

theorem iblk6_apply (c : Dev nD) (t : Fin cfg0.N) (k : Fin 1024) (l : Fin 5632) : iblk m c 6 t (ix2 k l) = m ((c : Thread nD τ).loc main_arg6) (ix2 k l) := by
  refine Eq.trans (b := V m c main_arg6 (ix2 k l)) ?_ (congrFun (V_main_arg6 m c) _)
  blk_ext [iblk, idxs t]

theorem iblk7_apply (c : Dev nD) (t : Fin cfg0.N) (k : Fin 3) (l : Fin 5632) : iblk m c 7 t (ix2 k l) = m ((c : Thread nD τ).loc main_arg7) (ix2 k l) := by
  refine Eq.trans (b := V m c main_arg7 (ix2 k l)) ?_ (congrFun (V_main_arg7 m c) _)
  blk_ext [iblk, idxs t]

theorem iblk8_apply (c : Dev nD) (t : Fin cfg0.N) (l : Fin 5632) : iblk m c 8 t (ix2 0 l) = V m c main_v1 (ix2 0 l) := by
  blk_ext [iblk, idxs t]

theorem iblk9_apply (c : Dev nD) (t : Fin cfg0.N) (k : Fin 2816) (l : Fin 1024) : iblk m c 9 t (ix2 k l) = m ((c : Thread nD τ).loc main_arg9) (ix2 k l) := by
  refine Eq.trans (b := V m c main_arg9 (ix2 k l)) ?_ (congrFun (V_main_arg9 m c) _)
  blk_ext [iblk, idxs t]

theorem v0_apply (c : Dev nD) (l : Fin 1024) : V m c main_v0 (ix2 0 l) = m ((c : Thread nD τ).loc main_arg4) (ix1 l) := by
  unfold_abbrev_sides
  after_results
  pointwise

theorem v1_apply (c : Dev nD) (l : Fin 5632) : V m c main_v1 (ix2 0 l) = m ((c : Thread nD τ).loc main_arg8) (ix1 l) := by
  unfold_abbrev_sides
  after_results
  pointwise

variable (x0 : Vec Ideal S1x512x1024 .f32) (x1 : Vec Ideal S1x512x512 .bf16) (x2 : Vec Ideal S1x512x512 .bf16) (x3 : Vec Ideal S1x6x1024 .f32)
  (x4 : Vec Ideal S1x1024 .f32) (x5 : Vec Ideal S1024x1024 .bf16)

theorem midV_apply (r : Fin 512) (e : Fin 1024) : midV x0 x1 x2 x3 x5 (ix2 r e) =
    x0 (ix3 0 r e) + x3 (ix3 0 2 e) * (∑ k : Fin 512, x1 (ix3 0 r k) * x5 (ix2 ⟨k.val, by omega⟩ e)
      + ∑ k : Fin 512, x2 (ix3 0 r k) * x5 (ix2 ⟨512 + k.val, by omega⟩ e)) := by
  unfold midV
  pointwise [k0_pay5, k0_pay2, k0_pay3, k0_pay4]

theorem hbV_apply (r : Fin 512) (d : Fin 1024) : hbV x0 x1 x2 x3 x4 x5 (ix2 r d) =
    midV x0 x1 x2 x3 x5 (ix2 r d)
      * Ideal.rsqrt (Ideal.div (∑ k : Fin 1024, midV x0 x1 x2 x3 x5 (ix2 r k) * midV x0 x1 x2 x3 x5 (ix2 r k)) (Ideal.ofBits .f32 0x44800000#32)
          + Ideal.ofBits .f32 0x358637BD#32)
      * (x4 (ix2 0 d) * (1 + x3 (ix3 0 4 d))) + x3 (ix3 0 3 d) := by
  unfold hbV
  pointwise [k0_pay8, k0_pay7, k0_pay6, k0_pay2, k0_pay3, k0_pay4, midV_fold]
end Cert.Kernel2Ideal.Hand
-- ==== Proof.FfnPoint.lean ====
/- What a tile's body writes, as the plain function of the arguments. -/
module
public import proofs.«01_k».proof.Proof.FfnArray
@[expose] public section
set_option maxRecDepth 16384
set_option maxHeartbeats 1000000
noncomputable section
namespace Cert.Kernel2Ideal.Hand
open Cert.Kernel2Ideal.Gen
open Idealize.ShloMosaic Idealize.ShloMosaic.TcCoe Idealize.ShloMosaic.Tactic
open Idealize.SL.Sem

section Tile
variable (u : Fin 2 → ℕ → Fin 5632 → EReal) (cw : Fin 3 → Fin 5632 → EReal) (cb : Fin 5632 → EReal) (b : Fin 2) (n : ℕ)
  (H : Vec Ideal S22x8x256 .f32) (hb : FVec Ideal S512x1024 .bf16) (x6 : Vec Ideal S1024x5632 .bf16) (x7 : Vec Ideal S3x5632 .f32) (x8 : Vec Ideal S1x5632 .f32)

/-- The carried rows are the eight before row `n`, zero before the first. -/
def Carries : Prop := ∀ (c : Fin 22) (q : Fin 8) (l : Fin 256), H (ix3 c q l) =
  if n + q.val < 8 then 0 else u b (n + q.val - 8) ⟨256 * c.val + l.val, by omega⟩

variable (hu : ∀ r f, upAt hb x6 r f = u b (n + r.val) f) (hH : Carries u b n H)
include hu hH

/-- Looking back `k` rows within the tile and the carried rows is looking back `k` rows in the sequence. -/
theorem backAt_eq (k : ℕ) (hk : k ≤ 8) (c : Fin 22) (r : Fin 512) (l : Fin 256) :
    backAt H hb x6 k c r l = FfnMath.back u k b (n + r.val) ⟨256 * c.val + l.val, by omega⟩ := by
  have hr := r.isLt
  have e : (8 + r.val + 520 - k) % 520 = 8 + r.val - k := by omega
  unfold backAt FfnMath.back
  by_cases h : r.val < k
  · rw [dif_pos (by omega : (8 + r.val + 520 - k) % 520 < 8), hH]
    have e1 : n + (8 + r.val + 520 - k) % 520 = n + 8 + r.val - k := by omega
    dsimp only
    rw [e1]
    by_cases hn : n + r.val < k
    · rw [if_pos (by omega), if_pos hn]
    · rw [if_neg (by omega), if_neg hn]
      congr 1
      omega
  · rw [dif_neg (by omega : ¬(8 + r.val + 520 - k) % 520 < 8), hu, if_neg (by omega)]
    congr 1
    dsimp only
    omega

variable (h7 : ∀ k f, x7 (ix2 k f) = cw k f) (h8 : ∀ f, x8 (ix2 0 f) = cb f)
include h7 h8

theorem convAt_eq (c : Fin 22) (r : Fin 512) (l : Fin 256) :
    convAt H hb x6 x7 x8 c r l = FfnMath.conv cw cb u b (n + r.val) ⟨256 * c.val + l.val, by omega⟩ := by
  unfold convAt FfnMath.conv
  rw [backAt_eq u b n H hb x6 hu hH 1 (by omega), backAt_eq u b n H hb x6 hu hH 2 (by omega), hu, h7, h7, h7, h8]

theorem actOf_eq (r : Fin 512) (f : Fin 2816) :
    actOf H hb x6 x7 x8 (ix2 r f) = FfnMath.act (FfnMath.conv cw cb u) b (n + r.val) f := by
  have hf := f.isLt
  show actAt H hb x6 x7 x8 ⟨f.val / 256, by omega⟩ r ⟨f.val % 256, by omega⟩ = _
  unfold actAt FfnMath.act
  rw [convAt_eq u cw cb b n H hb x6 x7 x8 hu hH h7 h8, convAt_eq u cw cb b n H hb x6 x7 x8 hu hH h7 h8]
  have e1 : (⟨256 * (f.val / 256) + f.val % 256, by omega⟩ : Fin 5632) = ⟨f.val, by omega⟩ := Fin.ext (by dsimp only; omega)
  have e2 : (⟨256 * (11 + f.val / 256) + f.val % 256, by omega⟩ : Fin 5632) = ⟨2816 + f.val, by omega⟩ := Fin.ext (by dsimp only; omega)
  dsimp only
  rw [e1, e2]

end Tile

/-- The halves of a pair known by an equation. -/
theorem fst_of {α β : Type} {p : α × β} {a : α} {b : β} (h : p = (a, b)) : p.1 = a := by rw [h]
theorem snd_of {α β : Type} {p : α × β} {a : α} {b : β} (h : p = (a, b)) : p.2 = b := by rw [h]

variable (m : (ℓ : Loc nD τ sig) → Buf (Elt Ideal) ℓ)

abbrev aX (c : Dev nD) : Fin 2 → Fin 8192 → Fin 1024 → EReal := fun b s e => m ((c : Thread nD τ).loc main_arg0) (ix3 b s e)
abbrev aYp (c : Dev nD) : Fin 2 → Fin 8192 → Fin 512 → EReal := fun b s e => m ((c : Thread nD τ).loc main_arg1) (ix3 b s e)
abbrev aO (c : Dev nD) : Fin 2 → Fin 8192 → Fin 512 → EReal := fun b s e => m ((c : Thread nD τ).loc main_arg2) (ix3 b s e)
abbrev aMd (c : Dev nD) : Fin 2 → Fin 6 → Fin 1024 → EReal := fun b s e => m ((c : Thread nD τ).loc main_arg3) (ix3 b s e)
abbrev aG (c : Dev nD) : Fin 1024 → EReal := fun e => m ((c : Thread nD τ).loc main_arg4) (ix1 e)
abbrev aWo (c : Dev nD) : Fin 1024 → Fin 1024 → EReal := fun k e => m ((c : Thread nD τ).loc main_arg5) (ix2 k e)
abbrev aWu (c : Dev nD) : Fin 1024 → Fin 5632 → EReal := fun k e => m ((c : Thread nD τ).loc main_arg6) (ix2 k e)
abbrev aCw (c : Dev nD) : Fin 3 → Fin 5632 → EReal := fun k e => m ((c : Thread nD τ).loc main_arg7) (ix2 k e)
abbrev aCb (c : Dev nD) : Fin 5632 → EReal := fun e => m ((c : Thread nD τ).loc main_arg8) (ix1 e)
abbrev aWd (c : Dev nD) : Fin 2816 → Fin 1024 → EReal := fun k e => m ((c : Thread nD τ).loc main_arg9) (ix2 k e)

/-- The first residual of the arguments. -/
abbrev aMid (c : Dev nD) := FfnMath.mid (aX m c) (aYp m c) (aO m c) (aMd m c) (aWo m c)
/-- The up projection of the arguments. -/
abbrev aUp (c : Dev nD) := FfnMath.up (aWu m c) (FfnMath.normed (aMd m c) (aG m c) (aMid m c))

/-- A tile's batch. -/
abbrev tileB (t : Fin cfg0.N) : Fin 2 := ⟨t.val / 16, by have : t.val < 32 := t.isLt; omega⟩
/-- A row of a tile, in the sequence. -/
abbrev tileS (t : Fin cfg0.N) (r : Fin 512) : Fin 8192 := ⟨512 * (t.val % 16) + r.val, by omega⟩

/-- A tile's residual and normalised rows. -/
abbrev tMid (c : Dev nD) (t : Fin cfg0.N) := midV (iblk m c 0 t) (iblk m c 1 t) (iblk m c 2 t) (iblk m c 3 t) (iblk m c 5 t)
abbrev tHb (c : Dev nD) (t : Fin cfg0.N) := hbV (iblk m c 0 t) (iblk m c 1 t) (iblk m c 2 t) (iblk m c 3 t) (iblk m c 4 t) (iblk m c 5 t)

theorem tMid_apply (c : Dev nD) (t : Fin cfg0.N) (r : Fin 512) (e : Fin 1024) : tMid m c t (ix2 r e) = aMid m c (tileB t) (tileS t r) e := by
  refine (midV_apply _ _ _ _ _ r e).trans ?_
  simp only [iblk0_apply, iblk1_apply, iblk2_apply, iblk3_apply, iblk5_apply]
  rfl

theorem tHb_apply (c : Dev nD) (t : Fin cfg0.N) (r : Fin 512) (d : Fin 1024) :
    tHb m c t (ix2 r d) = FfnMath.normed (aMd m c) (aG m c) (aMid m c) (tileB t) (tileS t r) d := by
  refine (hbV_apply _ _ _ _ _ _ r d).trans ?_
  have e : ∀ k, midV (iblk m c 0 t) (iblk m c 1 t) (iblk m c 2 t) (iblk m c 3 t) (iblk m c 5 t) (ix2 r k) = aMid m c (tileB t) (tileS t r) k :=
    tMid_apply m c t r
  simp only [e, iblk3_apply, (iblk4_apply m c t _).trans (v0_apply m c _)]
  rfl

theorem tUp_apply (c : Dev nD) (t : Fin cfg0.N) (r : Fin 512) (f : Fin 5632) :
    upAt (tHb m c t) (iblk m c 6 t) r f = aUp m c (tileB t) (512 * (t.val % 16) + r.val) f := by
  unfold upAt
  simp only [tHb_apply, iblk6_apply]
  unfold aUp FfnMath.up
  rw [dif_pos (by omega)]

theorem outAt_A (c : Dev nD) (t : Fin cfg0.N) (h0 : t.val % 16 = 0) : (outsAt0 m c t.val t.isLt).1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1
      (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) :=
  fst_of (outsAt0_A m c t h0)

theorem haloAt_A (c : Dev nD) (t : Fin cfg0.N) (h0 : t.val % 16 = 0) : (outsAt0 m c t.val t.isLt).2 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1
      (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) :=
  snd_of (outsAt0_A m c t h0)

theorem outAt_B (c : Dev nD) (t : Fin cfg0.N) (h0 : ¬ t.val % 16 = 0) : (outsAt0 m c t.val t.isLt).1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1
      (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2 :=
  fst_of (outsAt0_B m c t h0)

theorem haloAt_B (c : Dev nD) (t : Fin cfg0.N) (h0 : ¬ t.val % 16 = 0) : (outsAt0 m c t.val t.isLt).2 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1
      (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2 :=
  snd_of (outsAt0_B m c t h0)

/-- What a tile carries on: its last eight rows of the up projection. -/
theorem carried_eq (c : Dev nD) (t : Fin cfg0.N) (y) : (outsAt0 m c t.val t.isLt).2 y = haloOf (tHb m c t) (iblk m c 6 t) y := by
  by_cases h0 : t.val % 16 = 0
  · exact (congrFun (haloAt_A m c t h0) y).trans (haloA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1
      (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) y)
  · exact (congrFun (haloAt_B m c t h0) y).trans (haloB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1
      (Memref.isWhole_whole _) (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2 (fun h => h0 ((hcond0_0 t).mp h)) y)

theorem carries_first (c : Dev nD) (t : Fin cfg0.N) (h0 : t.val % 16 = 0) :
    Carries (aUp m c) (tileB t) (512 * (t.val % 16)) (k0_pay9 (F := Ideal)) := by
  intro k q l
  rw [if_pos (by omega)]
  pointwise [k0_pay9]

theorem carries_later (c : Dev nD) (t : Fin cfg0.N) (h0 : ¬ t.val % 16 = 0) (ht : t.val - 1 < cfg0.N) :
    Carries (aUp m c) (tileB t) (512 * (t.val % 16)) (outsAt0 m c (t.val - 1) ht).2 := by
  intro k q l
  rw [if_neg (by omega)]
  refine (carried_eq m c ⟨t.val - 1, ht⟩ _).trans ((tUp_apply m c _ _ _).trans ?_)
  have hb : tileB ⟨t.val - 1, ht⟩ = tileB t := Fin.ext (by show (t.val - 1) / 16 = t.val / 16; omega)
  have hs : 512 * ((t.val - 1) % 16) + (504 + q.val) = 512 * (t.val % 16) + q.val - 8 := by omega
  rw [hb]
  exact congrArg (fun n => aUp m c (tileB t) n _) hs

theorem outAt_eq (c : Dev nD) (t : Fin cfg0.N) (r : Fin 512) (e : Fin 1024) : (outsAt0 m c t.val t.isLt).1 (ix3 0 r e) =
    FfnMath.out (aX m c) (aYp m c) (aO m c) (aMd m c) (aG m c) (aWo m c) (aWu m c) (aCw m c) (aCb m c) (aWd m c) (tileB t) (tileS t r) e := by
  have key : ∀ H : Vec Ideal S22x8x256 .f32, Carries (aUp m c) (tileB t) (512 * (t.val % 16)) H →
      outOf (actOf H (tHb m c t) (iblk m c 6 t) (iblk m c 7 t) (iblk m c 8 t)) (tMid m c t) (iblk m c 3 t) (iblk m c 9 t) r e =
      FfnMath.out (aX m c) (aYp m c) (aO m c) (aMd m c) (aG m c) (aWo m c) (aWu m c) (aCw m c) (aCb m c) (aWd m c) (tileB t) (tileS t r) e := by
    intro H hH
    unfold outOf FfnMath.out
    have ha : ∀ f, actOf H (tHb m c t) (iblk m c 6 t) (iblk m c 7 t) (iblk m c 8 t) (ix2 r f) =
        FfnMath.act (FfnMath.conv (aCw m c) (aCb m c) (aUp m c)) (tileB t) (512 * (t.val % 16) + r.val) f :=
      actOf_eq (aUp m c) (aCw m c) (aCb m c) (tileB t) (512 * (t.val % 16)) H _ _ _ _ (tUp_apply m c t) hH
        (fun k f => iblk7_apply m c t k f) (fun f => (iblk8_apply m c t f).trans (v1_apply m c f)) r
    simp only [ha, tMid_apply, iblk3_apply, iblk9_apply]
  by_cases h0 : t.val % 16 = 0
  · exact (congrFun (outAt_A m c t h0) (ix3 0 r e)).trans ((outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1
      (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) r e).trans (key (k0_pay9 (F := Ideal)) (carries_first m c t h0)))
  · exact (congrFun (outAt_B m c t h0) (ix3 0 r e)).trans ((outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1
      (Memref.isWhole_whole _) (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2 (fun h => h0 ((hcond0_0 t).mp h)) r e).trans (key (outsAt0 m c (t.val - 1) (Nat.lt_of_le_of_lt (Nat.sub_le _ _) t.isLt)).2 (carries_later m c t h0 _)))

end Cert.Kernel2Ideal.Hand
-- ==== Proof.FfnRef.lean ====
/- The reference's result at one place, as the same plain function. -/
module
public import proofs.«01_k».proof.Proof.Gen.Reference2Ideal.Read
public import proofs.«01_k».proof.Proof.FfnMath
public import Idealize.ShloMosaic.Lib.Pointwise
@[expose] public section
set_option maxRecDepth 16384
set_option maxHeartbeats 1000000
noncomputable section
namespace Cert.Reference2Ideal.Hand
open Cert.Reference2Ideal Cert.Reference2Ideal.Gen Cert.Reference2Ideal.Read Idealize.ShloMosaic Idealize.ShloMosaic.Tactic

variable (x0 : Vec Ideal S2x8192x1024 .f32) (x1 x2 : Vec Ideal S2x8192x512 .bf16) (x3 : Vec Ideal S2x6x1024 .f32) (x4 : Vec Ideal S1024 .f32)
  (x5 : Vec Ideal S1024x1024 .bf16) (x6 : Vec Ideal S1024x5632 .bf16) (x7 : Vec Ideal S3x5632 .f32) (x8 : Vec Ideal S5632 .f32)
  (x9 : Vec Ideal S2816x1024 .bf16)

abbrev rMid := FfnMath.mid (fun b s e => x0 (ix3 b s e)) (fun b s e => x1 (ix3 b s e)) (fun b s e => x2 (ix3 b s e)) (fun b s e => x3 (ix3 b s e))
  (fun k e => x5 (ix2 k e))
abbrev rHb := FfnMath.normed (fun b s e => x3 (ix3 b s e)) (fun e => x4 (ix1 e)) (rMid x0 x1 x2 x3 x5)
abbrev rUp := FfnMath.up (fun k e => x6 (ix2 k e)) (rHb x0 x1 x2 x3 x4 x5)
abbrev rConv := FfnMath.conv (fun k e => x7 (ix2 k e)) (fun e => x8 (ix1 e)) (rUp x0 x1 x2 x3 x4 x5 x6)

/-- The padding value is zero. -/
theorem zero_cast : FloatOps.sitofp (F := Ideal) FTy.f32 (0#32) = 0 := by
  show ((((0#32 : BitVec 32).toInt : ℤ) : ℝ) : EReal) = 0
  simp

/-- A gate times the reciprocal of one plus an exponential is their quotient: the divisor is never zero. -/
theorem div_gate (a e : EReal) : a * Ideal.div 1 (1 + Ideal.exp e) = Ideal.div a (1 + Ideal.exp e) := by
  have h0 : (0 : EReal) ≤ Ideal.exp e := by
    induction e with
    | bot => exact le_refl _
    | coe r => exact EReal.coe_nonneg.mpr (Real.exp_pos r).le
    | top => exact le_top
  have h : (1 : EReal) + Ideal.exp e ≠ 0 := by
    refine (lt_of_lt_of_le zero_lt_one ?_).ne'
    calc (1 : EReal) = 1 + 0 := (add_zero 1).symm
      _ ≤ 1 + Ideal.exp e := add_le_add le_rfl h0
  unfold Ideal.div
  rw [if_neg h, if_neg h, one_mul]

theorem v13_apply (b : Fin 2) (s : Fin 8192) (e : Fin 1024) : val_main_v13 (F := Ideal) x1 x2 x5 (ix3 b s e) =
    ∑ k : Fin 512, x1 (ix3 b s k) * x5 (ix2 ⟨k.val, by omega⟩ e) + ∑ k : Fin 512, x2 (ix3 b s k) * x5 (ix2 ⟨512 + k.val, by omega⟩ e) := by
  pointwise [val_main_v8, val_main_v9, val_main_v10, val_main_v12, val_main_v13]

theorem v16_apply (b : Fin 2) (s : Fin 8192) (e : Fin 1024) : val_main_v16 (F := Ideal) x0 x1 x2 x3 x5 (ix3 b s e) = rMid x0 x1 x2 x3 x5 b s e := by
  unfold rMid FfnMath.mid
  rw [← v13_apply]
  pointwise [val_main_v0, val_main_v1, val_main_v11, val_main_v14, val_main_v15, val_main_v16]
  try rfl

theorem v37_apply (b : Fin 2) (s : Fin 8192) (e : Fin 1024) : val_main_v37 (F := Ideal) x0 x1 x2 x3 x4 x5 (ix3 b s e) = rHb x0 x1 x2 x3 x4 x5 b s e := by
  unfold rHb FfnMath.normed
  simp only [← v16_apply]
  pointwise [val_main_v2, val_main_v3, val_main_v4, val_main_v5, val_main_v17, val_main_cst, val_main_v18, val_main_v19, val_main_cst_0, val_main_v20,
    val_main_v21, val_main_cst_1, val_main_v22, val_main_v23, val_main_v24, val_main_v25, val_main_v26, val_main_v27, val_main_v28, val_main_v29, val_main_v30,
    val_main_cst_2, val_main_v31, val_main_v32, val_main_v33, val_main_v34, val_main_v35, val_main_v36, val_main_v37]
  rw [mul_assoc _ (x4 (ix1 e))]

theorem v39_apply (b : Fin 2) (s : Fin 8192) (f : Fin 5632) : val_main_v39 (F := Ideal) x0 x1 x2 x3 x4 x5 x6 (ix3 b s f) =
    rUp x0 x1 x2 x3 x4 x5 x6 b s.val f := by
  unfold rUp FfnMath.up
  rw [dif_pos s.isLt]
  simp only [← v37_apply]
  pointwise [val_main_v38, val_main_v39]

theorem v40_apply (b : Fin 2) (s : Fin 8194) (f : Fin 5632) : val_main_v40 (F := Ideal) x0 x1 x2 x3 x4 x5 x6 (ix3 b s f) =
    if s.val < 2 then 0 else rUp x0 x1 x2 x3 x4 x5 x6 b (s.val - 2) f := by
  pointwise [val_main_c, val_main_call0_v0, val_main_v40]
  by_cases h : s.val < 2
  · rw [dif_neg (by omega), if_pos h]
    exact zero_cast
  · rw [dif_pos (by omega), if_neg h, v39_apply]

theorem v63_apply (b : Fin 2) (s : Fin 8192) (f : Fin 5632) : val_main_v63 (F := Ideal) x0 x1 x2 x3 x4 x5 x6 x7 x8 (ix3 b s f) =
    rConv x0 x1 x2 x3 x4 x5 x6 x7 x8 b s.val f := by
  pointwise [val_main_v41, val_main_v42, val_main_v43, val_main_v44, val_main_v45, val_main_v46, val_main_v47, val_main_v48, val_main_v49, val_main_v50,
    val_main_v51, val_main_v52, val_main_v53, val_main_v54, val_main_v55, val_main_v56, val_main_v57, val_main_v58, val_main_v59, val_main_v60, val_main_v61,
    val_main_v62, val_main_v63]
  simp only [v40_apply]
  unfold rConv FfnMath.conv FfnMath.back
  rw [if_neg (by omega : ¬ 2 + s.val < 2), show 2 + s.val - 2 = s.val by omega, show 1 + s.val - 2 = s.val - 1 by omega,
    if_congr (by omega : 1 + s.val < 2 ↔ s.val < 1) rfl rfl]
  congr 1
  rw [add_comm, add_comm (_ * ite _ _ _) (_ * ite _ _ _), ← add_assoc]

theorem v67_apply (b : Fin 2) (s : Fin 8192) (f : Fin 2816) : val_main_v67 (F := Ideal) x0 x1 x2 x3 x4 x5 x6 x7 x8 (ix3 b s f) =
    FfnMath.act (rConv x0 x1 x2 x3 x4 x5 x6 x7 x8) b s.val f := by
  unfold FfnMath.act
  pointwise [val_main_v64, val_main_v65, val_main_call1_v0, val_main_call1_v1, val_main_call1_cst, val_main_call1_v2, val_main_call1_v3,
    val_main_call1_cst_0, val_main_call1_v4, val_main_call1_v5, val_main_v66, val_main_v67]
  simp only [v63_apply]
  rw [div_gate, zero_sub]

theorem v73_apply (b : Fin 2) (s : Fin 8192) (e : Fin 1024) : val_main_v73 (F := Ideal) x0 x1 x2 x3 x4 x5 x6 x7 x8 x9 (ix3 b s e) =
    FfnMath.out (fun b s e => x0 (ix3 b s e)) (fun b s e => x1 (ix3 b s e)) (fun b s e => x2 (ix3 b s e)) (fun b s e => x3 (ix3 b s e)) (fun e => x4 (ix1 e))
      (fun k e => x5 (ix2 k e)) (fun k e => x6 (ix2 k e)) (fun k e => x7 (ix2 k e)) (fun e => x8 (ix1 e)) (fun k e => x9 (ix2 k e)) b s e := by
  unfold FfnMath.out
  simp only [← v67_apply]
  refine Eq.trans ?_ (congrArg (· + _) (v16_apply x0 x1 x2 x3 x5 b s e))
  pointwise [val_main_v6, val_main_v7, val_main_v68, val_main_v69, val_main_v70, val_main_v71, val_main_v72, val_main_v73]

end Cert.Reference2Ideal.Hand
-- ==== Proof.FfnFinal.lean ====
/- The feed-forward kernel's run ends with the reference's result. -/
module
public import proofs.«01_k».proof.Proof.FfnPoint
public import proofs.«01_k».proof.Proof.FfnRef
@[expose] public section
set_option maxRecDepth 16384
set_option maxHeartbeats 1000000
noncomputable section
namespace Cert.Kernel2Ideal.Hand
open Cert.Kernel2Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The reference's result at the kernel's arguments. -/
abbrev refOut (c : Dev nD) : Vec Ideal S2x8192x1024 .f32 :=
  Cert.Reference2Ideal.Read.val_main_v73 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- A tile's result is the reference's rows there. -/
theorem outAt_ref (c : Dev nD) (t : Fin cfg0.N) (y0 : Fin 1) (r : Fin 512) (e : Fin 1024) :
    (outsAt0 m c t.val t.isLt).1 (ix3 y0 r e) = refOut m c (ix3 (tileB t) (tileS t r) e) := by
  obtain rfl : y0 = 0 := Subsingleton.elim _ _
  exact (outAt_eq m c t r e).trans (Cert.Reference2Ideal.Hand.v73_apply _ _ _ _ _ _ _ _ _ _ _ _ _).symm

/-- Where a tile's rows lie in the result. -/
theorem block_emb (t : Fin cfg0.N) (y0 : Fin 1) (r : Fin 512) (l : Fin 1024) :
    ((cfg0.win 10).blk t).view.emb (ix3 y0 r l) = ix3 (tileB t) (tileS t r) l := by
  refine funext fun a => Fin.ext ?_
  fin_cases a
  · show (((cfg0.win 10).blk t).view.emb (ix3 y0 r l) 0 : ℕ) = t.val / 16
    blk_simp [idxs t]
  · show (((cfg0.win 10).blk t).view.emb (ix3 y0 r l) 1 : ℕ) = 512 * (t.val % 16) + r.val
    blk_simp [idxs t]
    omega
  · show (((cfg0.win 10).blk t).view.emb (ix3 y0 r l) 2 : ℕ) = l.val
    blk_simp [idxs t]

theorem array_eq (c : Dev nD) : (dats m 0 c).arrAt 10 cfg0.N = refOut m c := by
  refine (dats m 0 c).arrAt_eq_of_covers 10 _ (by decide +kernel) fun t hf y => ?_
  blk_simp
  rw [after0_10]
  idx_vars y
  exact (outAt_ref m c t _ _ _).trans (congrArg (refOut m c) (block_emb t _ _ _).symm)

theorem run_out : θ_run defs (onTc (τ := τ) (main (F := Ideal))) ⟨m, fun _ => 0, ρ⟩ (fun r => ∀ c : Dev nD,
      r.2.mem ((c.tc : Thread nD τ).loc main_v2) = refOut m c) :=
  (θ_run defs _ _).mono (fun _ h c => ((h c).1 10).trans (array_eq m c)) (run_main m ρ)

end Cert.Kernel2Ideal.Hand
end
-- ==== Proof.FfnClaims.lean ====
/- The feed-forward call's claims. -/
module
public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.FfnFinal
@[expose] public section
noncomputable section
namespace Cert.FfnClaims
open Idealize.ShloMosaic Idealize.SL.Sem

theorem frame_p : Cert.quiescent_Kernel2 := fun m g _ => Cert.Kernel2.Gen.frame m g

theorem frame_pi : Cert.quiescent_Kernel2Ideal := fun m g _ => Cert.Kernel2Ideal.Gen.frame m g

theorem frame_ri : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem preserves : Cert.preserves_Kernel2_Kernel2Ideal := trivial

theorem algebraic : Cert.algebraic_Kernel2Ideal_Reference2Ideal := by
  intro m g m' g' _ hagree
  refine ⟨fun c => Cert.Kernel2Ideal.Hand.refOut m c, ?_, ?_⟩
  · exact (θ_run Cert.Kernel2Ideal.defs _ _).mono (fun _ h c => ⟨h.1 c, h.2 c⟩)
      (θ_run_and (Cert.Kernel2Ideal.Hand.run_out m g) (Cert.Kernel2Ideal.Gen.unchanged m g))
  · refine (θ_run Cert.Reference2Ideal.defs _ _).mono (fun _ h c => ⟨(h c).1.trans ?_, (h c).2⟩)
      (Cert.Reference2Ideal.Value.run (F := Ideal) m' g')
    obtain ⟨h0, h1, h2, h3, h4, h5, h6, h7, h8, h9⟩ := hagree c
    rw [Cert.Reference2Ideal.Read.val_main_v73_eq, h0, h1, h2, h3, h4, h5, h6, h7, h8, h9]

end Cert.FfnClaims
end
-- ==== Proof.InBody.lean ====
/- The input projection's body: each run's four results and its carried rows, under short names. -/
module
public import proofs.«01_k».proof.Proof.Gen.Kernel3Ideal.Frame
public import Idealize.ShloMosaic.Lib.Pointwise
public import Idealize.ShloMosaic.Lib.Pipeline.ValueKit
public import Idealize.ShloMosaic.Lib.Pipeline.ReadBack
@[expose] public section
set_option maxRecDepth 16384
set_option maxHeartbeats 2000000
noncomputable section
namespace Cert.Kernel3Ideal.Hand
open Cert.Kernel3Ideal.Gen
open Idealize.ShloMosaic Idealize.ShloMosaic.TcCoe Idealize.ShloMosaic.Tactic
open Idealize.SL.Sem

variable (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S16x512 .f32) (harg16 : arg16.IsWhole)
variable (x0 : Vec Ideal S1x512x1024 .f32) (x1 : Vec Ideal S1x6x1024 .f32) (x2 : Vec Ideal S1x1024 .f32) (x3 : Vec Ideal S1024x2048 .bf16) (x4 : Vec Ideal S4x128x128 .bf16) (x5 x6 x7 x8 : Vec Ideal S1x512 .f32) (x9 : Vec Ideal S512x512 .bf16) (xs0 : Vec Ideal S16x512 .f32)

/-- The normalised, modulated rows. -/
def hbV : FVec Ideal S512x1024 .bf16 :=
  k0_pay3 x0 (View.ld x1 (Rect.unit ![0, 0, 0] ![1, 1, 1024] inb_S1x6x1024_S1x1x1024_0_0_0)) (View.ld x1 (Rect.unit ![0, 1, 0] ![1, 1, 1024] inb_S1x6x1024_S1x1x1024_0_1_0)) x2

/-- The projection's first 512 columns, which the pooling reads. -/
def uV : FVec Ideal S512x512 .f32 :=
  k0_pay4 x0 (View.ld x1 (Rect.unit ![0, 0, 0] ![1, 1, 1024] inb_S1x6x1024_S1x1x1024_0_0_0)) (View.ld x1 (Rect.unit ![0, 1, 0] ![1, 1, 1024] inb_S1x6x1024_S1x1x1024_0_1_0)) x2
    (View.ld x3 (Rect.unit ![0, 0] ![1024, 512] inb_S1024x2048_S1024x512_0_0))

/-- The carried rows above a tile's. -/
def extV (H : Vec Ideal S16x512 .f32) (u : FVec Ideal S512x512 .f32) : FVec Ideal S528x512 .f32 :=
  concatenate S528x512 0 [⟨S16x512, H⟩, ⟨S512x512, u⟩] concatenates_S16x512_S512x512_S528x512_d0

/-- The pooled result of a tile. -/
def ypV (a : BitVec 32) (H : Vec Ideal S16x512 .f32) (u : FVec Ideal S512x512 .f32) : FVec Ideal S1x512x512 .bf16 :=
  k0_pay15 u (extV H u) (k0_pay9 a)
    (k0_pay10 a u (extV H u) (View.ld x4 (Rect.unit ![0, 0, 0] ![1, 128, 128] inb_S4x128x128_S1x128x128_0_0_0)) (View.ld x5 (Rect.unit ![0, 0] ![1, 128] inb_S1x512_S1x128_0_0))
      (View.ld x6 (Rect.unit ![0, 0] ![1, 128] inb_S1x512_S1x128_0_0)))
    (k0_pay13 (k0_pay11 a (extV H u)) (k0_pay12 u) (View.ld x4 (Rect.unit ![1, 0, 0] ![1, 128, 128] inb_S4x128x128_S1x128x128_1_0_0)) (View.ld x5 (Rect.unit ![0, 128] ![1, 128] inb_S1x512_S1x128_0_128))
      (View.ld x6 (Rect.unit ![0, 128] ![1, 128] inb_S1x512_S1x128_0_128)))
    (k0_pay14 u (extV H u) (k0_pay9 a) (View.ld x4 (Rect.unit ![2, 0, 0] ![1, 128, 128] inb_S4x128x128_S1x128x128_2_0_0)) (View.ld x5 (Rect.unit ![0, 256] ![1, 128] inb_S1x512_S1x128_0_256))
      (View.ld x6 (Rect.unit ![0, 256] ![1, 128] inb_S1x512_S1x128_0_256)))
    (View.ld x4 (Rect.unit ![3, 0, 0] ![1, 128, 128] inb_S4x128x128_S1x128x128_3_0_0)) (View.ld x5 (Rect.unit ![0, 384] ![1, 128] inb_S1x512_S1x128_0_384))
    (View.ld x6 (Rect.unit ![0, 384] ![1, 128] inb_S1x512_S1x128_0_384))

/-- The normalised heads of a tile's queries. -/
def qV (hb : FVec Ideal S512x1024 .bf16) : FVec Ideal S1x512x512 .bf16 :=
  k0_pay18 (k0_pay16 x7) (k0_pay17 hb (View.ld x3 (Rect.unit ![0, 512] ![1024, 512] inb_S1024x2048_S1024x512_0_512))) x9

/-- The normalised heads of a tile's keys. -/
def kV (hb : FVec Ideal S512x1024 .bf16) : FVec Ideal S1x512x512 .bf16 :=
  k0_pay1 (k0_pay19 hb x8 (View.ld x3 (Rect.unit ![0, 1024] ![1024, 512] inb_S1024x2048_S1024x512_0_1024)) x9)

/-- A tile's values. -/
def vV (hb : FVec Ideal S512x1024 .bf16) : FVec Ideal S1x512x512 .bf16 :=
  k0_pay2 hb (View.ld x3 (Rect.unit ![0, 1536] ![1024, 512] inb_S1024x2048_S1024x512_0_1536))

/-- The last sixteen rows of a tile. -/
def lastV (u : FVec Ideal S512x512 .f32) : FVec Ideal S16x512 .f32 := k0_pay8 (extractStridedSlice S16x512 ![496, 0] u slices_S512x512_o496_0_S16x512)

/-- The body's results at a batch's first tile. -/
theorem ypA (hc0 : cond0_0 i) (y : S1x512x512.Idx) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 y = ypV x4 x5 x6 (BitVec.ofNat 32 (i 1).val) (k0_pay5 (F := Ideal)) (uV x0 x1 x2 x3) y := by
  frame_open
  simp (disch := decide) only [↓ View.readCov_skip, ↓ View.readCov_cons_toLoadRect, ↓ View.readCov_fill]
  frame_out
  rfl

theorem qA (hc0 : cond0_0 i) (y : S1x512x512.Idx) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 y = qV x3 x7 x9 (hbV x0 x1 x2) y := by
  frame_open
  simp (disch := decide) only [↓ View.readCov_skip, ↓ View.readCov_cons_toLoadRect, ↓ View.readCov_fill]
  frame_out
  rfl

theorem kA (hc0 : cond0_0 i) (y : S1x512x512.Idx) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 y = kV x3 x8 x9 (hbV x0 x1 x2) y := by
  frame_open
  simp (disch := decide) only [↓ View.readCov_skip, ↓ View.readCov_cons_toLoadRect, ↓ View.readCov_fill]
  frame_out
  rfl

theorem vA (hc0 : cond0_0 i) (y : S1x512x512.Idx) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 y = vV x3 (hbV x0 x1 x2) y := by
  frame_open
  simp (disch := decide) only [↓ View.readCov_skip, ↓ View.readCov_cons_toLoadRect, ↓ View.readCov_fill]
  frame_out
  rfl

theorem lastA (hc0 : cond0_0 i) (y : S16x512.Idx) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 y = lastV (uV x0 x1 x2 x3) y := by
  frame_open
  simp (disch := decide) only [↓ View.readCov_skip, ↓ View.readCov_cons_toLoadRect, ↓ View.readCov_fill]
  frame_out
  rfl

/-- The body's results at a batch's later tiles. -/
theorem ypB (hc0 : ¬ cond0_0 i) (y : S1x512x512.Idx) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 y = ypV x4 x5 x6 (BitVec.ofNat 32 (i 1).val) xs0 (uV x0 x1 x2 x3) y := by
  frame_open
  simp (disch := decide) only [↓ View.readCov_skip, ↓ View.readCov_cons_toLoadRect, ↓ View.readCov_fill]
  frame_out
  rfl

theorem qB (hc0 : ¬ cond0_0 i) (y : S1x512x512.Idx) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 y = qV x3 x7 x9 (hbV x0 x1 x2) y := by
  frame_open
  simp (disch := decide) only [↓ View.readCov_skip, ↓ View.readCov_cons_toLoadRect, ↓ View.readCov_fill]
  frame_out
  rfl

theorem kB (hc0 : ¬ cond0_0 i) (y : S1x512x512.Idx) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 y = kV x3 x8 x9 (hbV x0 x1 x2) y := by
  frame_open
  simp (disch := decide) only [↓ View.readCov_skip, ↓ View.readCov_cons_toLoadRect, ↓ View.readCov_fill]
  frame_out
  rfl

theorem vB (hc0 : ¬ cond0_0 i) (y : S1x512x512.Idx) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 y = vV x3 (hbV x0 x1 x2) y := by
  frame_open
  simp (disch := decide) only [↓ View.readCov_skip, ↓ View.readCov_cons_toLoadRect, ↓ View.readCov_fill]
  frame_out
  rfl

theorem lastB (hc0 : ¬ cond0_0 i) (y : S16x512.Idx) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 y = lastV (uV x0 x1 x2 x3) y := by
  frame_open
  simp (disch := decide) only [↓ View.readCov_skip, ↓ View.readCov_cons_toLoadRect, ↓ View.readCov_fill]
  frame_out
  rfl

end Cert.Kernel3Ideal.Hand
end
-- ==== Proof.InTile.lean ====
/- The input projection's results for a tile, at a place. -/
module
public import proofs.«01_k».proof.Proof.InBody
@[expose] public section
set_option maxRecDepth 16384
set_option maxHeartbeats 2000000
noncomputable section
namespace Cert.Kernel3Ideal.Hand
open Cert.Kernel3Ideal.Gen
open Idealize.ShloMosaic Idealize.ShloMosaic.TcCoe Idealize.ShloMosaic.Tactic
open Idealize.SL.Sem

variable (x0 : Vec Ideal S1x512x1024 .f32) (x1 : Vec Ideal S1x6x1024 .f32) (x2 : Vec Ideal S1x1024 .f32) (x3 : Vec Ideal S1024x2048 .bf16) (x4 : Vec Ideal S4x128x128 .bf16) (x5 x6 x7 x8 : Vec Ideal S1x512 .f32) (x9 : Vec Ideal S512x512 .bf16)

theorem hbV_apply (r : Fin 512) (d : Fin 1024) : hbV x0 x1 x2 (ix2 r d) =
    x0 (ix3 0 r d)
      * Ideal.rsqrt (Ideal.div (∑ k : Fin 1024, x0 (ix3 0 r k) * x0 (ix3 0 r k)) (Ideal.ofBits .f32 0x44800000#32) + Ideal.ofBits .f32 0x358637BD#32)
      * (x2 (ix2 0 d) * (1 + x1 (ix3 0 1 d))) + x1 (ix3 0 0 d) := by
  unfold hbV
  pointwise [k0_pay3]

theorem uV_apply (r f : Fin 512) : uV x0 x1 x2 x3 (ix2 r f) = ∑ d : Fin 1024, hbV x0 x1 x2 (ix2 r d) * x3 (ix2 d ⟨f.val, by omega⟩) := by
  have e : uV x0 x1 x2 x3 = k0_pay17 (hbV x0 x1 x2) (View.ld x3 (Rect.unit ![0, 0] ![1024, 512] inb_S1024x2048_S1024x512_0_0)) := rfl
  rw [e]
  generalize hbV x0 x1 x2 = hb
  pointwise [k0_pay17]

theorem extV_apply (H : Vec Ideal S16x512 .f32) (u : FVec Ideal S512x512 .f32) (n : Fin 528) (l : Fin 512) :
    extV H u (ix2 n l) = if h : n.val < 16 then H (ix2 ⟨n.val, h⟩ l) else u (ix2 ⟨n.val - 16, by omega⟩ l) := by
  unfold extV
  pointwise

theorem lastV_apply (u : FVec Ideal S512x512 .f32) (q : Fin 16) (l : Fin 512) : lastV u (ix2 q l) = u (ix2 ⟨496 + q.val, by omega⟩ l) := by
  unfold lastV
  pointwise [k0_pay8]

theorem vV_apply (hb : FVec Ideal S512x1024 .bf16) (r f : Fin 512) :
    vV x3 hb (ix3 0 r f) = ∑ d : Fin 1024, hb (ix2 r d) * x3 (ix2 d ⟨1536 + f.val, by omega⟩) := by
  unfold vV
  pointwise [k0_pay2]

/-- The projection at a row and a column. -/
def projAt (hb : FVec Ideal S512x1024 .bf16) (x3 : Vec Ideal S1024x2048 .bf16) (r : Fin 512) (n : Fin 2048) : EReal := ∑ d : Fin 1024, hb (ix2 r d) * x3 (ix2 d n)

theorem qV_apply (hb : FVec Ideal S512x1024 .bf16) (r f : Fin 512) : qV x3 x7 x9 hb (ix3 0 r f) =
    projAt hb x3 r ⟨512 + f.val, by omega⟩ * Ideal.rsqrt ((∑ k : Fin 512, projAt hb x3 r ⟨512 + k.val, by omega⟩ * projAt hb x3 r ⟨512 + k.val, by omega⟩ * x9 (ix2 k f))
        * Ideal.ofBits .f32 0x3C800000#32 + Ideal.ofBits .f32 0x358637BD#32) * (x7 (ix2 0 f) * Ideal.ofBits .f32 0x3E000000#32) := by
  unfold qV projAt
  pointwise [k0_pay16, k0_pay17, k0_pay18]

theorem kV_apply (hb : FVec Ideal S512x1024 .bf16) (r f : Fin 512) : kV x3 x8 x9 hb (ix3 0 r f) =
    projAt hb x3 r ⟨1024 + f.val, by omega⟩ * Ideal.rsqrt ((∑ k : Fin 512, projAt hb x3 r ⟨1024 + k.val, by omega⟩ * projAt hb x3 r ⟨1024 + k.val, by omega⟩ * x9 (ix2 k f))
        * Ideal.ofBits .f32 0x3C800000#32 + Ideal.ofBits .f32 0x358637BD#32) * x8 (ix2 0 f) := by
  unfold kV projAt
  pointwise [k0_pay1, k0_pay19]

end Cert.Kernel3Ideal.Hand
end
-- ==== Proof.InPool.lean ====
/- The pooled columns of a tile, at a place. -/
module
public import proofs.«01_k».proof.Proof.InTile
@[expose] public section
set_option maxRecDepth 16384
set_option maxHeartbeats 2000000
noncomputable section
namespace Cert.Kernel3Ideal.Hand
open Cert.Kernel3Ideal.Gen
open Idealize.ShloMosaic Idealize.ShloMosaic.TcCoe Idealize.ShloMosaic.Tactic
open Idealize.SL.Sem

variable (x0 : Vec Ideal S1x512x1024 .f32) (x1 : Vec Ideal S1x6x1024 .f32) (x2 : Vec Ideal S1x1024 .f32) (x3 : Vec Ideal S1024x2048 .bf16) (x4 : Vec Ideal S4x128x128 .bf16) (x5 x6 x7 x8 : Vec Ideal S1x512 .f32) (x9 : Vec Ideal S512x512 .bf16)

/-- A row of the carried and the tile's rows, zero past the last. -/
def rowAt (e : FVec Ideal S528x512 .f32) (n : ℕ) (l : Fin 512) : EReal := if h : n < 528 then e (ix2 ⟨n, h⟩ l) else 0

theorem rowAt_of (e : FVec Ideal S528x512 .f32) (n : ℕ) (h : n < 528) (l : Fin 512) : e (ix2 ⟨n, h⟩ l) = rowAt e n l := by
  unfold rowAt
  rw [dif_pos h]

/-- A rotation that does not reach the first row only looks back. -/
theorem rot (n k : ℕ) (h1 : k ≤ n) (h2 : n < 528) : (n + 528 - k) % 528 = n - k := by omega

/-- The rows plus themselves some rows back. -/
def dbl (k : BitVec 32) (v : FVec Ideal S528x128 .f32) : FVec Ideal S528x128 .f32 := addf v (dynamicRotate 0 k none v rotates_S528x128_d0)

theorem dbl1 (v : FVec Ideal S528x128 .f32) (n : Fin 528) (x : Fin 128) : dbl 1#32 v (ix2 n x) = v (ix2 n x) + v (ix2 ⟨(n.val + 528 - 1) % 528, by omega⟩ x) := by
  pointwise [dbl]

theorem dbl2 (v : FVec Ideal S528x128 .f32) (n : Fin 528) (x : Fin 128) : dbl 2#32 v (ix2 n x) = v (ix2 n x) + v (ix2 ⟨(n.val + 528 - 2) % 528, by omega⟩ x) := by
  pointwise [dbl]

theorem dbl4 (v : FVec Ideal S528x128 .f32) (n : Fin 528) (x : Fin 128) : dbl 4#32 v (ix2 n x) = v (ix2 n x) + v (ix2 ⟨(n.val + 528 - 4) % 528, by omega⟩ x) := by
  pointwise [dbl]

theorem dbl8 (v : FVec Ideal S528x128 .f32) (n : Fin 528) (x : Fin 128) : dbl 8#32 v (ix2 n x) = v (ix2 n x) + v (ix2 ⟨(n.val + 528 - 8) % 528, by omega⟩ x) := by
  pointwise [dbl]

/-- Each row, from the `w`-th on, is the sum of the last `w` rows of `R`. -/
def Sums (R : ℕ → Fin 128 → EReal) (w : ℕ) (v : FVec Ideal S528x128 .f32) : Prop :=
  ∀ (n : Fin 528) (x : Fin 128), w ≤ n.val + 1 → v (ix2 n x) = ∑ i ∈ Finset.range w, R (n.val - i) x

theorem sums_dbl (R : ℕ → Fin 128 → EReal) (w : ℕ) (k : BitVec 32) (v : FVec Ideal S528x128 .f32) (h : Sums R w v)
    (hk : ∀ (n : Fin 528) (x : Fin 128), dbl k v (ix2 n x) = v (ix2 n x) + v (ix2 ⟨(n.val + 528 - w) % 528, by omega⟩ x)) : Sums R (w + w) (dbl k v) := by
  intro n x hn
  rw [hk, h n x (by omega), h _ x (by dsimp only; omega), Finset.sum_range_add]
  congr 1
  refine Finset.sum_congr rfl fun i hi => ?_
  have := Finset.mem_range.mp hi
  have e : (n.val + 528 - w) % 528 - i = n.val - (w + i) := by omega
  dsimp only
  rw [e]

/-- A group's columns of the rows. -/
def cols (o : ℕ) (ho : o ≤ 384) (e : FVec Ideal S528x512 .f32) (n : ℕ) (x : Fin 128) : EReal := rowAt e n ⟨o + x.val, by omega⟩

theorem sums_one (o : ℕ) (ho : o ≤ 384) (e : FVec Ideal S528x512 .f32) (v : FVec Ideal S528x128 .f32)
    (hv : ∀ (n : Fin 528) (x : Fin 128), v (ix2 n x) = e (ix2 n ⟨o + x.val, by omega⟩)) : Sums (cols o ho e) 1 v := by
  intro n x _
  rw [hv, Finset.sum_range_one]
  exact rowAt_of e n.val n.isLt _

/-- The trailing mean of `w` rows less the row itself, in a tile whose first row's number is `512 a`. -/
def mixAt (a : BitVec 32) (e : FVec Ideal S528x512 .f32) (u : FVec Ideal S512x512 .f32) (w : ℕ) (r l : Fin 512) : EReal :=
  Ideal.div (∑ i ∈ Finset.range w, rowAt e (16 + r.val - i) l)
    (FloatOps.sitofp (F := Ideal) .f32 (IntOp.minsi (IntOp.addi (Scalar.addi (Scalar.muli a 512#32) 1#32) (BitVec.ofNat 32 r.val)) (BitVec.ofNat 32 w))) - u (ix2 r l)

/-- The four groups' columns side by side. -/
def catV (v64 v89 v116 v145 : FVec Ideal S512x128 .f32) : FVec Ideal S1x512x512 .bf16 :=
  have v146 : FVec Ideal S512x512 .f32 := concatenate S512x512 1 [⟨S512x128, v64⟩, ⟨S512x128, v89⟩, ⟨S512x128, v116⟩, ⟨S512x128, v145⟩] concatenates_S512x128_S512x128_S512x128_S512x128_S512x512_d1
  have v147 : FVec Ideal S512x512 .bf16 := truncf .bf16 v146 bitsLt_bf16_f32
  have v150 : FVec Ideal S1x512x512 .bf16 := shapeCast S1x512x512 v147 shapeCasts_S512x512_S1x512x512
  v150

/-- The third group from its sums of eight rows. -/
def tail2 (v96 : FVec Ideal S528x128 .f32) (v27 : FVec Ideal S512x512 .f32) (v41 : IVec S512x1 32) (v106 : Vec Ideal S1x128x128 .bf16) (v109 v113 : Vec Ideal S1x128 .f32) : FVec Ideal S512x128 .f32 :=
  have v97 : IVec S512x1 32 := broadcast S512x1 8#32
  have v98 : IVec S512x1 32 := minsi v41 v97
  have v99 : FVec Ideal S512x1 .f32 := sitofp .f32 v98
  have v100 : FVec Ideal S512x128 .f32 := extractStridedSlice S512x128 ![16, 0] v96 slices_S528x128_o16_0_S512x128
  have v101 : FVec Ideal S512x128 .f32 := broadcastTo S512x128 v99 broadcasts_S512x1_S512x128
  have v102 : FVec Ideal S512x128 .f32 := divf v100 v101
  have v103 : FVec Ideal S512x128 .f32 := extractStridedSlice S512x128 ![0, 256] v27 slices_S512x512_o0_256_S512x128
  have v104 : FVec Ideal S512x128 .f32 := subf v102 v103
  have v105 : FVec Ideal S512x128 .bf16 := truncf .bf16 v104 bitsLt_bf16_f32
  have v107 : FVec Ideal S128x128 .bf16 := shapeCast S128x128 v106 shapeCasts_S1x128x128_S128x128
  have cst_43 : FVec Ideal S512x128 .f32 := constant S512x128 .f32 0x00000000#32
  have v108 : FVec Ideal S512x128 .f32 := matmul dot_S512x128_S128x128_S512x128_1_0_0_1_n_n none v105 v107 cst_43
  have v110 : FVec Ideal S1x128 .f32 := shapeCast S1x128 v109 shapeCasts_S1x128_S1x128
  have v111 : FVec Ideal S512x128 .f32 := broadcastTo S512x128 v110 broadcasts_S1x128_S512x128
  have v112 : FVec Ideal S512x128 .f32 := addf v108 v111
  have v114 : FVec Ideal S1x128 .f32 := shapeCast S1x128 v113 shapeCasts_S1x128_S1x128
  have v115 : FVec Ideal S512x128 .f32 := broadcastTo S512x128 v114 broadcasts_S1x128_S512x128
  have v116 : FVec Ideal S512x128 .f32 := mulf v112 v115
  v116

/-- The fourth group from its sums of sixteen rows. -/
def tail3 (v125 : FVec Ideal S528x128 .f32) (v27 : FVec Ideal S512x512 .f32) (v41 : IVec S512x1 32) (v135 : Vec Ideal S1x128x128 .bf16) (v138 v142 : Vec Ideal S1x128 .f32) : FVec Ideal S512x128 .f32 :=
  have v126 : IVec S512x1 32 := broadcast S512x1 16#32
  have v127 : IVec S512x1 32 := minsi v41 v126
  have v128 : FVec Ideal S512x1 .f32 := sitofp .f32 v127
  have v129 : FVec Ideal S512x128 .f32 := extractStridedSlice S512x128 ![16, 0] v125 slices_S528x128_o16_0_S512x128
  have v130 : FVec Ideal S512x128 .f32 := broadcastTo S512x128 v128 broadcasts_S512x1_S512x128
  have v131 : FVec Ideal S512x128 .f32 := divf v129 v130
  have v132 : FVec Ideal S512x128 .f32 := extractStridedSlice S512x128 ![0, 384] v27 slices_S512x512_o0_384_S512x128
  have v133 : FVec Ideal S512x128 .f32 := subf v131 v132
  have v134 : FVec Ideal S512x128 .bf16 := truncf .bf16 v133 bitsLt_bf16_f32
  have v136 : FVec Ideal S128x128 .bf16 := shapeCast S128x128 v135 shapeCasts_S1x128x128_S128x128
  have cst_53 : FVec Ideal S512x128 .f32 := constant S512x128 .f32 0x00000000#32
  have v137 : FVec Ideal S512x128 .f32 := matmul dot_S512x128_S128x128_S512x128_1_0_0_1_n_n none v134 v136 cst_53
  have v139 : FVec Ideal S1x128 .f32 := shapeCast S1x128 v138 shapeCasts_S1x128_S1x128
  have v140 : FVec Ideal S512x128 .f32 := broadcastTo S512x128 v139 broadcasts_S1x128_S512x128
  have v141 : FVec Ideal S512x128 .f32 := addf v137 v140
  have v143 : FVec Ideal S1x128 .f32 := shapeCast S1x128 v142 shapeCasts_S1x128_S1x128
  have v144 : FVec Ideal S512x128 .f32 := broadcastTo S512x128 v143 broadcasts_S1x128_S512x128
  have v145 : FVec Ideal S512x128 .f32 := mulf v141 v144
  v145

theorem fold2 (u e n p q s) : k0_pay14 (F := Ideal) u e n p q s =
    tail2 (dbl 4#32 (dbl 2#32 (dbl 1#32 (extractStridedSlice S528x128 ![0, 256] e slices_S528x512_o0_256_S528x128)))) u n p q s := rfl

theorem fold3 (u e n a b c p q s) : k0_pay15 (F := Ideal) u e n a b c p q s =
    catV a b c (tail3 (dbl 8#32 (dbl 4#32 (dbl 2#32 (dbl 1#32 (extractStridedSlice S528x128 ![0, 384] e slices_S528x512_o0_384_S528x128))))) u n p q s) := rfl

section Groups
variable (a : BitVec 32) (H : Vec Ideal S16x512 .f32) (u : FVec Ideal S512x512 .f32) (r : Fin 512) (d : Fin 128)

theorem cat0 (A B C D : FVec Ideal S512x128 .f32) : catV A B C D (ix3 0 r ⟨d.val, by omega⟩) = A (ix2 r d) := by
  pointwise [catV]

theorem cat1 (A B C D : FVec Ideal S512x128 .f32) : catV A B C D (ix3 0 r ⟨128 + d.val, by omega⟩) = B (ix2 r d) := by
  pointwise [catV]

theorem cat2 (A B C D : FVec Ideal S512x128 .f32) : catV A B C D (ix3 0 r ⟨256 + d.val, by omega⟩) = C (ix2 r d) := by
  have e : (⟨256 + d.val - 128 - 128, by omega⟩ : Fin 128) = d := Fin.ext (by dsimp only; omega)
  pointwise [catV]
  rw [dif_neg (by omega), dif_neg (by omega), dif_pos (by omega), e]

theorem cat3 (A B C D : FVec Ideal S512x128 .f32) : catV A B C D (ix3 0 r ⟨384 + d.val, by omega⟩) = D (ix2 r d) := by
  have e : (⟨384 + d.val - 128 - 128 - 128, by omega⟩ : Fin 128) = d := Fin.ext (by dsimp only; omega)
  pointwise [catV]
  rw [dif_neg (by omega), dif_neg (by omega), dif_neg (by omega), e]

theorem yp0 : ypV x4 x5 x6 a H u (ix3 0 r ⟨d.val, by omega⟩) =
    (∑ c : Fin 128, mixAt a (extV H u) u 2 r ⟨c.val, by omega⟩ * x4 (ix3 0 c d) + x5 (ix2 0 ⟨d.val, by omega⟩)) * x6 (ix2 0 ⟨d.val, by omega⟩) := by
  unfold ypV mixAt
  rw [fold3, cat0]
  generalize extV H u = e
  pointwise [k0_pay9, k0_pay10]
  simp (disch := omega) only [rowAt_of, rot, Nat.sub_sub, Nat.reduceAdd, Finset.sum_range_succ, Finset.sum_range_zero, Nat.sub_zero, zero_add]

theorem yp1 : ypV x4 x5 x6 a H u (ix3 0 r ⟨128 + d.val, by omega⟩) =
    (∑ c : Fin 128, mixAt a (extV H u) u 4 r ⟨128 + c.val, by omega⟩ * x4 (ix3 1 c d) + x5 (ix2 0 ⟨128 + d.val, by omega⟩)) * x6 (ix2 0 ⟨128 + d.val, by omega⟩) := by
  unfold ypV mixAt
  rw [fold3, cat1]
  generalize extV H u = e
  pointwise [k0_pay9, k0_pay11, k0_pay12, k0_pay13]
  simp (disch := omega) only [rowAt_of, rot, Nat.sub_sub, Nat.reduceAdd, Finset.sum_range_succ, Finset.sum_range_zero, Nat.sub_zero, zero_add]
  simp only [add_assoc]

theorem yp2 : ypV x4 x5 x6 a H u (ix3 0 r ⟨256 + d.val, by omega⟩) =
    (∑ c : Fin 128, mixAt a (extV H u) u 8 r ⟨256 + c.val, by omega⟩ * x4 (ix3 2 c d) + x5 (ix2 0 ⟨256 + d.val, by omega⟩)) * x6 (ix2 0 ⟨256 + d.val, by omega⟩) := by
  unfold ypV mixAt
  rw [fold3, cat2, fold2]
  generalize extV H u = e
  have h : Sums (cols 256 (by omega) e) 8 _ := sums_dbl _ 4 4#32 _ (sums_dbl _ 2 2#32 _ (sums_dbl _ 1 1#32 _
    (sums_one 256 (by omega) e (extractStridedSlice S528x128 ![0, 256] e slices_S528x512_o0_256_S528x128) (fun n x => by pointwise)) (dbl1 _)) (dbl2 _)) (dbl4 _)
  generalize dbl 4#32 _ = v at h ⊢
  have h' : ∀ (r : Fin 512) (x : Fin 128), v (ix2 ⟨16 + r.val, by omega⟩ x) = ∑ i ∈ Finset.range 8, rowAt e (16 + r.val - i) ⟨256 + x.val, by omega⟩ :=
    fun r x => h _ x (by dsimp only; omega)
  pointwise [k0_pay9, tail2, h']

theorem yp3 : ypV x4 x5 x6 a H u (ix3 0 r ⟨384 + d.val, by omega⟩) =
    (∑ c : Fin 128, mixAt a (extV H u) u 16 r ⟨384 + c.val, by omega⟩ * x4 (ix3 3 c d) + x5 (ix2 0 ⟨384 + d.val, by omega⟩)) * x6 (ix2 0 ⟨384 + d.val, by omega⟩) := by
  unfold ypV mixAt
  rw [fold3, cat3]
  generalize extV H u = e
  have h : Sums (cols 384 (by omega) e) 16 _ := sums_dbl _ 8 8#32 _ (sums_dbl _ 4 4#32 _ (sums_dbl _ 2 2#32 _ (sums_dbl _ 1 1#32 _
    (sums_one 384 (by omega) e (extractStridedSlice S528x128 ![0, 384] e slices_S528x512_o0_384_S528x128) (fun n x => by pointwise)) (dbl1 _)) (dbl2 _)) (dbl4 _)) (dbl8 _)
  generalize dbl 8#32 _ = v at h ⊢
  have h' : ∀ (r : Fin 512) (x : Fin 128), v (ix2 ⟨16 + r.val, by omega⟩ x) = ∑ i ∈ Finset.range 16, rowAt e (16 + r.val - i) ⟨384 + x.val, by omega⟩ :=
    fun r x => h _ x (by dsimp only; omega)
  pointwise [k0_pay9, tail3, h']

end Groups

/-- The pooled result of a tile, group `k`. -/
theorem ypV_apply (a : BitVec 32) (H : Vec Ideal S16x512 .f32) (u : FVec Ideal S512x512 .f32) (r : Fin 512) (k : Fin 4) (d : Fin 128) :
    ypV x4 x5 x6 a H u (ix3 0 r ⟨128 * k.val + d.val, by omega⟩) =
      (∑ c : Fin 128, mixAt a (extV H u) u (2 ^ (k.val + 1)) r ⟨128 * k.val + c.val, by omega⟩ * x4 (ix3 k c d) + x5 (ix2 0 ⟨128 * k.val + d.val, by omega⟩))
        * x6 (ix2 0 ⟨128 * k.val + d.val, by omega⟩) := by
  fin_cases k
  · have := yp0 x4 x5 x6 a H u r d
    simpa only [Fin.zero_eta, Fin.isValue, Fin.coe_ofNat_eq_mod, Nat.zero_mod, mul_zero, zero_add, pow_one] using this
  · exact yp1 x4 x5 x6 a H u r d
  · exact yp2 x4 x5 x6 a H u r d
  · exact yp3 x4 x5 x6 a H u r d

end Cert.Kernel3Ideal.Hand
end
-- ==== Proof.InMath.lean ====
/- What the input projection computes, on plain functions: the normalised rows, the projection, the trailing means, the heads. -/
module
public import Idealize.ShloMosaic.Lib.Pointwise
public import Idealize.ShloMosaic.Lib.IdealHost
@[expose] public section
noncomputable section
namespace Cert.InMath
open Idealize.ShloMosaic

variable (x : Fin 2 → Fin 8192 → Fin 1024 → EReal) (md : Fin 2 → Fin 6 → Fin 1024 → EReal) (g : Fin 1024 → EReal) (w : Fin 1024 → Fin 2048 → EReal)

/-- A row normalised, scaled and shifted. -/
def normed (b : Fin 2) (s : Fin 8192) (d : Fin 1024) : EReal :=
  x b s d * Ideal.rsqrt (Ideal.div (∑ k : Fin 1024, x b s k * x b s k) (Ideal.ofBits .f32 0x44800000#32) + Ideal.ofBits .f32 0x358637BD#32)
    * (g d * (1 + md b 1 d)) + md b 0 d

/-- The projection at a row number, zero past the last row. -/
def proj (b : Fin 2) (n : ℕ) (f : Fin 2048) : EReal :=
  if hn : n < 8192 then ∑ d : Fin 1024, normed x md g b ⟨n, hn⟩ d * w d f else 0

variable (P : Fin 2 → ℕ → Fin 2048 → EReal)

/-- `k` rows back, zero before the first row. -/
def back (k : ℕ) (b : Fin 2) (n : ℕ) (f : Fin 2048) : EReal := if n < k then 0 else P b (n - k) f

/-- How many rows a trailing window of `w` rows holds at row `n`. -/
def count (w n : ℕ) : EReal := FloatOps.sitofp (F := Ideal) .f32 (IntOp.minsi (BitVec.ofNat 32 (n + 1)) (BitVec.ofNat 32 w))

/-- The trailing mean less the row itself. -/
def mix (w : ℕ) (b : Fin 2) (n : ℕ) (f : Fin 2048) : EReal :=
  Ideal.div (∑ i ∈ Finset.range w, back P i b n f) (count w n) - P b n f

/-- The pooled result, by group of 128 columns. -/
def pooled (pw : Fin 4 → Fin 128 → Fin 128 → EReal) (pb : Fin 4 → Fin 128 → EReal) (ps : Fin 512 → EReal)
    (b : Fin 2) (n : ℕ) (k : Fin 4) (d : Fin 128) : EReal :=
  (∑ c : Fin 128, mix P (2 ^ (k.val + 1)) b n ⟨128 * k.val + c.val, by omega⟩ * pw k c d + pb k d) * ps ⟨128 * k.val + d.val, by omega⟩

/-- A head's column, normalised over the head's 64 columns; `o` is where the heads begin. -/
def head (o : Fin 1537) (gain : Fin 64 → EReal) (b : Fin 2) (n : ℕ) (h : Fin 8) (d : Fin 64) : EReal :=
  P b n ⟨o.val + (h.val * 64 + d.val), by omega⟩
    * Ideal.rsqrt (Ideal.div (∑ k : Fin 64, P b n ⟨o.val + (h.val * 64 + k.val), by omega⟩ * P b n ⟨o.val + (h.val * 64 + k.val), by omega⟩)
        (Ideal.ofBits .f32 0x42800000#32) + Ideal.ofBits .f32 0x358637BD#32) * gain d

/-- A sum over all columns, masked to one head, is the sum over the head's columns. -/
theorem sum_head (T : Fin 512 → EReal) (E : Fin 512 → EReal) (h : Fin 8)
    (hE : ∀ (k : Fin 8) (x : Fin 64), E ⟨k.val * 64 + x.val, by omega⟩ = if k = h then 1 else 0) :
    ∑ l : Fin 512, T l * E l = ∑ x : Fin 64, T ⟨h.val * 64 + x.val, by omega⟩ := by
  have e : ∀ (k : Fin 8) (x : Fin 64), (finProdFinEquiv (k, x) : Fin (8 * 64)) = (⟨k.val * 64 + x.val, by omega⟩ : Fin 512) :=
    fun k x => Fin.ext (by show x.val + 64 * k.val = k.val * 64 + x.val; omega)
  rw [← Equiv.sum_comp (finProdFinEquiv : Fin 8 × Fin 64 ≃ Fin (8 * 64)) (fun l : Fin 512 => T l * E l), Fintype.sum_prod_type]
  rw [Finset.sum_eq_single h]
  · refine Finset.sum_congr rfl fun x _ => ?_
    rw [e, hE, if_pos rfl, mul_one]
  · intro k _ hk
    refine Finset.sum_eq_zero fun x _ => ?_
    rw [e, hE, if_neg hk, mul_zero]
  · intro hn
    exact absurd (Finset.mem_univ h) hn

/-- The factor `1/64` is a division by the number of columns in a head. -/
theorem mean_eq (s : EReal) : s * Ideal.ofBits FTy.f32 0x3C800000#32 = Ideal.div s (Ideal.ofBits FTy.f32 0x42800000#32) := by
  have h1 : Ideal.ofBits FTy.f32 0x3C800000#32 = ((1 / 64 : ℝ) : EReal) := by
    simp [Ideal.ofBits, Ideal.ieee, -EReal.coe_mul]
    norm_num
  have h2 : Ideal.ofBits FTy.f32 0x42800000#32 = ((64 : ℝ) : EReal) := by
    simp [Ideal.ofBits, Ideal.ieee, -EReal.coe_mul]
    norm_num
  rw [h1, h2, Ideal.div_coe (by norm_num)]

/-- The factor `1/8` is a division by the root of the number of columns in a head. -/
theorem eighth_eq (s : EReal) : s * Ideal.ofBits FTy.f32 0x3E000000#32 = Ideal.div s (Ideal.ofBits FTy.f32 0x41000000#32) := by
  have h1 : Ideal.ofBits FTy.f32 0x3E000000#32 = ((1 / 8 : ℝ) : EReal) := by
    simp [Ideal.ofBits, Ideal.ieee, -EReal.coe_mul]
    norm_num
  have h2 : Ideal.ofBits FTy.f32 0x41000000#32 = ((8 : ℝ) : EReal) := by
    simp [Ideal.ofBits, Ideal.ieee, -EReal.coe_mul]
    norm_num
  rw [h1, h2, Ideal.div_coe (by norm_num)]

end Cert.InMath
end
-- ==== Proof.InArray.lean ====
/- The blocks the input projection works on, read off the arguments. -/
module
public import proofs.«01_k».proof.Proof.InPool
public import proofs.«01_k».proof.Proof.InMath
public import Idealize.ShloMosaic.Lib.StableHlo.Run
@[expose] public section
set_option maxRecDepth 16384
set_option maxHeartbeats 1000000
noncomputable section
namespace Cert.Kernel3Ideal.Hand
open Cert.Kernel3Ideal.Gen
open Idealize.ShloMosaic Idealize.ShloMosaic.TcCoe Idealize.ShloMosaic.Tactic
open Idealize.SL.Sem

variable (m : (ℓ : Loc nD τ sig) → Buf (Elt Ideal) ℓ)

theorem idxs : ∀ t : Fin grid0.N, win0_0.index t = ![t.val / 16, t.val % 16, 0] ∧ win0_1.index t = ![t.val / 16, 0, 0]
    ∧ win0_2.index t = ![0, 0] ∧ win0_3.index t = ![0, 0] ∧ win0_4.index t = ![0, 0, 0]
    ∧ win0_5.index t = ![0, 0] ∧ win0_6.index t = ![0, 0] ∧ win0_7.index t = ![0, 0] ∧ win0_8.index t = ![0, 0]
    ∧ win0_9.index t = ![0, 0] ∧ win0_10.index t = ![t.val / 16, t.val % 16, 0] ∧ win0_11.index t = ![t.val / 16, t.val % 16, 0]
    ∧ win0_12.index t = ![t.val / 16, t.val % 16, 0] ∧ win0_13.index t = ![t.val / 16, t.val % 16, 0] := by decide +kernel

/-- A grid point's second coordinate is its tile's number in the sequence. -/
theorem coord1 : ∀ t : Fin grid0.N, ((grid0.coords t) 1).val = t.val % 16 := by decide +kernel

theorem iblk0_apply (c : Dev nD) (t : Fin cfg0.N) (r : Fin 512) (l : Fin 1024) :
    iblk m c 0 t (ix3 0 r l) = m ((c : Thread nD τ).loc main_arg0) (ix3 ⟨t.val / 16, by have : t.val < 32 := t.isLt; omega⟩ ⟨512 * (t.val % 16) + r.val, by omega⟩ l) := by
  refine Eq.trans (b := V m c main_arg0 (ix3 ⟨t.val / 16, by have : t.val < 32 := t.isLt; omega⟩ ⟨512 * (t.val % 16) + r.val, by omega⟩ l)) ?_ (congrFun (V_main_arg0 m c) _)
  blk_ext [iblk, idxs t]

theorem iblk1_apply (c : Dev nD) (t : Fin cfg0.N) (k : Fin 6) (l : Fin 1024) :
    iblk m c 1 t (ix3 0 k l) = m ((c : Thread nD τ).loc main_arg1) (ix3 ⟨t.val / 16, by have : t.val < 32 := t.isLt; omega⟩ k l) := by
  refine Eq.trans (b := V m c main_arg1 (ix3 ⟨t.val / 16, by have : t.val < 32 := t.isLt; omega⟩ k l)) ?_ (congrFun (V_main_arg1 m c) _)
  blk_ext [iblk, idxs t]

theorem iblk2_apply (c : Dev nD) (t : Fin cfg0.N) (l : Fin 1024) : iblk m c 2 t (ix2 0 l) = V m c main_v0 (ix2 0 l) := by
  blk_ext [iblk, idxs t]

theorem iblk3_apply (c : Dev nD) (t : Fin cfg0.N) (k : Fin 1024) (l : Fin 2048) : iblk m c 3 t (ix2 k l) = m ((c : Thread nD τ).loc main_arg3) (ix2 k l) := by
  refine Eq.trans (b := V m c main_arg3 (ix2 k l)) ?_ (congrFun (V_main_arg3 m c) _)
  blk_ext [iblk, idxs t]

theorem iblk4_apply (c : Dev nD) (t : Fin cfg0.N) (k : Fin 4) (i j : Fin 128) : iblk m c 4 t (ix3 k i j) = m ((c : Thread nD τ).loc main_arg4) (ix3 k i j) := by
  refine Eq.trans (b := V m c main_arg4 (ix3 k i j)) ?_ (congrFun (V_main_arg4 m c) _)
  blk_ext [iblk, idxs t]

theorem iblk5_apply (c : Dev nD) (t : Fin cfg0.N) (l : Fin 512) : iblk m c 5 t (ix2 0 l) = V m c main_v1 (ix2 0 l) := by
  blk_ext [iblk, idxs t]

theorem iblk6_apply (c : Dev nD) (t : Fin cfg0.N) (l : Fin 512) : iblk m c 6 t (ix2 0 l) = V m c main_v2 (ix2 0 l) := by
  blk_ext [iblk, idxs t]

theorem iblk7_apply (c : Dev nD) (t : Fin cfg0.N) (l : Fin 512) : iblk m c 7 t (ix2 0 l) = V m c main_v6 (ix2 0 l) := by
  blk_ext [iblk, idxs t]

theorem iblk8_apply (c : Dev nD) (t : Fin cfg0.N) (l : Fin 512) : iblk m c 8 t (ix2 0 l) = V m c main_v10 (ix2 0 l) := by
  blk_ext [iblk, idxs t]

theorem iblk9_apply (c : Dev nD) (t : Fin cfg0.N) (k l : Fin 512) : iblk m c 9 t (ix2 k l) = V m c main_v19 (ix2 k l) := by
  blk_ext [iblk, idxs t]

theorem v0_apply (c : Dev nD) (l : Fin 1024) : V m c main_v0 (ix2 0 l) = m ((c : Thread nD τ).loc main_arg2) (ix1 l) := by
  simp only [V, hostOps0, hostOps0_1, hostOps0_2, List.flatten_cons, List.flatten_nil, List.append_nil, List.cons_append, List.nil_append]
  after_results_simp
  pointwise

theorem v1_apply (c : Dev nD) (k : Fin 4) (d : Fin 128) : V m c main_v1 (ix2 0 ⟨128 * k.val + d.val, by omega⟩) = m ((c : Thread nD τ).loc main_arg5) (ix2 k d) := by
  simp only [V, hostOps0, hostOps0_1, hostOps0_2, List.flatten_cons, List.flatten_nil, List.append_nil, List.cons_append, List.nil_append]
  after_results_simp
  pointwise

theorem v2_apply (c : Dev nD) (l : Fin 512) : V m c main_v2 (ix2 0 l) = m ((c : Thread nD τ).loc main_arg6) (ix1 l) := by
  simp only [V, hostOps0, hostOps0_1, hostOps0_2, List.flatten_cons, List.flatten_nil, List.append_nil, List.cons_append, List.nil_append]
  after_results_simp
  pointwise

theorem v6_apply (c : Dev nD) (h : Fin 8) (d : Fin 64) : V m c main_v6 (ix2 0 ⟨h.val * 64 + d.val, by omega⟩) = m ((c : Thread nD τ).loc main_arg7) (ix1 d) := by
  simp only [V, hostOps0, hostOps0_1, hostOps0_2, List.flatten_cons, List.flatten_nil, List.append_nil, List.cons_append, List.nil_append]
  after_results_simp
  pointwise

theorem v10_apply (c : Dev nD) (h : Fin 8) (d : Fin 64) : V m c main_v10 (ix2 0 ⟨h.val * 64 + d.val, by omega⟩) = m ((c : Thread nD τ).loc main_arg8) (ix1 d) := by
  simp only [V, hostOps0, hostOps0_1, hostOps0_2, List.flatten_cons, List.flatten_nil, List.append_nil, List.cons_append, List.nil_append]
  after_results_simp
  pointwise

/-- The matrix that sums over a head's columns. -/
def headMat : FVec Ideal S512x512 .f32 :=
  shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3F800000#32))))) shapeCasts_S8x64x8x64_S512x512

theorem v19_eq (c : Dev nD) (y : S512x512.Idx) : V m c main_v19 y = headMat y := by
  simp only [V, hostOps0, hostOps0_1, hostOps0_2, List.flatten_cons, List.flatten_nil, List.append_nil, List.cons_append, List.nil_append]
  after_results_simp
  rfl

theorem same_head : ∀ k h : Fin 8, IntOp.cmpi CmpIPredicate.eq (IntOp.addi (BitVec.ofNat 32 k.val) 0#32) (BitVec.ofNat 32 h.val) = if k = h then 1#1 else 0#1 := by
  decide +kernel

theorem v19_apply (c : Dev nD) (k : Fin 8) (x : Fin 64) (h : Fin 8) (d : Fin 64) :
    V m c main_v19 (ix2 ⟨k.val * 64 + x.val, by omega⟩ ⟨h.val * 64 + d.val, by omega⟩) = (if k = h then 1 else 0 : EReal) := by
  rw [v19_eq]
  have e1 : (⟨(k.val * 64 + x.val) / 64, by omega⟩ : Fin 8) = k := Fin.ext (by dsimp only; omega)
  have e2 : (⟨(h.val * 64 + d.val) / 64, by omega⟩ : Fin 8) = h := Fin.ext (by dsimp only; omega)
  pointwise [headMat, same_head]
  by_cases hk : k = h
  · rw [if_pos hk, if_pos hk]
    show (((1#1 : BitVec 1).toNat : ℝ) : EReal) = 1
    simp
  · rw [if_neg hk, if_neg hk]
    show (((0#1 : BitVec 1).toNat : ℝ) : EReal) = 0
    simp

end Cert.Kernel3Ideal.Hand
end
-- ==== Proof.InPoint.lean ====
/- What a tile of the input projection writes, as the plain functions of the arguments. -/
module
public import proofs.«01_k».proof.Proof.InArray
@[expose] public section
set_option maxRecDepth 16384
set_option maxHeartbeats 1000000
noncomputable section
namespace Cert.Kernel3Ideal.Hand
open Cert.Kernel3Ideal.Gen
open Idealize.ShloMosaic Idealize.ShloMosaic.TcCoe Idealize.ShloMosaic.Tactic
open Idealize.SL.Sem

section Tile
variable (P : Fin 2 → ℕ → Fin 2048 → EReal) (b : Fin 2) (n : ℕ) (H : Vec Ideal S16x512 .f32) (u : FVec Ideal S512x512 .f32)

/-- The carried rows are the sixteen before row `n`, zero before the first. -/
def Carries : Prop := ∀ (q : Fin 16) (l : Fin 512), H (ix2 q l) = if n + q.val < 16 then 0 else P b (n + q.val - 16) ⟨l.val, by omega⟩

variable (hu : ∀ r f : Fin 512, u (ix2 r f) = P b (n + r.val) ⟨f.val, by omega⟩) (hH : Carries P b n H)
include hu hH

/-- Looking back within the tile and the carried rows is looking back in the sequence. -/
theorem rowAt_eq (i : ℕ) (hi : i < 16) (r l : Fin 512) : rowAt (extV H u) (16 + r.val - i) l = InMath.back P i b (n + r.val) ⟨l.val, by omega⟩ := by
  have hr := r.isLt
  unfold rowAt InMath.back
  rw [dif_pos (by omega), extV_apply]
  by_cases h : r.val < i
  · rw [dif_pos (by dsimp only; omega), hH]
    dsimp only
    have e : n + (16 + r.val - i) - 16 = n + r.val - i := by omega
    rw [e]
    by_cases hn : n + r.val < i
    · rw [if_pos (by omega), if_pos hn]
    · rw [if_neg (by omega), if_neg hn]
  · rw [dif_neg (by dsimp only; omega), hu, if_neg (by omega)]
    dsimp only
    have e : n + (16 + r.val - i - 16) = n + r.val - i := by omega
    rw [e]

omit hu hH in
theorem count_eq (j r : ℕ) : IntOp.addi (Scalar.addi (Scalar.muli (BitVec.ofNat 32 j) 512#32) 1#32) (BitVec.ofNat 32 r) = BitVec.ofNat 32 (512 * j + r + 1) := by
  show BitVec.ofNat 32 j * BitVec.ofNat 32 512 + BitVec.ofNat 32 1 + BitVec.ofNat 32 r = _
  rw [← BitVec.ofNat_mul, ← BitVec.ofNat_add, ← BitVec.ofNat_add]
  congr 1
  omega

theorem mixAt_eq (j : ℕ) (hj : n = 512 * j) (w : ℕ) (hw : w ≤ 16) (r l : Fin 512) :
    mixAt (BitVec.ofNat 32 j) (extV H u) u w r l = InMath.mix P w b (n + r.val) ⟨l.val, by omega⟩ := by
  unfold mixAt InMath.mix InMath.count
  rw [count_eq, hu, hj]
  congr 2
  refine Finset.sum_congr rfl fun i hi => ?_
  rw [← hj]
  exact rowAt_eq P b n H u hu hH i (lt_of_lt_of_le (Finset.mem_range.mp hi) hw) r l

end Tile

/-- The parts of a fivefold pair known by an equation. -/
theorem part0 {α β γ δ ε : Type} {p : α × β × γ × δ × ε} {a : α} {b : β} {c : γ} {d : δ} {e : ε} (h : p = (a, b, c, d, e)) : p.1 = a := by rw [h]
theorem part1 {α β γ δ ε : Type} {p : α × β × γ × δ × ε} {a : α} {b : β} {c : γ} {d : δ} {e : ε} (h : p = (a, b, c, d, e)) : p.2.1 = b := by rw [h]
theorem part2 {α β γ δ ε : Type} {p : α × β × γ × δ × ε} {a : α} {b : β} {c : γ} {d : δ} {e : ε} (h : p = (a, b, c, d, e)) : p.2.2.1 = c := by rw [h]
theorem part3 {α β γ δ ε : Type} {p : α × β × γ × δ × ε} {a : α} {b : β} {c : γ} {d : δ} {e : ε} (h : p = (a, b, c, d, e)) : p.2.2.2.1 = d := by rw [h]
theorem part4 {α β γ δ ε : Type} {p : α × β × γ × δ × ε} {a : α} {b : β} {c : γ} {d : δ} {e : ε} (h : p = (a, b, c, d, e)) : p.2.2.2.2 = e := by rw [h]

variable (m : (ℓ : Loc nD τ sig) → Buf (Elt Ideal) ℓ)

abbrev aX (c : Dev nD) : Fin 2 → Fin 8192 → Fin 1024 → EReal := fun b s e => m ((c : Thread nD τ).loc main_arg0) (ix3 b s e)
abbrev aMd (c : Dev nD) : Fin 2 → Fin 6 → Fin 1024 → EReal := fun b s e => m ((c : Thread nD τ).loc main_arg1) (ix3 b s e)
abbrev aG (c : Dev nD) : Fin 1024 → EReal := fun e => m ((c : Thread nD τ).loc main_arg2) (ix1 e)
abbrev aW (c : Dev nD) : Fin 1024 → Fin 2048 → EReal := fun k e => m ((c : Thread nD τ).loc main_arg3) (ix2 k e)
abbrev aPw (c : Dev nD) : Fin 4 → Fin 128 → Fin 128 → EReal := fun k i j => m ((c : Thread nD τ).loc main_arg4) (ix3 k i j)
abbrev aPb (c : Dev nD) : Fin 4 → Fin 128 → EReal := fun k d => m ((c : Thread nD τ).loc main_arg5) (ix2 k d)
abbrev aPs (c : Dev nD) : Fin 512 → EReal := fun e => m ((c : Thread nD τ).loc main_arg6) (ix1 e)
abbrev aQg (c : Dev nD) : Fin 64 → EReal := fun e => m ((c : Thread nD τ).loc main_arg7) (ix1 e)
abbrev aKg (c : Dev nD) : Fin 64 → EReal := fun e => m ((c : Thread nD τ).loc main_arg8) (ix1 e)

/-- The projection of the arguments. -/
abbrev aP (c : Dev nD) := InMath.proj (aX m c) (aMd m c) (aG m c) (aW m c)

/-- A tile's batch. -/
abbrev tileB (t : Fin cfg0.N) : Fin 2 := ⟨t.val / 16, by have : t.val < 32 := t.isLt; omega⟩
/-- A row of a tile, in the sequence. -/
abbrev tileS (t : Fin cfg0.N) (r : Fin 512) : Fin 8192 := ⟨512 * (t.val % 16) + r.val, by omega⟩

/-- A tile's normalised rows and their first 512 projected columns. -/
abbrev tHb (c : Dev nD) (t : Fin cfg0.N) := hbV (iblk m c 0 t) (iblk m c 1 t) (iblk m c 2 t)
abbrev tU (c : Dev nD) (t : Fin cfg0.N) := uV (iblk m c 0 t) (iblk m c 1 t) (iblk m c 2 t) (iblk m c 3 t)

theorem tHb_apply (c : Dev nD) (t : Fin cfg0.N) (r : Fin 512) (d : Fin 1024) :
    tHb m c t (ix2 r d) = InMath.normed (aX m c) (aMd m c) (aG m c) (tileB t) (tileS t r) d := by
  refine (hbV_apply _ _ _ r d).trans ?_
  simp only [iblk0_apply, iblk1_apply, (iblk2_apply m c t _).trans (v0_apply m c _)]
  rfl

theorem tP_apply (c : Dev nD) (t : Fin cfg0.N) (r : Fin 512) (f : Fin 2048) :
    projAt (tHb m c t) (iblk m c 3 t) r f = aP m c (tileB t) (512 * (t.val % 16) + r.val) f := by
  unfold projAt
  simp only [tHb_apply, iblk3_apply]
  unfold aP InMath.proj
  rw [dif_pos (by omega)]

theorem tU_apply (c : Dev nD) (t : Fin cfg0.N) (r f : Fin 512) :
    tU m c t (ix2 r f) = aP m c (tileB t) (512 * (t.val % 16) + r.val) ⟨f.val, by omega⟩ :=
  (uV_apply _ _ _ _ r f).trans (tP_apply m c t r _)

/-- What a tile writes of the queries. -/
theorem q_at (c : Dev nD) (t : Fin cfg0.N) (y) : (outsAt0 m c t.val t.isLt).2.1 y = qV (iblk m c 3 t) (iblk m c 7 t) (iblk m c 9 t) (tHb m c t) y := by
  by_cases h0 : t.val % 16 = 0
  · exact (congrFun (part1 (outsAt0_A m c t h0)) y).trans (qA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) y)
  · exact (congrFun (part1 (outsAt0_B m c t h0)) y).trans (qB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2.2.2.2 (fun h => h0 ((hcond0_0 t).mp h)) y)

/-- What a tile writes of the keys. -/
theorem k_at (c : Dev nD) (t : Fin cfg0.N) (y) : (outsAt0 m c t.val t.isLt).2.2.1 y = kV (iblk m c 3 t) (iblk m c 8 t) (iblk m c 9 t) (tHb m c t) y := by
  by_cases h0 : t.val % 16 = 0
  · exact (congrFun (part2 (outsAt0_A m c t h0)) y).trans (kA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) y)
  · exact (congrFun (part2 (outsAt0_B m c t h0)) y).trans (kB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2.2.2.2 (fun h => h0 ((hcond0_0 t).mp h)) y)

/-- What a tile writes of the values. -/
theorem v_at (c : Dev nD) (t : Fin cfg0.N) (y) : (outsAt0 m c t.val t.isLt).2.2.2.1 y = vV (iblk m c 3 t) (tHb m c t) y := by
  by_cases h0 : t.val % 16 = 0
  · exact (congrFun (part3 (outsAt0_A m c t h0)) y).trans (vA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) y)
  · exact (congrFun (part3 (outsAt0_B m c t h0)) y).trans (vB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2.2.2.2 (fun h => h0 ((hcond0_0 t).mp h)) y)

/-- What a tile carries on: its last sixteen rows. -/
theorem last_at (c : Dev nD) (t : Fin cfg0.N) (y) : (outsAt0 m c t.val t.isLt).2.2.2.2 y = lastV (tU m c t) y := by
  by_cases h0 : t.val % 16 = 0
  · exact (congrFun (part4 (outsAt0_A m c t h0)) y).trans (lastA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) y)
  · exact (congrFun (part4 (outsAt0_B m c t h0)) y).trans (lastB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2.2.2.2 (fun h => h0 ((hcond0_0 t).mp h)) y)

theorem carries_first (c : Dev nD) (t : Fin cfg0.N) (h0 : t.val % 16 = 0) : Carries (aP m c) (tileB t) (512 * (t.val % 16)) (k0_pay5 (F := Ideal)) := by
  intro q l
  rw [if_pos (by omega)]
  pointwise [k0_pay5]

theorem carries_later (c : Dev nD) (t : Fin cfg0.N) (h0 : ¬ t.val % 16 = 0) (ht : t.val - 1 < cfg0.N) :
    Carries (aP m c) (tileB t) (512 * (t.val % 16)) (outsAt0 m c (t.val - 1) ht).2.2.2.2 := by
  intro q l
  rw [if_neg (by omega)]
  refine (last_at m c ⟨t.val - 1, ht⟩ _).trans ((lastV_apply _ q l).trans ((tU_apply m c _ _ _).trans ?_))
  have hb : tileB ⟨t.val - 1, ht⟩ = tileB t := Fin.ext (by show (t.val - 1) / 16 = t.val / 16; omega)
  have hs : 512 * ((t.val - 1) % 16) + (496 + q.val) = 512 * (t.val % 16) + q.val - 16 := by omega
  rw [hb]
  exact congrArg (fun n => aP m c (tileB t) n _) hs

/-- A tile's pooled columns, from any rows carried to it. -/
theorem pool_eq (c : Dev nD) (t : Fin cfg0.N) (H : Vec Ideal S16x512 .f32) (hH : Carries (aP m c) (tileB t) (512 * (t.val % 16)) H)
    (r : Fin 512) (k : Fin 4) (d : Fin 128) :
    ypV (iblk m c 4 t) (iblk m c 5 t) (iblk m c 6 t) (BitVec.ofNat 32 ((grid0.coords t) 1).val) H (tU m c t) (ix3 0 r ⟨128 * k.val + d.val, by omega⟩) =
      InMath.pooled (aP m c) (aPw m c) (aPb m c) (aPs m c) (tileB t) (512 * (t.val % 16) + r.val) k d := by
  have hw : ∀ k : Fin 4, 2 ^ (k.val + 1) ≤ 16 := by decide
  rw [congrArg (BitVec.ofNat 32) (coord1 t)]
  refine (ypV_apply _ _ _ _ H _ r k d).trans ?_
  unfold InMath.pooled
  simp only [mixAt_eq (aP m c) (tileB t) (512 * (t.val % 16)) H (tU m c t) (tU_apply m c t) hH (t.val % 16) rfl _ (hw k), iblk4_apply,
    (iblk5_apply m c t _).trans (v1_apply m c k d), (iblk6_apply m c t _).trans (v2_apply m c _)]

theorem yp_eq (c : Dev nD) (t : Fin cfg0.N) (r : Fin 512) (k : Fin 4) (d : Fin 128) :
    (outsAt0 m c t.val t.isLt).1 (ix3 0 r ⟨128 * k.val + d.val, by omega⟩) =
      InMath.pooled (aP m c) (aPw m c) (aPb m c) (aPs m c) (tileB t) (512 * (t.val % 16) + r.val) k d := by
  by_cases h0 : t.val % 16 = 0
  · exact (congrFun (part0 (outsAt0_A m c t h0)) _).trans ((ypA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) _).trans (pool_eq m c t _ (carries_first m c t h0) r k d))
  · exact (congrFun (part0 (outsAt0_B m c t h0)) _).trans ((ypB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0
      (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)).2.2.2.2 (fun h => h0 ((hcond0_0 t).mp h)) _).trans (pool_eq m c t _ (carries_later m c t h0 _) r k d))

/-- A head's mean of squares, as the kernel sums it over all columns. -/
theorem squares_eq (c : Dev nD) (t : Fin cfg0.N) (r : Fin 512) (o : ℕ) (ho : o ≤ 1536) (h : Fin 8) (d : Fin 64) :
    ∑ k : Fin 512, projAt (tHb m c t) (iblk m c 3 t) r ⟨o + k.val, by omega⟩ * projAt (tHb m c t) (iblk m c 3 t) r ⟨o + k.val, by omega⟩
        * iblk m c 9 t (ix2 k ⟨h.val * 64 + d.val, by omega⟩) =
      ∑ x : Fin 64, aP m c (tileB t) (512 * (t.val % 16) + r.val) ⟨o + (h.val * 64 + x.val), by omega⟩
        * aP m c (tileB t) (512 * (t.val % 16) + r.val) ⟨o + (h.val * 64 + x.val), by omega⟩ := by
  simp only [tP_apply]
  exact InMath.sum_head (fun k => aP m c (tileB t) (512 * (t.val % 16) + r.val) ⟨o + k.val, by omega⟩ * aP m c (tileB t) (512 * (t.val % 16) + r.val) ⟨o + k.val, by omega⟩)
    (fun k => iblk m c 9 t (ix2 k ⟨h.val * 64 + d.val, by omega⟩)) h (fun k x => (iblk9_apply m c t _ _).trans (v19_apply m c k x h d))

theorem q_eq (c : Dev nD) (t : Fin cfg0.N) (r : Fin 512) (h : Fin 8) (d : Fin 64) :
    (outsAt0 m c t.val t.isLt).2.1 (ix3 0 r ⟨h.val * 64 + d.val, by omega⟩) =
      Ideal.div (InMath.head (aP m c) 512 (aQg m c) (tileB t) (512 * (t.val % 16) + r.val) h d) (Ideal.ofBits .f32 0x41000000#32) := by
  refine (q_at m c t _).trans ((qV_apply _ _ _ _ r _).trans ?_)
  rw [squares_eq m c t r 512 (by omega) h d, InMath.mean_eq, tP_apply, (iblk7_apply m c t _).trans (v6_apply m c h d), ← mul_assoc, InMath.eighth_eq]
  rfl

theorem k_eq (c : Dev nD) (t : Fin cfg0.N) (r : Fin 512) (h : Fin 8) (d : Fin 64) :
    (outsAt0 m c t.val t.isLt).2.2.1 (ix3 0 r ⟨h.val * 64 + d.val, by omega⟩) =
      InMath.head (aP m c) 1024 (aKg m c) (tileB t) (512 * (t.val % 16) + r.val) h d := by
  refine (k_at m c t _).trans ((kV_apply _ _ _ _ r _).trans ?_)
  rw [squares_eq m c t r 1024 (by omega) h d, InMath.mean_eq, tP_apply, (iblk8_apply m c t _).trans (v10_apply m c h d)]
  rfl

theorem v_eq (c : Dev nD) (t : Fin cfg0.N) (r f : Fin 512) :
    (outsAt0 m c t.val t.isLt).2.2.2.1 (ix3 0 r f) = aP m c (tileB t) (512 * (t.val % 16) + r.val) ⟨1536 + f.val, by omega⟩ :=
  (v_at m c t _).trans ((vV_apply _ _ r f).trans (tP_apply m c t r _))

end Cert.Kernel3Ideal.Hand
end
-- ==== Proof.InRows.lean ====
/- The reference of the input projection at a place: its rows, its projection and the projection padded in front. -/
module
public import proofs.«01_k».proof.Proof.Gen.Reference3Ideal.Read
public import proofs.«01_k».proof.Proof.InMath
public import Idealize.ShloMosaic.Lib.Pointwise
@[expose] public section
set_option maxRecDepth 16384
set_option maxHeartbeats 2000000
noncomputable section
namespace Cert.Reference3Ideal.Hand
open Cert.Reference3Ideal Cert.Reference3Ideal.Gen Cert.Reference3Ideal.Read Idealize.ShloMosaic Idealize.ShloMosaic.Tactic

variable (x0 : Vec Ideal S2x8192x1024 .f32) (x1 : Vec Ideal S2x6x1024 .f32) (x2 : Vec Ideal S1024 .f32) (x3 : Vec Ideal S1024x2048 .bf16)
  (x4 : Vec Ideal S4x128x128 .bf16) (x5 : Vec Ideal S4x128 .f32) (x6 : Vec Ideal S512 .f32) (x7 x8 : Vec Ideal S64 .f32)

abbrev rNorm := InMath.normed (fun b s e => x0 (ix3 b s e)) (fun b s e => x1 (ix3 b s e)) (fun e => x2 (ix1 e))
abbrev rProj := InMath.proj (fun b s e => x0 (ix3 b s e)) (fun b s e => x1 (ix3 b s e)) (fun e => x2 (ix1 e)) (fun k e => x3 (ix2 k e))

theorem v24_apply (b : Fin 2) (s : Fin 8192) (d : Fin 1024) : val_main_v24 (F := Ideal) x0 x1 x2 (ix3 b s d) = rNorm x0 x1 x2 b s d := by
  unfold rNorm InMath.normed
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24]
  rw [mul_assoc _ (x2 (ix1 d))]

theorem v26_apply (b : Fin 2) (s : Fin 8192) (f : Fin 2048) : val_main_v26 (F := Ideal) x0 x1 x2 x3 (ix3 b s f) = rProj x0 x1 x2 x3 b s.val f := by
  unfold rProj InMath.proj
  rw [dif_pos s.isLt]
  simp only [Fin.eta, ← v24_apply]
  pointwise [val_main_v25, val_main_v26]

theorem zero_cast : FloatOps.sitofp (F := Ideal) FTy.f32 (0#32) = 0 := by
  show ((((0#32 : BitVec 32).toInt : ℤ) : ℝ) : EReal) = 0
  simp

/-- The padded rows. -/
theorem v32_apply (b : Fin 2) (n : Fin 8207) (k : Fin 4) (c : Fin 128) : val_main_v32 (F := Ideal) x0 x1 x2 x3 (ix4 b n k c) =
    InMath.back (rProj x0 x1 x2 x3) 15 b n.val ⟨k.val * 128 + c.val, by omega⟩ := by
  unfold InMath.back
  pointwise [val_main_v27, val_main_v31, val_main_c, val_main_call0_v0, val_main_v32, zero_cast, v26_apply]
  have hn := n.isLt
  by_cases h : n.val < 15
  · rw [if_pos h, dif_neg (by omega)]
  · rw [if_neg h, dif_pos (by omega)]

/-- Rows of the padded projection are rows further back. -/
theorem back_pad (P : Fin 2 → ℕ → Fin 2048 → EReal) (k j : ℕ) (hk : j + k = 15) (b : Fin 2) (n : ℕ) (f : Fin 2048) :
    InMath.back P 15 b (j + n) f = InMath.back P k b n f := by
  unfold InMath.back
  have e : j + n - 15 = n - k := by omega
  rw [e]
  by_cases h : n < k
  · rw [if_pos h, if_pos (by omega)]
  · rw [if_neg h, if_neg (by omega)]

theorem count_eq (n : ℕ) : IntOp.addi (1#32) (BitVec.ofNat 32 n) = BitVec.ofNat 32 (n + 1) := by
  rw [Nat.add_comm]
  exact (BitVec.ofNat_add 1 n).symm

end Cert.Reference3Ideal.Hand
end
-- ==== Proof.InHeads.lean ====
/- The reference of the input projection at a place: its heads. -/
module
public import proofs.«01_k».proof.Proof.Gen.Reference3Ideal.Read
public import proofs.«01_k».proof.Proof.InRows
public import Idealize.ShloMosaic.Lib.Pointwise
@[expose] public section
set_option maxRecDepth 16384
set_option maxHeartbeats 2000000
noncomputable section
namespace Cert.Reference3Ideal.Hand
open Cert.Reference3Ideal Cert.Reference3Ideal.Gen Cert.Reference3Ideal.Read Idealize.ShloMosaic Idealize.ShloMosaic.Tactic

variable (x0 : Vec Ideal S2x8192x1024 .f32) (x1 : Vec Ideal S2x6x1024 .f32) (x2 : Vec Ideal S1024 .f32) (x3 : Vec Ideal S1024x2048 .bf16)
  (x4 : Vec Ideal S4x128x128 .bf16) (x5 : Vec Ideal S4x128 .f32) (x6 : Vec Ideal S512 .f32) (x7 x8 : Vec Ideal S64 .f32)

theorem q_apply (b : Fin 2) (s : Fin 8192) (h : Fin 8) (d : Fin 64) : val_main_v214 (F := Ideal) x0 x1 x2 x3 x7 (ix3 b s ⟨h.val * 64 + d.val, by omega⟩) =
    Ideal.div (InMath.head (rProj x0 x1 x2 x3) 512 (fun e => x7 (ix1 e)) b s.val h d) (Ideal.ofBits .f32 0x41000000#32) := by
  unfold InMath.head
  pointwise [val_main_v28, val_main_cst_12, val_main_cst_13, val_main_cst_14, val_main_cst_15, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v214, v26_apply]

theorem k_apply (b : Fin 2) (s : Fin 8192) (h : Fin 8) (d : Fin 64) : val_main_v215 (F := Ideal) x0 x1 x2 x3 x8 (ix3 b s ⟨h.val * 64 + d.val, by omega⟩) =
    InMath.head (rProj x0 x1 x2 x3) 1024 (fun e => x8 (ix1 e)) b s.val h d := by
  unfold InMath.head
  pointwise [val_main_v29, val_main_cst_16, val_main_cst_17, val_main_cst_18, val_main_v198, val_main_v199, val_main_v200, val_main_v201, val_main_v202, val_main_v203, val_main_v204, val_main_v205, val_main_v206, val_main_v207, val_main_v208, val_main_v209, val_main_v210, val_main_v211, val_main_v212, val_main_v215, v26_apply]

theorem v_apply (b : Fin 2) (s : Fin 8192) (f : Fin 512) : val_main_v216 (F := Ideal) x0 x1 x2 x3 (ix3 b s f) =
    rProj x0 x1 x2 x3 b s.val ⟨1536 + f.val, by omega⟩ := by
  pointwise [val_main_v30, val_main_v216, v26_apply]

end Cert.Reference3Ideal.Hand
end
-- ==== Proof.InMean0.lean ====
/- The reference of the input projection at a place: group 0's mixed columns. -/
module
public import proofs.«01_k».proof.Proof.Gen.Reference3Ideal.Read
public import proofs.«01_k».proof.Proof.InRows
public import Idealize.ShloMosaic.Lib.Pointwise
@[expose] public section
set_option maxRecDepth 16384
set_option maxHeartbeats 2000000
noncomputable section
namespace Cert.Reference3Ideal.Hand
open Cert.Reference3Ideal Cert.Reference3Ideal.Gen Cert.Reference3Ideal.Read Idealize.ShloMosaic Idealize.ShloMosaic.Tactic

variable (x0 : Vec Ideal S2x8192x1024 .f32) (x1 : Vec Ideal S2x6x1024 .f32) (x2 : Vec Ideal S1024 .f32) (x3 : Vec Ideal S1024x2048 .bf16)
  (x4 : Vec Ideal S4x128x128 .bf16) (x5 : Vec Ideal S4x128 .f32) (x6 : Vec Ideal S512 .f32) (x7 x8 : Vec Ideal S64 .f32)

theorem mix0 (b : Fin 2) (s : Fin 8192) (c : Fin 128) : val_main_v51 (F := Ideal) x0 x1 x2 x3 (ix3 b s c) =
    InMath.mix (rProj x0 x1 x2 x3) 2 b s.val ⟨0 + c.val, by omega⟩ := by
  unfold InMath.mix InMath.count
  pointwise [val_main_v27, val_main_v31, val_main_v33, val_main_c_3, val_main_v34, val_main_v35, val_main_cst_4, val_main_c_5, val_main_v36, val_main_v37, val_main_v38, val_main_v39, val_main_v40, val_main_v41, val_main_v42, val_main_v43, val_main_v44, val_main_v45, val_main_v46, val_main_v47, val_main_v48, val_main_v49, val_main_v50, val_main_v51, v26_apply, v32_apply]
  simp only [Finset.sum_range_succ, Finset.sum_range_zero, zero_add, back_pad _ 0 15 rfl, back_pad _ 1 14 rfl, count_eq]

end Cert.Reference3Ideal.Hand
end
-- ==== Proof.InMean1.lean ====
/- The reference of the input projection at a place: group 1's mixed columns. -/
module
public import proofs.«01_k».proof.Proof.Gen.Reference3Ideal.Read
public import proofs.«01_k».proof.Proof.InRows
public import Idealize.ShloMosaic.Lib.Pointwise
@[expose] public section
set_option maxRecDepth 16384
set_option maxHeartbeats 2000000
noncomputable section
namespace Cert.Reference3Ideal.Hand
open Cert.Reference3Ideal Cert.Reference3Ideal.Gen Cert.Reference3Ideal.Read Idealize.ShloMosaic Idealize.ShloMosaic.Tactic

variable (x0 : Vec Ideal S2x8192x1024 .f32) (x1 : Vec Ideal S2x6x1024 .f32) (x2 : Vec Ideal S1024 .f32) (x3 : Vec Ideal S1024x2048 .bf16)
  (x4 : Vec Ideal S4x128x128 .bf16) (x5 : Vec Ideal S4x128 .f32) (x6 : Vec Ideal S512 .f32) (x7 x8 : Vec Ideal S64 .f32)

theorem mix1 (b : Fin 2) (s : Fin 8192) (c : Fin 128) : val_main_v73 (F := Ideal) x0 x1 x2 x3 (ix3 b s c) =
    InMath.mix (rProj x0 x1 x2 x3) 4 b s.val ⟨128 + c.val, by omega⟩ := by
  unfold InMath.mix InMath.count
  pointwise [val_main_v27, val_main_v31, val_main_v33, val_main_c_3, val_main_v34, val_main_v35, val_main_cst_6, val_main_c_7, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, v26_apply, v32_apply]
  simp only [Finset.sum_range_succ, Finset.sum_range_zero, zero_add, back_pad _ 0 15 rfl, back_pad _ 1 14 rfl, back_pad _ 2 13 rfl, back_pad _ 3 12 rfl, count_eq]

end Cert.Reference3Ideal.Hand
end
-- ==== Proof.InMean2.lean ====
/- The reference of the input projection at a place: group 2's mixed columns. -/
module
public import proofs.«01_k».proof.Proof.Gen.Reference3Ideal.Read
public import proofs.«01_k».proof.Proof.InRows
public import Idealize.ShloMosaic.Lib.Pointwise
@[expose] public section
set_option maxRecDepth 16384
set_option maxHeartbeats 2000000
noncomputable section
namespace Cert.Reference3Ideal.Hand
open Cert.Reference3Ideal Cert.Reference3Ideal.Gen Cert.Reference3Ideal.Read Idealize.ShloMosaic Idealize.ShloMosaic.Tactic

variable (x0 : Vec Ideal S2x8192x1024 .f32) (x1 : Vec Ideal S2x6x1024 .f32) (x2 : Vec Ideal S1024 .f32) (x3 : Vec Ideal S1024x2048 .bf16)
  (x4 : Vec Ideal S4x128x128 .bf16) (x5 : Vec Ideal S4x128 .f32) (x6 : Vec Ideal S512 .f32) (x7 x8 : Vec Ideal S64 .f32)

theorem mix2 (b : Fin 2) (s : Fin 8192) (c : Fin 128) : val_main_v107 (F := Ideal) x0 x1 x2 x3 (ix3 b s c) =
    InMath.mix (rProj x0 x1 x2 x3) 8 b s.val ⟨256 + c.val, by omega⟩ := by
  unfold InMath.mix InMath.count
  pointwise [val_main_v27, val_main_v31, val_main_v33, val_main_c_3, val_main_v34, val_main_v35, val_main_cst_8, val_main_c_9, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, v26_apply, v32_apply]
  simp only [Finset.sum_range_succ, Finset.sum_range_zero, zero_add, back_pad _ 0 15 rfl, back_pad _ 1 14 rfl, back_pad _ 2 13 rfl, back_pad _ 3 12 rfl, back_pad _ 4 11 rfl, back_pad _ 5 10 rfl, back_pad _ 6 9 rfl, back_pad _ 7 8 rfl, count_eq]

end Cert.Reference3Ideal.Hand
end
-- ==== Proof.InMean3.lean ====
/- The reference of the input projection at a place: group 3's mixed columns. -/
module
public import proofs.«01_k».proof.Proof.Gen.Reference3Ideal.Read
public import proofs.«01_k».proof.Proof.InRows
public import Idealize.ShloMosaic.Lib.Pointwise
@[expose] public section
set_option maxRecDepth 16384
set_option maxHeartbeats 2000000
noncomputable section
namespace Cert.Reference3Ideal.Hand
open Cert.Reference3Ideal Cert.Reference3Ideal.Gen Cert.Reference3Ideal.Read Idealize.ShloMosaic Idealize.ShloMosaic.Tactic

variable (x0 : Vec Ideal S2x8192x1024 .f32) (x1 : Vec Ideal S2x6x1024 .f32) (x2 : Vec Ideal S1024 .f32) (x3 : Vec Ideal S1024x2048 .bf16)
  (x4 : Vec Ideal S4x128x128 .bf16) (x5 : Vec Ideal S4x128 .f32) (x6 : Vec Ideal S512 .f32) (x7 x8 : Vec Ideal S64 .f32)

theorem mix3 (b : Fin 2) (s : Fin 8192) (c : Fin 128) : val_main_v165 (F := Ideal) x0 x1 x2 x3 (ix3 b s c) =
    InMath.mix (rProj x0 x1 x2 x3) 16 b s.val ⟨384 + c.val, by omega⟩ := by
  unfold InMath.mix InMath.count
  pointwise [val_main_v27, val_main_v31, val_main_v33, val_main_c_3, val_main_v34, val_main_v35, val_main_cst_10, val_main_c_11, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, v26_apply, v32_apply]
  simp only [Finset.sum_range_succ, Finset.sum_range_zero, zero_add, back_pad _ 0 15 rfl, back_pad _ 1 14 rfl, back_pad _ 2 13 rfl, back_pad _ 3 12 rfl, back_pad _ 4 11 rfl, back_pad _ 5 10 rfl, back_pad _ 6 9 rfl, back_pad _ 7 8 rfl, back_pad _ 8 7 rfl, back_pad _ 9 6 rfl, back_pad _ 10 5 rfl, back_pad _ 11 4 rfl, back_pad _ 12 3 rfl, back_pad _ 13 2 rfl, back_pad _ 14 1 rfl, count_eq]

end Cert.Reference3Ideal.Hand
end
-- ==== Proof.InRef.lean ====
/- The reference of the input projection at a place. -/
module
public import proofs.«01_k».proof.Proof.Gen.Reference3Ideal.Read
public import proofs.«01_k».proof.Proof.InHeads
public import proofs.«01_k».proof.Proof.InMean0
public import proofs.«01_k».proof.Proof.InMean1
public import proofs.«01_k».proof.Proof.InMean2
public import proofs.«01_k».proof.Proof.InMean3
public import Idealize.ShloMosaic.Lib.Pointwise
@[expose] public section
set_option maxRecDepth 16384
set_option maxHeartbeats 2000000
noncomputable section
namespace Cert.Reference3Ideal.Hand
open Cert.Reference3Ideal Cert.Reference3Ideal.Gen Cert.Reference3Ideal.Read Idealize.ShloMosaic Idealize.ShloMosaic.Tactic

variable (x0 : Vec Ideal S2x8192x1024 .f32) (x1 : Vec Ideal S2x6x1024 .f32) (x2 : Vec Ideal S1024 .f32) (x3 : Vec Ideal S1024x2048 .bf16)
  (x4 : Vec Ideal S4x128x128 .bf16) (x5 : Vec Ideal S4x128 .f32) (x6 : Vec Ideal S512 .f32) (x7 x8 : Vec Ideal S64 .f32)

theorem v170_apply (b : Fin 2) (s : Fin 8192) (k : Fin 4) (c : Fin 128) : val_main_v170 (F := Ideal) x0 x1 x2 x3 (ix4 b s k c) =
    InMath.mix (rProj x0 x1 x2 x3) (2 ^ (k.val + 1)) b s.val ⟨128 * k.val + c.val, by omega⟩ := by
  fin_cases k <;> pointwise [val_main_v166, val_main_v167, val_main_v168, val_main_v169, val_main_v170, mix0, mix1, mix2, mix3] <;> rfl

theorem yp_apply (b : Fin 2) (s : Fin 8192) (k : Fin 4) (d : Fin 128) : val_main_v213 (F := Ideal) x0 x1 x2 x3 x4 x5 x6 (ix3 b s ⟨128 * k.val + d.val, by omega⟩) =
    InMath.pooled (rProj x0 x1 x2 x3) (fun k c d => x4 (ix3 k c d)) (fun k d => x5 (ix2 k d)) (fun e => x6 (ix1 e)) b s.val k d := by
  unfold InMath.pooled
  pointwise [val_main_v171, val_main_v172, val_main_v173, val_main_v174, val_main_v175, val_main_v176, val_main_v177, val_main_v178, val_main_v179, val_main_v180, val_main_v213, v170_apply]
  simp only [mul_comm (x4 _)]

end Cert.Reference3Ideal.Hand
end
-- ==== Proof.InFinal.lean ====
/- The input projection's run ends with the reference's four results. -/
module
public import proofs.«01_k».proof.Proof.Gen.Kernel3Ideal.Value
public import proofs.«01_k».proof.Proof.InPoint
public import proofs.«01_k».proof.Proof.InRef
@[expose] public section
set_option maxRecDepth 16384
set_option maxHeartbeats 400000
noncomputable section
namespace Cert.Kernel3Ideal.Hand
open Cert.Kernel3Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-! The reference's results at the kernel's arguments. -/

abbrev refYp (c : Dev nD) : Vec Ideal S2x8192x512 .bf16 :=
  Cert.Reference3Ideal.Read.val_main_v213 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

abbrev refQ (c : Dev nD) : Vec Ideal S2x8192x512 .bf16 :=
  Cert.Reference3Ideal.Read.val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))

abbrev refK (c : Dev nD) : Vec Ideal S2x8192x512 .bf16 :=
  Cert.Reference3Ideal.Read.val_main_v215 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))

abbrev refV (c : Dev nD) : Vec Ideal S2x8192x512 .bf16 :=
  Cert.Reference3Ideal.Read.val_main_v216 (F := Ideal) (m ((c.tc : Thread nD τ).loc main_arg0)) (m ((c.tc : Thread nD τ).loc main_arg1)) (m ((c.tc : Thread nD τ).loc main_arg2)) (m ((c.tc : Thread nD τ).loc main_arg3))

/-! A tile's results are the reference's rows there. -/

theorem atYp (c : Dev nD) (t : Fin cfg0.N) (y0 : Fin 1) (r e : Fin 512) : (outsAt0 m c t.val t.isLt).1 (ix3 y0 r e) = refYp m c (ix3 (tileB t) (tileS t r) e) := by
  obtain rfl : y0 = 0 := Subsingleton.elim _ _
  obtain ⟨k, d, rfl⟩ : ∃ (k : Fin 4) (d : Fin 128), e = ⟨128 * k.val + d.val, by omega⟩ :=
    ⟨⟨e.val / 128, by omega⟩, ⟨e.val % 128, by omega⟩, Fin.ext (by dsimp only; omega)⟩
  refine Eq.trans ?_ (Cert.Reference3Ideal.Hand.yp_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (tileB t) (tileS t r) k d).symm
  exact yp_eq m c t r k d

theorem head_col (e : Fin 512) : ∃ (h : Fin 8) (d : Fin 64), e = ⟨h.val * 64 + d.val, by omega⟩ :=
  ⟨⟨e.val / 64, by omega⟩, ⟨e.val % 64, by omega⟩, Fin.ext (by dsimp only; omega)⟩

theorem atQ (c : Dev nD) (t : Fin cfg0.N) (y0 : Fin 1) (r e : Fin 512) : (outsAt0 m c t.val t.isLt).2.1 (ix3 y0 r e) = refQ m c (ix3 (tileB t) (tileS t r) e) := by
  obtain rfl : y0 = 0 := Subsingleton.elim _ _
  obtain ⟨h, d, rfl⟩ := head_col e
  refine Eq.trans ?_ (Cert.Reference3Ideal.Hand.q_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))
    (tileB t) (tileS t r) h d).symm
  exact q_eq m c t r h d

theorem atK (c : Dev nD) (t : Fin cfg0.N) (y0 : Fin 1) (r e : Fin 512) : (outsAt0 m c t.val t.isLt).2.2.1 (ix3 y0 r e) = refK m c (ix3 (tileB t) (tileS t r) e) := by
  obtain rfl : y0 = 0 := Subsingleton.elim _ _
  obtain ⟨h, d, rfl⟩ := head_col e
  refine Eq.trans ?_ (Cert.Reference3Ideal.Hand.k_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))
    (tileB t) (tileS t r) h d).symm
  exact k_eq m c t r h d

theorem atV (c : Dev nD) (t : Fin cfg0.N) (y0 : Fin 1) (r e : Fin 512) : (outsAt0 m c t.val t.isLt).2.2.2.1 (ix3 y0 r e) = refV m c (ix3 (tileB t) (tileS t r) e) := by
  obtain rfl : y0 = 0 := Subsingleton.elim _ _
  refine Eq.trans ?_ (Cert.Reference3Ideal.Hand.v_apply (m ((c.tc : Thread nD τ).loc main_arg0)) (m ((c.tc : Thread nD τ).loc main_arg1)) (m ((c.tc : Thread nD τ).loc main_arg2)) (m ((c.tc : Thread nD τ).loc main_arg3))
    (tileB t) (tileS t r) e).symm
  exact v_eq m c t r e

/-! Where a tile's rows lie in each result, and the result whole. -/

theorem embYp (t : Fin cfg0.N) (y0 : Fin 1) (r l : Fin 512) : ((cfg0.win 10).blk t).view.emb (ix3 y0 r l) = ix3 (tileB t) (tileS t r) l := by
  refine funext fun a => Fin.ext ?_
  fin_cases a
  · show (((cfg0.win 10).blk t).view.emb (ix3 y0 r l) 0 : ℕ) = t.val / 16
    blk_simp [idxs t]
  · show (((cfg0.win 10).blk t).view.emb (ix3 y0 r l) 1 : ℕ) = 512 * (t.val % 16) + r.val
    blk_simp [idxs t]
    omega
  · show (((cfg0.win 10).blk t).view.emb (ix3 y0 r l) 2 : ℕ) = l.val
    blk_simp [idxs t]

theorem arrayYp (c : Dev nD) : (dats m 0 c).arrAt 10 cfg0.N = refYp m c := by
  refine (dats m 0 c).arrAt_eq_of_covers 10 _ (by decide +kernel) fun t hf y => ?_
  blk_simp
  rw [after0_10]
  idx_vars y
  exact (atYp m c t _ _ _).trans (congrArg (refYp m c) (embYp t _ _ _).symm)

theorem embQ (t : Fin cfg0.N) (y0 : Fin 1) (r l : Fin 512) : ((cfg0.win 11).blk t).view.emb (ix3 y0 r l) = ix3 (tileB t) (tileS t r) l := by
  refine funext fun a => Fin.ext ?_
  fin_cases a
  · show (((cfg0.win 11).blk t).view.emb (ix3 y0 r l) 0 : ℕ) = t.val / 16
    blk_simp [idxs t]
  · show (((cfg0.win 11).blk t).view.emb (ix3 y0 r l) 1 : ℕ) = 512 * (t.val % 16) + r.val
    blk_simp [idxs t]
    omega
  · show (((cfg0.win 11).blk t).view.emb (ix3 y0 r l) 2 : ℕ) = l.val
    blk_simp [idxs t]

theorem arrayQ (c : Dev nD) : (dats m 0 c).arrAt 11 cfg0.N = refQ m c := by
  refine (dats m 0 c).arrAt_eq_of_covers 11 _ (by decide +kernel) fun t hf y => ?_
  blk_simp
  rw [after0_11]
  idx_vars y
  exact (atQ m c t _ _ _).trans (congrArg (refQ m c) (embQ t _ _ _).symm)

theorem embK (t : Fin cfg0.N) (y0 : Fin 1) (r l : Fin 512) : ((cfg0.win 12).blk t).view.emb (ix3 y0 r l) = ix3 (tileB t) (tileS t r) l := by
  refine funext fun a => Fin.ext ?_
  fin_cases a
  · show (((cfg0.win 12).blk t).view.emb (ix3 y0 r l) 0 : ℕ) = t.val / 16
    blk_simp [idxs t]
  · show (((cfg0.win 12).blk t).view.emb (ix3 y0 r l) 1 : ℕ) = 512 * (t.val % 16) + r.val
    blk_simp [idxs t]
    omega
  · show (((cfg0.win 12).blk t).view.emb (ix3 y0 r l) 2 : ℕ) = l.val
    blk_simp [idxs t]

theorem arrayK (c : Dev nD) : (dats m 0 c).arrAt 12 cfg0.N = refK m c := by
  refine (dats m 0 c).arrAt_eq_of_covers 12 _ (by decide +kernel) fun t hf y => ?_
  blk_simp
  rw [after0_12]
  idx_vars y
  exact (atK m c t _ _ _).trans (congrArg (refK m c) (embK t _ _ _).symm)

theorem embV (t : Fin cfg0.N) (y0 : Fin 1) (r l : Fin 512) : ((cfg0.win 13).blk t).view.emb (ix3 y0 r l) = ix3 (tileB t) (tileS t r) l := by
  refine funext fun a => Fin.ext ?_
  fin_cases a
  · show (((cfg0.win 13).blk t).view.emb (ix3 y0 r l) 0 : ℕ) = t.val / 16
    blk_simp [idxs t]
  · show (((cfg0.win 13).blk t).view.emb (ix3 y0 r l) 1 : ℕ) = 512 * (t.val % 16) + r.val
    blk_simp [idxs t]
    omega
  · show (((cfg0.win 13).blk t).view.emb (ix3 y0 r l) 2 : ℕ) = l.val
    blk_simp [idxs t]

theorem arrayV (c : Dev nD) : (dats m 0 c).arrAt 13 cfg0.N = refV m c := by
  refine (dats m 0 c).arrAt_eq_of_covers 13 _ (by decide +kernel) fun t hf y => ?_
  blk_simp
  rw [after0_13]
  idx_vars y
  exact (atV m c t _ _ _).trans (congrArg (refV m c) (embV t _ _ _).symm)

theorem run_out : θ_run defs (onTc (τ := τ) (main (F := Ideal))) ⟨m, fun _ => 0, ρ⟩ (fun r => ∀ c : Dev nD,
      r.2.mem ((c.tc : Thread nD τ).loc main_v20_0) = refYp m c ∧ r.2.mem ((c.tc : Thread nD τ).loc main_v20_1) = refQ m c
      ∧ r.2.mem ((c.tc : Thread nD τ).loc main_v20_2) = refK m c ∧ r.2.mem ((c.tc : Thread nD τ).loc main_v20_3) = refV m c) :=
  (θ_run defs _ _).mono (fun _ h c => ⟨((h c).1 10).trans (arrayYp m c), ((h c).1 11).trans (arrayQ m c),
    ((h c).1 12).trans (arrayK m c), ((h c).1 13).trans (arrayV m c)⟩) (run_main m ρ)

end Cert.Kernel3Ideal.Hand
end
-- ==== Proof.InClaims.lean ====
/- The claims about the input projection. -/
module
public import proofs.«01_k».proof.Defs
public import proofs.«01_k».proof.Proof.Gen.Kernel3.Frame
public import proofs.«01_k».proof.Proof.Gen.Reference3Ideal.Run
public import proofs.«01_k».proof.Proof.InFinal
@[expose] public section
set_option maxHeartbeats 400000
noncomputable section
namespace Cert.InClaims
open Idealize.ShloMosaic Idealize.ShloMosaic.TcCoe Idealize.SL.Sem

theorem frame_p : Cert.quiescent_Kernel3 := fun m g _ => Cert.Kernel3.Gen.frame m g

theorem frame_pi : Cert.quiescent_Kernel3Ideal := fun m g _ => Cert.Kernel3Ideal.Gen.frame m g

theorem frame_ri : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run (F := Ideal) m g)

theorem preserves : Cert.preserves_Kernel3_Kernel3Ideal := trivial

theorem algebraic : Cert.algebraic_Kernel3Ideal_Reference3Ideal := by
  intro m g m' g' _ hagree
  refine ⟨fun c => Cert.Kernel3Ideal.Hand.refYp m c, fun c => Cert.Kernel3Ideal.Hand.refQ m c, fun c => Cert.Kernel3Ideal.Hand.refK m c,
    fun c => Cert.Kernel3Ideal.Hand.refV m c, ?_, ?_⟩
  · exact (θ_run Cert.Kernel3Ideal.defs _ _).mono (fun _ h c => ⟨(h.1 c).1, (h.1 c).2.1, (h.1 c).2.2.1, (h.1 c).2.2.2, h.2 c⟩)
      (θ_run_and (Cert.Kernel3Ideal.Hand.run_out m g) (Cert.Kernel3Ideal.Gen.unchanged m g))
  · refine (θ_run Cert.Reference3Ideal.defs _ _).mono (fun _ h c => ?_) (Cert.Reference3Ideal.Value.run (F := Ideal) m' g')
    obtain ⟨e0, e1, e2, e3, e⟩ := h c
    refine ⟨e0.trans ?_, e1.trans ?_, e2.trans ?_, e3.trans ?_, e⟩ <;> clear e0 e1 e2 e3 e h
    · obtain ⟨h0, h1, h2, h3, h4, h5, h6, _, _⟩ := hagree c
      refine (Cert.Reference3Ideal.Read.val_main_v213_eq (StableHlo.launchContents m' c)).trans ?_
      simp only [StableHlo.launchContents_devRef, h0, h1, h2, h3, h4, h5, h6]
    · obtain ⟨h0, h1, h2, h3, _, _, _, h7, _⟩ := hagree c
      refine (Cert.Reference3Ideal.Read.val_main_v214_eq (StableHlo.launchContents m' c)).trans ?_
      simp only [StableHlo.launchContents_devRef, h0, h1, h2, h3, h7]
    · obtain ⟨h0, h1, h2, h3, _, _, _, _, h8⟩ := hagree c
      refine (Cert.Reference3Ideal.Read.val_main_v215_eq (StableHlo.launchContents m' c)).trans ?_
      simp only [StableHlo.launchContents_devRef, h0, h1, h2, h3, h8]
    · obtain ⟨h0, h1, h2, h3, _, _, _, _, _⟩ := hagree c
      refine (Cert.Reference3Ideal.Read.val_main_v216_eq (StableHlo.launchContents m' c)).trans ?_
      simp only [StableHlo.launchContents_devRef, h0, h1, h2, h3]

end Cert.InClaims
end
-- ==== Proof.AdaFinal.lean ====
/- The modulation kernel's blocks, and the array they fill, which is the reference's. -/
module
public import proofs.«01_k».proof.Proof.Gen.Kernel4Ideal.Value
public import proofs.«01_k».proof.Proof.Gen.Reference4Ideal.Read
public import proofs.«01_k».proof.Proof.FfnRef
public import Idealize.ShloMosaic.Lib.Pointwise
public import Idealize.ShloMosaic.Lib.Pipeline.ValueKit
public import Idealize.ShloMosaic.Lib.Pipeline.ReadBack
public import Idealize.ShloMosaic.Lib.StableHlo.Run
@[expose] public section
set_option maxRecDepth 16384
set_option maxHeartbeats 1000000
noncomputable section
namespace Cert.Kernel4Ideal.Hand
open Cert.Kernel4Ideal.Gen
open Idealize.ShloMosaic Idealize.ShloMosaic.TcCoe Idealize.ShloMosaic.Tactic
open Idealize.SL.Sem

/-- The kernel's gated input times its weights, summed over the features, with the bias. -/
theorem pay_apply (x0 : Vec Ideal S1024x2 .f32) (x1 : Vec Ideal S1024x1536 .f32) (x2 : Vec Ideal S1x1536 .f32) (b : Fin 2) (l : Fin 1536) :
    k0_pay1 x0 x1 x2 (ix2 b l) = (∑ d : Fin 1024, Ideal.div (x0 (ix2 d b)) (1 + Ideal.exp (-(x0 (ix2 d b)))) * x1 (ix2 d l)) + x2 (ix2 0 l) := by
  fin_cases b <;> (pointwise [k0_pay1]; simp only [zero_sub])

theorem idxs : ∀ t : Fin grid0.N, win0_0.index t = ![0, 0] ∧ win0_1.index t = ![0, t.val] ∧ win0_2.index t = ![0, t.val]
    ∧ win0_3.index t = ![0, t.val] := by decide +kernel

variable (m : (ℓ : Loc nD τ sig) → Buf (Elt Ideal) ℓ) (ρ : Dev nD → PrngReg)

/-- The column of the whole array that a block's column is. -/
abbrev col (t : Fin cfg0.N) (l : Fin 1536) : Fin 6144 := ⟨1536 * t.val + l.val, by have : t.val < 4 := t.isLt; omega⟩

theorem v0_apply (c : Dev nD) (d : Fin 1024) (b : Fin 2) : V m c main_v0 (ix2 d b) = m ((c : Thread nD τ).loc main_arg0) (ix2 b d) := by
  unfold_abbrev_sides
  after_results
  pointwise

theorem v1_apply (c : Dev nD) (e : Fin 6144) : V m c main_v1 (ix2 0 e) = m ((c : Thread nD τ).loc main_arg2) (ix1 e) := by
  unfold_abbrev_sides
  after_results
  pointwise

theorem iblk0_apply (c : Dev nD) (t : Fin cfg0.N) (d : Fin 1024) (b : Fin 2) :
    iblk m c 0 t (ix2 d b) = m ((c : Thread nD τ).loc main_arg0) (ix2 b d) := by
  refine Eq.trans (b := V m c main_v0 (ix2 d b)) ?_ (v0_apply m c d b)
  blk_ext [iblk, idxs t]

theorem iblk1_apply (c : Dev nD) (t : Fin cfg0.N) (d : Fin 1024) (l : Fin 1536) :
    iblk m c 1 t (ix2 d l) = m ((c : Thread nD τ).loc main_arg1) (ix2 d (col t l)) := by
  refine Eq.trans (b := V m c main_arg1 (ix2 d (col t l))) ?_ (congrFun (V_main_arg1 m c) _)
  blk_ext [iblk, idxs t]

theorem iblk2_apply (c : Dev nD) (t : Fin cfg0.N) (l : Fin 1536) :
    iblk m c 2 t (ix2 0 l) = m ((c : Thread nD τ).loc main_arg2) (ix1 (col t l)) := by
  refine Eq.trans (b := V m c main_v1 (ix2 0 (col t l))) ?_ (v1_apply m c (col t l))
  blk_ext [iblk, idxs t]

/-- The reference's result at the kernel's arguments. -/
abbrev refOut (c : Dev nD) : Vec Ideal S2x6144 .f32 :=
  Cert.Reference4Ideal.Read.val_main_v4 (F := Ideal) (m ((c.tc : Thread nD τ).loc main_arg0)) (m ((c.tc : Thread nD τ).loc main_arg1))
    (m ((c.tc : Thread nD τ).loc main_arg2))

/-- The reference at a place. -/
theorem ref_apply (a0 : Vec Ideal S2x1024 .f32) (a1 : Vec Ideal S1024x6144 .f32) (a2 : Vec Ideal S6144 .f32) (b : Fin 2) (e : Fin 6144) :
    Cert.Reference4Ideal.Read.val_main_v4 (F := Ideal) a0 a1 a2 (ix2 b e)
      = (∑ d : Fin 1024, a0 (ix2 b d) * Ideal.div 1 (1 + Ideal.exp (-(a0 (ix2 b d)))) * a1 (ix2 d e)) + a2 (ix1 e) := by
  rw [← Cert.Reference4Ideal.Read.val_main_v4_eq]
  pointwise

/-- A block's result is the reference's columns there. -/
theorem out_ref (c : Dev nD) (t : Fin cfg0.N) (b : Fin 2) (l : Fin 1536) :
    out0_3 (iblk m c 0 t) (iblk m c 1 t) (iblk m c 2 t) (ix2 b l) = refOut m c (ix2 b (col t l)) := by
  refine Eq.trans (b := k0_pay1 (iblk m c 0 t) (iblk m c 1 t) (iblk m c 2 t) (ix2 b l)) ?_ ?_
  · unfold out0_3
    frame_out [pay_apply]
  · refine Eq.trans ?_ (ref_apply _ _ _ b (col t l)).symm
    rw [pay_apply, iblk2_apply]
    congr 1
    refine Finset.sum_congr rfl fun d _ => ?_
    rw [iblk0_apply, iblk1_apply, Cert.Reference2Ideal.Hand.div_gate]

theorem block_emb (t : Fin cfg0.N) (b : Fin 2) (l : Fin 1536) : ((cfg0.win 3).blk t).view.emb (ix2 b l) = ix2 b (col t l) := by
  refine funext fun a => Fin.ext ?_
  fin_cases a
  · show (((cfg0.win 3).blk t).view.emb (ix2 b l) 0 : ℕ) = b.val
    blk_simp [idxs t]
  · show (((cfg0.win 3).blk t).view.emb (ix2 b l) 1 : ℕ) = 1536 * t.val + l.val
    blk_simp [idxs t]
    omega

theorem array_eq (c : Dev nD) : (dats m 0 c).arrAt 3 cfg0.N = refOut m c := by
  refine (dats m 0 c).arrAt_eq_of_covers 3 _ (by decide +kernel) fun t hf y => ?_
  blk_simp
  rw [after0_3]
  idx_vars y
  exact (out_ref m c t _ _).trans (congrArg (refOut m c) (block_emb t _ _).symm)

theorem run_out : θ_run defs (onTc (τ := τ) (main (F := Ideal))) ⟨m, fun _ => 0, ρ⟩ (fun r => ∀ c : Dev nD,
      r.2.mem ((c.tc : Thread nD τ).loc main_v2) = refOut m c) :=
  (θ_run defs _ _).mono (fun _ h c => ((h c).1 3).trans (array_eq m c)) (run_main m ρ)

end Cert.Kernel4Ideal.Hand
end
-- ==== Proof.AdaClaims.lean ====
/- The claims about the modulation kernel. -/
module
public import proofs.«01_k».proof.Defs
public import proofs.«01_k».proof.Proof.Gen.Kernel4.Frame
public import proofs.«01_k».proof.Proof.Gen.Reference4Ideal.Run
public import proofs.«01_k».proof.Proof.AdaFinal
@[expose] public section
noncomputable section
namespace Cert.AdaClaims
open Idealize.ShloMosaic Idealize.ShloMosaic.TcCoe Idealize.SL.Sem

theorem frame_p : Cert.quiescent_Kernel4 := fun m g _ => Cert.Kernel4.Gen.frame m g

theorem frame_pi : Cert.quiescent_Kernel4Ideal := fun m g _ => Cert.Kernel4Ideal.Gen.frame m g

theorem frame_ri : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem preserves : Cert.preserves_Kernel4_Kernel4Ideal := trivial

theorem algebraic : Cert.algebraic_Kernel4Ideal_Reference4Ideal := by
  intro m g m' g' _ hagree
  refine ⟨fun c => Cert.Kernel4Ideal.Hand.refOut m c, ?_, ?_⟩
  · exact (θ_run Cert.Kernel4Ideal.defs _ _).mono (fun _ h c => ⟨h.1 c, h.2 c⟩)
      (θ_run_and (Cert.Kernel4Ideal.Hand.run_out m g) (Cert.Kernel4Ideal.Gen.unchanged m g))
  · refine (θ_run Cert.Reference4Ideal.defs _ _).mono (fun _ h c => ⟨(h c).1.trans ?_, (h c).2⟩)
      (Cert.Reference4Ideal.Value.run (F := Ideal) m' g')
    obtain ⟨h0, h1, h2⟩ := hagree c
    rw [Cert.Reference4Ideal.Read.val_main_v4_eq, h0, h1, h2]

end Cert.AdaClaims
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.AttnClaims
public import proofs.«01_k».proof.Proof.FfnClaims
public import proofs.«01_k».proof.Proof.InClaims
public import proofs.«01_k».proof.Proof.AdaClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, AttnClaims.pre_facts,
    AttnClaims.frame_p, AttnClaims.frame_pi, AttnClaims.frame_pi_pre, AttnClaims.frame_ri, AttnClaims.frame_ri_pre,
    FfnClaims.frame_p, FfnClaims.frame_pi, FfnClaims.frame_ri,
    InClaims.frame_p, InClaims.frame_pi, InClaims.frame_ri,
    AdaClaims.frame_p, AdaClaims.frame_pi, AdaClaims.frame_ri,
    AttnClaims.preserves, AttnClaims.algebraic, FfnClaims.preserves, FfnClaims.algebraic,
    InClaims.preserves, InClaims.algebraic, AdaClaims.preserves, AdaClaims.algebraic⟩

end Cert.Proof

end
